-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩
abbrev S3x1024x1024 : Shape := ⟨3, ![3, 1024, 1024]⟩
abbrev S4x1024x1024 : Shape := ⟨3, ![4, 1024, 1024]⟩
abbrev S4x8x128 : Shape := ⟨3, ![4, 8, 128]⟩
abbrev S_ : Shape := ⟨0, ![]⟩
abbrev S3x4 : Shape := ⟨2, ![3, 4]⟩
abbrev S3 : Shape := ⟨1, ![3]⟩
abbrev S256x1024 : Shape := ⟨2, ![256, 1024]⟩
abbrev S1x1 : Shape := ⟨2, ![1, 1]⟩
abbrev S1x256x1024 : Shape := ⟨3, ![1, 256, 1024]⟩
abbrev S1 : Shape := ⟨1, ![1]⟩
abbrev S1x1x1 : Shape := ⟨3, ![1, 1, 1]⟩
abbrev S1x8x128 : Shape := ⟨3, ![1, 8, 128]⟩
abbrev S1x4x8x128 : Shape := ⟨4, ![1, 4, 8, 128]⟩
abbrev S1x1x1x1 : Shape := ⟨4, ![1, 1, 1, 1]⟩
abbrev S1x1024x1024 : Shape := ⟨3, ![1, 1024, 1024]⟩

abbrev nBuf : Space → Nat
  | .hbm => 3
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .local _ .vmem, ⟨0, _⟩ => ⟨S1024x2048, .f32⟩
  | .local _ .vmem, ⟨1, _⟩ => ⟨S1024x1024, .f32⟩
  | .local _ .vmem, ⟨2, _⟩ => ⟨S1024x1024, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S3x1024x1024, .bf16⟩
  | .local _ .vmem, ⟨7, _⟩ => ⟨S3x1024x1024, .bf16⟩
  | .local _ .vmem, ⟨8, _⟩ => ⟨S4x1024x1024, .i8⟩
  | .local _ .vmem, ⟨9, _⟩ => ⟨S4x1024x1024, .i8⟩
  | .local _ .vmem, ⟨10, _⟩ => ⟨S1024x1024, .f32⟩
  | .local _ .vmem, ⟨11, _⟩ => ⟨S1024x1024, .f32⟩
  | .local _ .vmem, ⟨12, _⟩ => ⟨S4x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 2 → Bool
  | ⟨0, _⟩ => false
  | ⟨1, _⟩ => true
  | _ => false

abbrev dmaSemScoped : Fin 106 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | _ => false

abbrev sig : RefSig :=
  (ofTc nBuf bufTy 2 106 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_15 : BitVec 32 := 1#32
  let v27 : BitVec 32 := Scalar.muli v25 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18 : BitVec 32 := 1#32
  let v29 : BitVec 32 := Scalar.muli v13 c1_i32_18
  let v30 : BitVec 32 := Scalar.addi c0_i32_19 v29
  v30.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v37 : BitVec 32 := Scalar.muli v2 c1024_i32
  let c0_i32_23 : BitVec 32 := 0#32
  ![v37.toNat, 0]
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_40 : BitVec 32 := 1#32
  let v52 : BitVec 32 := Scalar.muli v13 c1_i32_40
  let v53 : BitVec 32 := Scalar.addi c0_i32_41 v52
  v53.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_57 : BitVec 32 := 1#32
  let v68 : BitVec 32 := Scalar.muli v25 c1_i32_57
  let v69 : BitVec 32 := Scalar.addi c0_i32_58 v68
  v69.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_74 : BitVec 32 := 1#32
  let v84 : BitVec 32 := Scalar.muli v13 c1_i32_74
  let v85 : BitVec 32 := Scalar.addi c0_i32_75 v84
  v85.toNat
def k0_dev6 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_91 : BitVec 32 := 1#32
  let v100 : BitVec 32 := Scalar.muli v25 c1_i32_91
  let v101 : BitVec 32 := Scalar.addi c0_i32_92 v100
  v101.toNat
def k0_dev7 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_108 : BitVec 32 := 1#32
  let v116 : BitVec 32 := Scalar.muli v13 c1_i32_108
  let v117 : BitVec 32 := Scalar.addi c0_i32_109 v116
  v117.toNat
def k0_dev8 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_125 : BitVec 32 := 1#32
  let v132 : BitVec 32 := Scalar.muli v25 c1_i32_125
  let v133 : BitVec 32 := Scalar.addi c0_i32_126 v132
  v133.toNat
def k0_dev9 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_141 : BitVec 32 := 1#32
  let v148 : BitVec 32 := Scalar.muli v13 c1_i32_141
  let v149 : BitVec 32 := Scalar.addi c0_i32_142 v148
  v149.toNat
def k0_dev10 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_158 : BitVec 32 := 1#32
  let v164 : BitVec 32 := Scalar.muli v25 c1_i32_158
  let v165 : BitVec 32 := Scalar.addi c0_i32_159 v164
  v165.toNat
def k0_off2 (d0 : Dev nD) (c0_i32_164 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v173 : BitVec 32 := Scalar.subi v2 c0_i32_164
  let c1_i32_165 : BitVec 32 := 1#32
  let v174 : BitVec 32 := Scalar.subi v173 c1_i32_165
  let c4_i32_166 : BitVec 32 := 4#32
  let c0_i32_167 : BitVec 32 := 0#32
  let v175 : BitVec 1 := Scalar.cmpi .eq c4_i32_166 c0_i32_167
  let c1_i32_168 : BitVec 32 := 1#32
  let v176 : BitVec 32 := Scalar.select v175 c1_i32_168 c4_i32_166
  let v177 : BitVec 32 := Scalar.remsi v174 v176
  let c0_i32_170 : BitVec 32 := 0#32
  let v179 : BitVec 1 := Scalar.cmpi .slt v177 c0_i32_170
  let c0_i32_171 : BitVec 32 := 0#32
  let v180 : BitVec 1 := Scalar.cmpi .slt v176 c0_i32_171
  let v181 : BitVec 1 := Scalar.xori v179 v180
  let c0_i32_169 : BitVec 32 := 0#32
  let v178 : BitVec 1 := Scalar.cmpi .ne v177 c0_i32_169
  let v182 : BitVec 1 := Scalar.andi v181 v178
  let v183 : BitVec 32 := Scalar.addi v177 v176
  let v184 : BitVec 32 := Scalar.select v182 v183 v177
  let c1024_i32_172 : BitVec 32 := 1024#32
  let v185 : BitVec 32 := Scalar.muli v184 c1024_i32_172
  let c0_i32_173 : BitVec 32 := 0#32
  ![v185.toNat, 0]
def k0_off3 (d0 : Dev nD) (c0_i32_184 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v196 : BitVec 32 := Scalar.addi v2 c0_i32_184
  let c1_i32_185 : BitVec 32 := 1#32
  let v197 : BitVec 32 := Scalar.addi v196 c1_i32_185
  let c4_i32_186 : BitVec 32 := 4#32
  let c0_i32_187 : BitVec 32 := 0#32
  let v198 : BitVec 1 := Scalar.cmpi .eq c4_i32_186 c0_i32_187
  let c1_i32_188 : BitVec 32 := 1#32
  let v199 : BitVec 32 := Scalar.select v198 c1_i32_188 c4_i32_186
  let v200 : BitVec 32 := Scalar.remsi v197 v199
  let c0_i32_190 : BitVec 32 := 0#32
  let v202 : BitVec 1 := Scalar.cmpi .slt v200 c0_i32_190
  let c0_i32_191 : BitVec 32 := 0#32
  let v203 : BitVec 1 := Scalar.cmpi .slt v199 c0_i32_191
  let v204 : BitVec 1 := Scalar.xori v202 v203
  let c0_i32_189 : BitVec 32 := 0#32
  let v201 : BitVec 1 := Scalar.cmpi .ne v200 c0_i32_189
  let v205 : BitVec 1 := Scalar.andi v204 v201
  let v206 : BitVec 32 := Scalar.addi v200 v199
  let v207 : BitVec 32 := Scalar.select v205 v206 v200
  let c1024_i32_192 : BitVec 32 := 1024#32
  let v208 : BitVec 32 := Scalar.muli v207 c1024_i32_192
  let c0_i32_193 : BitVec 32 := 0#32
  ![v208.toNat, 0]
def k0_dev11 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_235 : BitVec 32 := 1#32
  let v240 : BitVec 32 := Scalar.muli v13 c1_i32_235
  let v241 : BitVec 32 := Scalar.addi c0_i32_236 v240
  v241.toNat
def k0_dev12 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_272 : BitVec 32 := 1#32
  let v270 : BitVec 32 := Scalar.muli v25 c1_i32_272
  let v271 : BitVec 32 := Scalar.addi c0_i32_273 v270
  v271.toNat
def k0_dev13 (d0 : Dev nD) : Nat :=
  let c0_i32_310 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_309 : BitVec 32 := 1#32
  let v300 : BitVec 32 := Scalar.muli v13 c1_i32_309
  let v301 : BitVec 32 := Scalar.addi c0_i32_310 v300
  v301.toNat
def k0_dev14 (d0 : Dev nD) : Nat :=
  let c0_i32_347 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_346 : BitVec 32 := 1#32
  let v330 : BitVec 32 := Scalar.muli v25 c1_i32_346
  let v331 : BitVec 32 := Scalar.addi c0_i32_347 v330
  v331.toNat
def k0_dev15 (d0 : Dev nD) : Nat :=
  let c0_i32_384 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_383 : BitVec 32 := 1#32
  let v360 : BitVec 32 := Scalar.muli v13 c1_i32_383
  let v361 : BitVec 32 := Scalar.addi c0_i32_384 v360
  v361.toNat
def k0_dev16 (d0 : Dev nD) : Nat :=
  let c0_i32_421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_420 : BitVec 32 := 1#32
  let v390 : BitVec 32 := Scalar.muli v25 c1_i32_420
  let v391 : BitVec 32 := Scalar.addi c0_i32_421 v390
  v391.toNat
def k0_dev17 (d0 : Dev nD) : Nat :=
  let c0_i32_458 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_457 : BitVec 32 := 1#32
  let v420 : BitVec 32 := Scalar.muli v13 c1_i32_457
  let v421 : BitVec 32 := Scalar.addi c0_i32_458 v420
  v421.toNat
def k0_dev18 (d0 : Dev nD) : Nat :=
  let c0_i32_495 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_494 : BitVec 32 := 1#32
  let v450 : BitVec 32 := Scalar.muli v25 c1_i32_494
  let v451 : BitVec 32 := Scalar.addi c0_i32_495 v450
  v451.toNat
def k0_dev19 (d0 : Dev nD) : Nat :=
  let c0_i32_556 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_555 : BitVec 32 := 1#32
  let v506 : BitVec 32 := Scalar.muli v13 c1_i32_555
  let v507 : BitVec 32 := Scalar.addi c0_i32_556 v506
  v507.toNat
def k0_dev20 (d0 : Dev nD) : Nat :=
  let c0_i32_593 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_592 : BitVec 32 := 1#32
  let v536 : BitVec 32 := Scalar.muli v25 c1_i32_592
  let v537 : BitVec 32 := Scalar.addi c0_i32_593 v536
  v537.toNat
def k0_dev21 (d0 : Dev nD) : Nat :=
  let c0_i32_630 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_629 : BitVec 32 := 1#32
  let v566 : BitVec 32 := Scalar.muli v13 c1_i32_629
  let v567 : BitVec 32 := Scalar.addi c0_i32_630 v566
  v567.toNat
def k0_dev22 (d0 : Dev nD) : Nat :=
  let c0_i32_667 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_666 : BitVec 32 := 1#32
  let v596 : BitVec 32 := Scalar.muli v25 c1_i32_666
  let v597 : BitVec 32 := Scalar.addi c0_i32_667 v596
  v597.toNat
def k0_dev23 (d0 : Dev nD) : Nat :=
  let c0_i32_704 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_703 : BitVec 32 := 1#32
  let v626 : BitVec 32 := Scalar.muli v13 c1_i32_703
  let v627 : BitVec 32 := Scalar.addi c0_i32_704 v626
  v627.toNat
def k0_dev24 (d0 : Dev nD) : Nat :=
  let c0_i32_741 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_740 : BitVec 32 := 1#32
  let v656 : BitVec 32 := Scalar.muli v25 c1_i32_740
  let v657 : BitVec 32 := Scalar.addi c0_i32_741 v656
  v657.toNat
def k0_dev25 (d0 : Dev nD) : Nat :=
  let c0_i32_778 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_777 : BitVec 32 := 1#32
  let v686 : BitVec 32 := Scalar.muli v13 c1_i32_777
  let v687 : BitVec 32 := Scalar.addi c0_i32_778 v686
  v687.toNat
def k0_dev26 (d0 : Dev nD) : Nat :=
  let c0_i32_815 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_814 : BitVec 32 := 1#32
  let v716 : BitVec 32 := Scalar.muli v25 c1_i32_814
  let v717 : BitVec 32 := Scalar.addi c0_i32_815 v716
  v717.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1010 : Index := Scalar.indexCast v2
  let c0_1090 : Index := 0#32
  let c0_1091 : Index := 0#32
  ![v1010.toNat, 0, 0]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1103 : BitVec 32 := 0#32
  let c0_i32_1104 : BitVec 32 := 0#32
  ![v2.toNat, 0, 0]
def k0_dev27 (d0 : Dev nD) : Nat :=
  let c0_i32_1102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1092 : BitVec 32 := 1#32
  let v1014 : BitVec 32 := Scalar.addi v2 c1_i32_1092
  let c4_i32_1093 : BitVec 32 := 4#32
  let c0_i32_1094 : BitVec 32 := 0#32
  let v1015 : BitVec 1 := Scalar.cmpi .eq c4_i32_1093 c0_i32_1094
  let c1_i32_1095 : BitVec 32 := 1#32
  let v1016 : BitVec 32 := Scalar.select v1015 c1_i32_1095 c4_i32_1093
  let v1017 : BitVec 32 := Scalar.remsi v1014 v1016
  let c0_i32_1097 : BitVec 32 := 0#32
  let v1019 : BitVec 1 := Scalar.cmpi .slt v1017 c0_i32_1097
  let c0_i32_1098 : BitVec 32 := 0#32
  let v1020 : BitVec 1 := Scalar.cmpi .slt v1016 c0_i32_1098
  let v1021 : BitVec 1 := Scalar.xori v1019 v1020
  let c0_i32_1096 : BitVec 32 := 0#32
  let v1018 : BitVec 1 := Scalar.cmpi .ne v1017 c0_i32_1096
  let v1022 : BitVec 1 := Scalar.andi v1021 v1018
  let v1023 : BitVec 32 := Scalar.addi v1017 v1016
  let v1024 : BitVec 32 := Scalar.select v1022 v1023 v1017
  let c1_i32_1101 : BitVec 32 := 1#32
  let v1025 : BitVec 32 := Scalar.muli v1024 c1_i32_1101
  let v1026 : BitVec 32 := Scalar.addi c0_i32_1102 v1025
  v1026.toNat
def k0_dev28 (d0 : Dev nD) : Nat :=
  let c0_i32_1117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1107 : BitVec 32 := 2#32
  let v1033 : BitVec 32 := Scalar.addi v2 c2_i32_1107
  let c4_i32_1108 : BitVec 32 := 4#32
  let c0_i32_1109 : BitVec 32 := 0#32
  let v1034 : BitVec 1 := Scalar.cmpi .eq c4_i32_1108 c0_i32_1109
  let c1_i32_1110 : BitVec 32 := 1#32
  let v1035 : BitVec 32 := Scalar.select v1034 c1_i32_1110 c4_i32_1108
  let v1036 : BitVec 32 := Scalar.remsi v1033 v1035
  let c0_i32_1112 : BitVec 32 := 0#32
  let v1038 : BitVec 1 := Scalar.cmpi .slt v1036 c0_i32_1112
  let c0_i32_1113 : BitVec 32 := 0#32
  let v1039 : BitVec 1 := Scalar.cmpi .slt v1035 c0_i32_1113
  let v1040 : BitVec 1 := Scalar.xori v1038 v1039
  let c0_i32_1111 : BitVec 32 := 0#32
  let v1037 : BitVec 1 := Scalar.cmpi .ne v1036 c0_i32_1111
  let v1041 : BitVec 1 := Scalar.andi v1040 v1037
  let v1042 : BitVec 32 := Scalar.addi v1036 v1035
  let v1043 : BitVec 32 := Scalar.select v1041 v1042 v1036
  let c1_i32_1116 : BitVec 32 := 1#32
  let v1044 : BitVec 32 := Scalar.muli v1043 c1_i32_1116
  let v1045 : BitVec 32 := Scalar.addi c0_i32_1117 v1044
  v1045.toNat
def k0_dev29 (d0 : Dev nD) : Nat :=
  let c0_i32_1132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1122 : BitVec 32 := 3#32
  let v1052 : BitVec 32 := Scalar.addi v2 c3_i32_1122
  let c4_i32_1123 : BitVec 32 := 4#32
  let c0_i32_1124 : BitVec 32 := 0#32
  let v1053 : BitVec 1 := Scalar.cmpi .eq c4_i32_1123 c0_i32_1124
  let c1_i32_1125 : BitVec 32 := 1#32
  let v1054 : BitVec 32 := Scalar.select v1053 c1_i32_1125 c4_i32_1123
  let v1055 : BitVec 32 := Scalar.remsi v1052 v1054
  let c0_i32_1127 : BitVec 32 := 0#32
  let v1057 : BitVec 1 := Scalar.cmpi .slt v1055 c0_i32_1127
  let c0_i32_1128 : BitVec 32 := 0#32
  let v1058 : BitVec 1 := Scalar.cmpi .slt v1054 c0_i32_1128
  let v1059 : BitVec 1 := Scalar.xori v1057 v1058
  let c0_i32_1126 : BitVec 32 := 0#32
  let v1056 : BitVec 1 := Scalar.cmpi .ne v1055 c0_i32_1126
  let v1060 : BitVec 1 := Scalar.andi v1059 v1056
  let v1061 : BitVec 32 := Scalar.addi v1055 v1054
  let v1062 : BitVec 32 := Scalar.select v1060 v1061 v1055
  let c1_i32_1131 : BitVec 32 := 1#32
  let v1063 : BitVec 32 := Scalar.muli v1062 c1_i32_1131
  let v1064 : BitVec 32 := Scalar.addi c0_i32_1132 v1063
  v1064.toNat
def k0_off6 (d0 : Dev nD) (c1_i32_1075 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v979 : BitVec 32 := Scalar.addi v2 c1_i32_1075
  let c4_i32_1076 : BitVec 32 := 4#32
  let c0_i32_1077 : BitVec 32 := 0#32
  let v980 : BitVec 1 := Scalar.cmpi .eq c4_i32_1076 c0_i32_1077
  let c1_i32_1078 : BitVec 32 := 1#32
  let v981 : BitVec 32 := Scalar.select v980 c1_i32_1078 c4_i32_1076
  let v982 : BitVec 32 := Scalar.remsi v979 v981
  let c0_i32_1080 : BitVec 32 := 0#32
  let v984 : BitVec 1 := Scalar.cmpi .slt v982 c0_i32_1080
  let c0_i32_1081 : BitVec 32 := 0#32
  let v985 : BitVec 1 := Scalar.cmpi .slt v981 c0_i32_1081
  let v986 : BitVec 1 := Scalar.xori v984 v985
  let c0_i32_1079 : BitVec 32 := 0#32
  let v983 : BitVec 1 := Scalar.cmpi .ne v982 c0_i32_1079
  let v987 : BitVec 1 := Scalar.andi v986 v983
  let v988 : BitVec 32 := Scalar.addi v982 v981
  let v989 : BitVec 32 := Scalar.select v987 v988 v982
  let v1118 : Index := Scalar.indexCast v989
  let c0_1191 : Index := 0#32
  let c0_1192 : Index := 0#32
  ![v1118.toNat, 0, 0]
def k0_off7 (d0 : Dev nD) (c0_i32_1194 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1193 : BitVec 32 := 1#32
  let v1122 : BitVec 32 := Scalar.addi v2 c1_i32_1193
  let v1123 : BitVec 32 := Scalar.subi v1122 c0_i32_1194
  let c4_i32_1195 : BitVec 32 := 4#32
  let c0_i32_1196 : BitVec 32 := 0#32
  let v1124 : BitVec 1 := Scalar.cmpi .eq c4_i32_1195 c0_i32_1196
  let c1_i32_1197 : BitVec 32 := 1#32
  let v1125 : BitVec 32 := Scalar.select v1124 c1_i32_1197 c4_i32_1195
  let v1126 : BitVec 32 := Scalar.remsi v1123 v1125
  let c0_i32_1199 : BitVec 32 := 0#32
  let v1128 : BitVec 1 := Scalar.cmpi .slt v1126 c0_i32_1199
  let c0_i32_1200 : BitVec 32 := 0#32
  let v1129 : BitVec 1 := Scalar.cmpi .slt v1125 c0_i32_1200
  let v1130 : BitVec 1 := Scalar.xori v1128 v1129
  let c0_i32_1198 : BitVec 32 := 0#32
  let v1127 : BitVec 1 := Scalar.cmpi .ne v1126 c0_i32_1198
  let v1131 : BitVec 1 := Scalar.andi v1130 v1127
  let v1132 : BitVec 32 := Scalar.addi v1126 v1125
  let v1133 : BitVec 32 := Scalar.select v1131 v1132 v1126
  let c0_i32_1207 : BitVec 32 := 0#32
  let c0_i32_1208 : BitVec 32 := 0#32
  ![v1133.toNat, 0, 0]
def k0_dev30 (d0 : Dev nD) : Nat :=
  let c0_i32_1206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1205 : BitVec 32 := 1#32
  let v1134 : BitVec 32 := Scalar.muli v13 c1_i32_1205
  let v1135 : BitVec 32 := Scalar.addi c0_i32_1206 v1134
  v1135.toNat
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1082 : BitVec 32 := 4#32
  let v990 : BitVec 32 := Scalar.addi v2 c4_i32_1082
  let c1_i32_1083 : BitVec 32 := 1#32
  let v991 : BitVec 32 := Scalar.subi v990 c1_i32_1083
  let c4_i32_1084 : BitVec 32 := 4#32
  let c0_i32_1085 : BitVec 32 := 0#32
  let v992 : BitVec 1 := Scalar.cmpi .eq c4_i32_1084 c0_i32_1085
  let c1_i32_1086 : BitVec 32 := 1#32
  let v993 : BitVec 32 := Scalar.select v992 c1_i32_1086 c4_i32_1084
  let v994 : BitVec 32 := Scalar.remsi v991 v993
  let c0_i32_1088 : BitVec 32 := 0#32
  let v996 : BitVec 1 := Scalar.cmpi .slt v994 c0_i32_1088
  let c0_i32_1089 : BitVec 32 := 0#32
  let v997 : BitVec 1 := Scalar.cmpi .slt v993 c0_i32_1089
  let v998 : BitVec 1 := Scalar.xori v996 v997
  let c0_i32_1087 : BitVec 32 := 0#32
  let v995 : BitVec 1 := Scalar.cmpi .ne v994 c0_i32_1087
  let v999 : BitVec 1 := Scalar.andi v998 v995
  let v1000 : BitVec 32 := Scalar.addi v994 v993
  let v1001 : BitVec 32 := Scalar.select v999 v1000 v994
  let v1153 : Index := Scalar.indexCast v1001
  let c0_1215 : Index := 0#32
  let c0_1216 : Index := 0#32
  ![v1153.toNat, 0, 0]
def k0_off9 (d0 : Dev nD) (c0_i32_1218 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1217 : BitVec 32 := 1#32
  let v1157 : BitVec 32 := Scalar.subi v2 c1_i32_1217
  let v1158 : BitVec 32 := Scalar.addi v1157 c0_i32_1218
  let c4_i32_1219 : BitVec 32 := 4#32
  let c0_i32_1220 : BitVec 32 := 0#32
  let v1159 : BitVec 1 := Scalar.cmpi .eq c4_i32_1219 c0_i32_1220
  let c1_i32_1221 : BitVec 32 := 1#32
  let v1160 : BitVec 32 := Scalar.select v1159 c1_i32_1221 c4_i32_1219
  let v1161 : BitVec 32 := Scalar.remsi v1158 v1160
  let c0_i32_1223 : BitVec 32 := 0#32
  let v1163 : BitVec 1 := Scalar.cmpi .slt v1161 c0_i32_1223
  let c0_i32_1224 : BitVec 32 := 0#32
  let v1164 : BitVec 1 := Scalar.cmpi .slt v1160 c0_i32_1224
  let v1165 : BitVec 1 := Scalar.xori v1163 v1164
  let c0_i32_1222 : BitVec 32 := 0#32
  let v1162 : BitVec 1 := Scalar.cmpi .ne v1161 c0_i32_1222
  let v1166 : BitVec 1 := Scalar.andi v1165 v1162
  let v1167 : BitVec 32 := Scalar.addi v1161 v1160
  let v1168 : BitVec 32 := Scalar.select v1166 v1167 v1161
  let c0_i32_1231 : BitVec 32 := 0#32
  let c0_i32_1232 : BitVec 32 := 0#32
  ![v1168.toNat, 0, 0]
def k0_dev31 (d0 : Dev nD) : Nat :=
  let c0_i32_1230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1229 : BitVec 32 := 1#32
  let v1169 : BitVec 32 := Scalar.muli v25 c1_i32_1229
  let v1170 : BitVec 32 := Scalar.addi c0_i32_1230 v1169
  v1170.toNat
def k0_off10 (d0 : Dev nD) (c1_i32_1075 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v979 : BitVec 32 := Scalar.addi v2 c1_i32_1075
  let c4_i32_1076 : BitVec 32 := 4#32
  let c0_i32_1077 : BitVec 32 := 0#32
  let v980 : BitVec 1 := Scalar.cmpi .eq c4_i32_1076 c0_i32_1077
  let c1_i32_1078 : BitVec 32 := 1#32
  let v981 : BitVec 32 := Scalar.select v980 c1_i32_1078 c4_i32_1076
  let v982 : BitVec 32 := Scalar.remsi v979 v981
  let c0_i32_1080 : BitVec 32 := 0#32
  let v984 : BitVec 1 := Scalar.cmpi .slt v982 c0_i32_1080
  let c0_i32_1081 : BitVec 32 := 0#32
  let v985 : BitVec 1 := Scalar.cmpi .slt v981 c0_i32_1081
  let v986 : BitVec 1 := Scalar.xori v984 v985
  let c0_i32_1079 : BitVec 32 := 0#32
  let v983 : BitVec 1 := Scalar.cmpi .ne v982 c0_i32_1079
  let v987 : BitVec 1 := Scalar.andi v986 v983
  let v988 : BitVec 32 := Scalar.addi v982 v981
  let v989 : BitVec 32 := Scalar.select v987 v988 v982
  let v1188 : Index := Scalar.indexCast v989
  let c256_1239 : Index := 256#32
  let c0_1240 : Index := 0#32
  ![v1188.toNat, 256, 0]
def k0_off11 (d0 : Dev nD) (c0_i32_1242 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1241 : BitVec 32 := 1#32
  let v1192 : BitVec 32 := Scalar.addi v2 c1_i32_1241
  let v1193 : BitVec 32 := Scalar.subi v1192 c0_i32_1242
  let c4_i32_1243 : BitVec 32 := 4#32
  let c0_i32_1244 : BitVec 32 := 0#32
  let v1194 : BitVec 1 := Scalar.cmpi .eq c4_i32_1243 c0_i32_1244
  let c1_i32_1245 : BitVec 32 := 1#32
  let v1195 : BitVec 32 := Scalar.select v1194 c1_i32_1245 c4_i32_1243
  let v1196 : BitVec 32 := Scalar.remsi v1193 v1195
  let c0_i32_1247 : BitVec 32 := 0#32
  let v1198 : BitVec 1 := Scalar.cmpi .slt v1196 c0_i32_1247
  let c0_i32_1248 : BitVec 32 := 0#32
  let v1199 : BitVec 1 := Scalar.cmpi .slt v1195 c0_i32_1248
  let v1200 : BitVec 1 := Scalar.xori v1198 v1199
  let c0_i32_1246 : BitVec 32 := 0#32
  let v1197 : BitVec 1 := Scalar.cmpi .ne v1196 c0_i32_1246
  let v1201 : BitVec 1 := Scalar.andi v1200 v1197
  let v1202 : BitVec 32 := Scalar.addi v1196 v1195
  let v1203 : BitVec 32 := Scalar.select v1201 v1202 v1196
  let c256_i32_1255 : BitVec 32 := 256#32
  let c0_i32_1256 : BitVec 32 := 0#32
  ![v1203.toNat, 256, 0]
def k0_dev32 (d0 : Dev nD) : Nat :=
  let c0_i32_1254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1253 : BitVec 32 := 1#32
  let v1204 : BitVec 32 := Scalar.muli v13 c1_i32_1253
  let v1205 : BitVec 32 := Scalar.addi c0_i32_1254 v1204
  v1205.toNat
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1082 : BitVec 32 := 4#32
  let v990 : BitVec 32 := Scalar.addi v2 c4_i32_1082
  let c1_i32_1083 : BitVec 32 := 1#32
  let v991 : BitVec 32 := Scalar.subi v990 c1_i32_1083
  let c4_i32_1084 : BitVec 32 := 4#32
  let c0_i32_1085 : BitVec 32 := 0#32
  let v992 : BitVec 1 := Scalar.cmpi .eq c4_i32_1084 c0_i32_1085
  let c1_i32_1086 : BitVec 32 := 1#32
  let v993 : BitVec 32 := Scalar.select v992 c1_i32_1086 c4_i32_1084
  let v994 : BitVec 32 := Scalar.remsi v991 v993
  let c0_i32_1088 : BitVec 32 := 0#32
  let v996 : BitVec 1 := Scalar.cmpi .slt v994 c0_i32_1088
  let c0_i32_1089 : BitVec 32 := 0#32
  let v997 : BitVec 1 := Scalar.cmpi .slt v993 c0_i32_1089
  let v998 : BitVec 1 := Scalar.xori v996 v997
  let c0_i32_1087 : BitVec 32 := 0#32
  let v995 : BitVec 1 := Scalar.cmpi .ne v994 c0_i32_1087
  let v999 : BitVec 1 := Scalar.andi v998 v995
  let v1000 : BitVec 32 := Scalar.addi v994 v993
  let v1001 : BitVec 32 := Scalar.select v999 v1000 v994
  let v1223 : Index := Scalar.indexCast v1001
  let c256_1263 : Index := 256#32
  let c0_1264 : Index := 0#32
  ![v1223.toNat, 256, 0]
def k0_off13 (d0 : Dev nD) (c0_i32_1266 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1265 : BitVec 32 := 1#32
  let v1227 : BitVec 32 := Scalar.subi v2 c1_i32_1265
  let v1228 : BitVec 32 := Scalar.addi v1227 c0_i32_1266
  let c4_i32_1267 : BitVec 32 := 4#32
  let c0_i32_1268 : BitVec 32 := 0#32
  let v1229 : BitVec 1 := Scalar.cmpi .eq c4_i32_1267 c0_i32_1268
  let c1_i32_1269 : BitVec 32 := 1#32
  let v1230 : BitVec 32 := Scalar.select v1229 c1_i32_1269 c4_i32_1267
  let v1231 : BitVec 32 := Scalar.remsi v1228 v1230
  let c0_i32_1271 : BitVec 32 := 0#32
  let v1233 : BitVec 1 := Scalar.cmpi .slt v1231 c0_i32_1271
  let c0_i32_1272 : BitVec 32 := 0#32
  let v1234 : BitVec 1 := Scalar.cmpi .slt v1230 c0_i32_1272
  let v1235 : BitVec 1 := Scalar.xori v1233 v1234
  let c0_i32_1270 : BitVec 32 := 0#32
  let v1232 : BitVec 1 := Scalar.cmpi .ne v1231 c0_i32_1270
  let v1236 : BitVec 1 := Scalar.andi v1235 v1232
  let v1237 : BitVec 32 := Scalar.addi v1231 v1230
  let v1238 : BitVec 32 := Scalar.select v1236 v1237 v1231
  let c256_i32_1279 : BitVec 32 := 256#32
  let c0_i32_1280 : BitVec 32 := 0#32
  ![v1238.toNat, 256, 0]
def k0_dev33 (d0 : Dev nD) : Nat :=
  let c0_i32_1278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1277 : BitVec 32 := 1#32
  let v1239 : BitVec 32 := Scalar.muli v25 c1_i32_1277
  let v1240 : BitVec 32 := Scalar.addi c0_i32_1278 v1239
  v1240.toNat
def k0_off14 (d0 : Dev nD) (c1_i32_1075 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v979 : BitVec 32 := Scalar.addi v2 c1_i32_1075
  let c4_i32_1076 : BitVec 32 := 4#32
  let c0_i32_1077 : BitVec 32 := 0#32
  let v980 : BitVec 1 := Scalar.cmpi .eq c4_i32_1076 c0_i32_1077
  let c1_i32_1078 : BitVec 32 := 1#32
  let v981 : BitVec 32 := Scalar.select v980 c1_i32_1078 c4_i32_1076
  let v982 : BitVec 32 := Scalar.remsi v979 v981
  let c0_i32_1080 : BitVec 32 := 0#32
  let v984 : BitVec 1 := Scalar.cmpi .slt v982 c0_i32_1080
  let c0_i32_1081 : BitVec 32 := 0#32
  let v985 : BitVec 1 := Scalar.cmpi .slt v981 c0_i32_1081
  let v986 : BitVec 1 := Scalar.xori v984 v985
  let c0_i32_1079 : BitVec 32 := 0#32
  let v983 : BitVec 1 := Scalar.cmpi .ne v982 c0_i32_1079
  let v987 : BitVec 1 := Scalar.andi v986 v983
  let v988 : BitVec 32 := Scalar.addi v982 v981
  let v989 : BitVec 32 := Scalar.select v987 v988 v982
  let v1258 : Index := Scalar.indexCast v989
  let c512_1287 : Index := 512#32
  let c0_1288 : Index := 0#32
  ![v1258.toNat, 512, 0]
def k0_off15 (d0 : Dev nD) (c0_i32_1290 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1289 : BitVec 32 := 1#32
  let v1262 : BitVec 32 := Scalar.addi v2 c1_i32_1289
  let v1263 : BitVec 32 := Scalar.subi v1262 c0_i32_1290
  let c4_i32_1291 : BitVec 32 := 4#32
  let c0_i32_1292 : BitVec 32 := 0#32
  let v1264 : BitVec 1 := Scalar.cmpi .eq c4_i32_1291 c0_i32_1292
  let c1_i32_1293 : BitVec 32 := 1#32
  let v1265 : BitVec 32 := Scalar.select v1264 c1_i32_1293 c4_i32_1291
  let v1266 : BitVec 32 := Scalar.remsi v1263 v1265
  let c0_i32_1295 : BitVec 32 := 0#32
  let v1268 : BitVec 1 := Scalar.cmpi .slt v1266 c0_i32_1295
  let c0_i32_1296 : BitVec 32 := 0#32
  let v1269 : BitVec 1 := Scalar.cmpi .slt v1265 c0_i32_1296
  let v1270 : BitVec 1 := Scalar.xori v1268 v1269
  let c0_i32_1294 : BitVec 32 := 0#32
  let v1267 : BitVec 1 := Scalar.cmpi .ne v1266 c0_i32_1294
  let v1271 : BitVec 1 := Scalar.andi v1270 v1267
  let v1272 : BitVec 32 := Scalar.addi v1266 v1265
  let v1273 : BitVec 32 := Scalar.select v1271 v1272 v1266
  let c512_i32_1303 : BitVec 32 := 512#32
  let c0_i32_1304 : BitVec 32 := 0#32
  ![v1273.toNat, 512, 0]
def k0_dev34 (d0 : Dev nD) : Nat :=
  let c0_i32_1302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1301 : BitVec 32 := 1#32
  let v1274 : BitVec 32 := Scalar.muli v13 c1_i32_1301
  let v1275 : BitVec 32 := Scalar.addi c0_i32_1302 v1274
  v1275.toNat
def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1082 : BitVec 32 := 4#32
  let v990 : BitVec 32 := Scalar.addi v2 c4_i32_1082
  let c1_i32_1083 : BitVec 32 := 1#32
  let v991 : BitVec 32 := Scalar.subi v990 c1_i32_1083
  let c4_i32_1084 : BitVec 32 := 4#32
  let c0_i32_1085 : BitVec 32 := 0#32
  let v992 : BitVec 1 := Scalar.cmpi .eq c4_i32_1084 c0_i32_1085
  let c1_i32_1086 : BitVec 32 := 1#32
  let v993 : BitVec 32 := Scalar.select v992 c1_i32_1086 c4_i32_1084
  let v994 : BitVec 32 := Scalar.remsi v991 v993
  let c0_i32_1088 : BitVec 32 := 0#32
  let v996 : BitVec 1 := Scalar.cmpi .slt v994 c0_i32_1088
  let c0_i32_1089 : BitVec 32 := 0#32
  let v997 : BitVec 1 := Scalar.cmpi .slt v993 c0_i32_1089
  let v998 : BitVec 1 := Scalar.xori v996 v997
  let c0_i32_1087 : BitVec 32 := 0#32
  let v995 : BitVec 1 := Scalar.cmpi .ne v994 c0_i32_1087
  let v999 : BitVec 1 := Scalar.andi v998 v995
  let v1000 : BitVec 32 := Scalar.addi v994 v993
  let v1001 : BitVec 32 := Scalar.select v999 v1000 v994
  let v1293 : Index := Scalar.indexCast v1001
  let c512_1311 : Index := 512#32
  let c0_1312 : Index := 0#32
  ![v1293.toNat, 512, 0]
def k0_off17 (d0 : Dev nD) (c0_i32_1314 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1313 : BitVec 32 := 1#32
  let v1297 : BitVec 32 := Scalar.subi v2 c1_i32_1313
  let v1298 : BitVec 32 := Scalar.addi v1297 c0_i32_1314
  let c4_i32_1315 : BitVec 32 := 4#32
  let c0_i32_1316 : BitVec 32 := 0#32
  let v1299 : BitVec 1 := Scalar.cmpi .eq c4_i32_1315 c0_i32_1316
  let c1_i32_1317 : BitVec 32 := 1#32
  let v1300 : BitVec 32 := Scalar.select v1299 c1_i32_1317 c4_i32_1315
  let v1301 : BitVec 32 := Scalar.remsi v1298 v1300
  let c0_i32_1319 : BitVec 32 := 0#32
  let v1303 : BitVec 1 := Scalar.cmpi .slt v1301 c0_i32_1319
  let c0_i32_1320 : BitVec 32 := 0#32
  let v1304 : BitVec 1 := Scalar.cmpi .slt v1300 c0_i32_1320
  let v1305 : BitVec 1 := Scalar.xori v1303 v1304
  let c0_i32_1318 : BitVec 32 := 0#32
  let v1302 : BitVec 1 := Scalar.cmpi .ne v1301 c0_i32_1318
  let v1306 : BitVec 1 := Scalar.andi v1305 v1302
  let v1307 : BitVec 32 := Scalar.addi v1301 v1300
  let v1308 : BitVec 32 := Scalar.select v1306 v1307 v1301
  let c512_i32_1327 : BitVec 32 := 512#32
  let c0_i32_1328 : BitVec 32 := 0#32
  ![v1308.toNat, 512, 0]
def k0_dev35 (d0 : Dev nD) : Nat :=
  let c0_i32_1326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1325 : BitVec 32 := 1#32
  let v1309 : BitVec 32 := Scalar.muli v25 c1_i32_1325
  let v1310 : BitVec 32 := Scalar.addi c0_i32_1326 v1309
  v1310.toNat
def k0_off18 (d0 : Dev nD) (c1_i32_1075 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v979 : BitVec 32 := Scalar.addi v2 c1_i32_1075
  let c4_i32_1076 : BitVec 32 := 4#32
  let c0_i32_1077 : BitVec 32 := 0#32
  let v980 : BitVec 1 := Scalar.cmpi .eq c4_i32_1076 c0_i32_1077
  let c1_i32_1078 : BitVec 32 := 1#32
  let v981 : BitVec 32 := Scalar.select v980 c1_i32_1078 c4_i32_1076
  let v982 : BitVec 32 := Scalar.remsi v979 v981
  let c0_i32_1080 : BitVec 32 := 0#32
  let v984 : BitVec 1 := Scalar.cmpi .slt v982 c0_i32_1080
  let c0_i32_1081 : BitVec 32 := 0#32
  let v985 : BitVec 1 := Scalar.cmpi .slt v981 c0_i32_1081
  let v986 : BitVec 1 := Scalar.xori v984 v985
  let c0_i32_1079 : BitVec 32 := 0#32
  let v983 : BitVec 1 := Scalar.cmpi .ne v982 c0_i32_1079
  let v987 : BitVec 1 := Scalar.andi v986 v983
  let v988 : BitVec 32 := Scalar.addi v982 v981
  let v989 : BitVec 32 := Scalar.select v987 v988 v982
  let v1328 : Index := Scalar.indexCast v989
  let c768_1335 : Index := 768#32
  let c0_1336 : Index := 0#32
  ![v1328.toNat, 768, 0]
def k0_off19 (d0 : Dev nD) (c0_i32_1338 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1337 : BitVec 32 := 1#32
  let v1332 : BitVec 32 := Scalar.addi v2 c1_i32_1337
  let v1333 : BitVec 32 := Scalar.subi v1332 c0_i32_1338
  let c4_i32_1339 : BitVec 32 := 4#32
  let c0_i32_1340 : BitVec 32 := 0#32
  let v1334 : BitVec 1 := Scalar.cmpi .eq c4_i32_1339 c0_i32_1340
  let c1_i32_1341 : BitVec 32 := 1#32
  let v1335 : BitVec 32 := Scalar.select v1334 c1_i32_1341 c4_i32_1339
  let v1336 : BitVec 32 := Scalar.remsi v1333 v1335
  let c0_i32_1343 : BitVec 32 := 0#32
  let v1338 : BitVec 1 := Scalar.cmpi .slt v1336 c0_i32_1343
  let c0_i32_1344 : BitVec 32 := 0#32
  let v1339 : BitVec 1 := Scalar.cmpi .slt v1335 c0_i32_1344
  let v1340 : BitVec 1 := Scalar.xori v1338 v1339
  let c0_i32_1342 : BitVec 32 := 0#32
  let v1337 : BitVec 1 := Scalar.cmpi .ne v1336 c0_i32_1342
  let v1341 : BitVec 1 := Scalar.andi v1340 v1337
  let v1342 : BitVec 32 := Scalar.addi v1336 v1335
  let v1343 : BitVec 32 := Scalar.select v1341 v1342 v1336
  let c768_i32_1351 : BitVec 32 := 768#32
  let c0_i32_1352 : BitVec 32 := 0#32
  ![v1343.toNat, 768, 0]
def k0_dev36 (d0 : Dev nD) : Nat :=
  let c0_i32_1350 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1349 : BitVec 32 := 1#32
  let v1344 : BitVec 32 := Scalar.muli v13 c1_i32_1349
  let v1345 : BitVec 32 := Scalar.addi c0_i32_1350 v1344
  v1345.toNat
def k0_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1082 : BitVec 32 := 4#32
  let v990 : BitVec 32 := Scalar.addi v2 c4_i32_1082
  let c1_i32_1083 : BitVec 32 := 1#32
  let v991 : BitVec 32 := Scalar.subi v990 c1_i32_1083
  let c4_i32_1084 : BitVec 32 := 4#32
  let c0_i32_1085 : BitVec 32 := 0#32
  let v992 : BitVec 1 := Scalar.cmpi .eq c4_i32_1084 c0_i32_1085
  let c1_i32_1086 : BitVec 32 := 1#32
  let v993 : BitVec 32 := Scalar.select v992 c1_i32_1086 c4_i32_1084
  let v994 : BitVec 32 := Scalar.remsi v991 v993
  let c0_i32_1088 : BitVec 32 := 0#32
  let v996 : BitVec 1 := Scalar.cmpi .slt v994 c0_i32_1088
  let c0_i32_1089 : BitVec 32 := 0#32
  let v997 : BitVec 1 := Scalar.cmpi .slt v993 c0_i32_1089
  let v998 : BitVec 1 := Scalar.xori v996 v997
  let c0_i32_1087 : BitVec 32 := 0#32
  let v995 : BitVec 1 := Scalar.cmpi .ne v994 c0_i32_1087
  let v999 : BitVec 1 := Scalar.andi v998 v995
  let v1000 : BitVec 32 := Scalar.addi v994 v993
  let v1001 : BitVec 32 := Scalar.select v999 v1000 v994
  let v1363 : Index := Scalar.indexCast v1001
  let c768_1359 : Index := 768#32
  let c0_1360 : Index := 0#32
  ![v1363.toNat, 768, 0]
def k0_off21 (d0 : Dev nD) (c0_i32_1362 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1361 : BitVec 32 := 1#32
  let v1367 : BitVec 32 := Scalar.subi v2 c1_i32_1361
  let v1368 : BitVec 32 := Scalar.addi v1367 c0_i32_1362
  let c4_i32_1363 : BitVec 32 := 4#32
  let c0_i32_1364 : BitVec 32 := 0#32
  let v1369 : BitVec 1 := Scalar.cmpi .eq c4_i32_1363 c0_i32_1364
  let c1_i32_1365 : BitVec 32 := 1#32
  let v1370 : BitVec 32 := Scalar.select v1369 c1_i32_1365 c4_i32_1363
  let v1371 : BitVec 32 := Scalar.remsi v1368 v1370
  let c0_i32_1367 : BitVec 32 := 0#32
  let v1373 : BitVec 1 := Scalar.cmpi .slt v1371 c0_i32_1367
  let c0_i32_1368 : BitVec 32 := 0#32
  let v1374 : BitVec 1 := Scalar.cmpi .slt v1370 c0_i32_1368
  let v1375 : BitVec 1 := Scalar.xori v1373 v1374
  let c0_i32_1366 : BitVec 32 := 0#32
  let v1372 : BitVec 1 := Scalar.cmpi .ne v1371 c0_i32_1366
  let v1376 : BitVec 1 := Scalar.andi v1375 v1372
  let v1377 : BitVec 32 := Scalar.addi v1371 v1370
  let v1378 : BitVec 32 := Scalar.select v1376 v1377 v1371
  let c768_i32_1375 : BitVec 32 := 768#32
  let c0_i32_1376 : BitVec 32 := 0#32
  ![v1378.toNat, 768, 0]
def k0_dev37 (d0 : Dev nD) : Nat :=
  let c0_i32_1374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1373 : BitVec 32 := 1#32
  let v1379 : BitVec 32 := Scalar.muli v25 c1_i32_1373
  let v1380 : BitVec 32 := Scalar.addi c0_i32_1374 v1379
  v1380.toNat
def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1075 : BitVec 32 := 1#32
  let v979 : BitVec 32 := Scalar.addi v2 c1_i32_1075
  let c4_i32_1076 : BitVec 32 := 4#32
  let c0_i32_1077 : BitVec 32 := 0#32
  let v980 : BitVec 1 := Scalar.cmpi .eq c4_i32_1076 c0_i32_1077
  let c1_i32_1078 : BitVec 32 := 1#32
  let v981 : BitVec 32 := Scalar.select v980 c1_i32_1078 c4_i32_1076
  let v982 : BitVec 32 := Scalar.remsi v979 v981
  let c0_i32_1080 : BitVec 32 := 0#32
  let v984 : BitVec 1 := Scalar.cmpi .slt v982 c0_i32_1080
  let c0_i32_1081 : BitVec 32 := 0#32
  let v985 : BitVec 1 := Scalar.cmpi .slt v981 c0_i32_1081
  let v986 : BitVec 1 := Scalar.xori v984 v985
  let c0_i32_1079 : BitVec 32 := 0#32
  let v983 : BitVec 1 := Scalar.cmpi .ne v982 c0_i32_1079
  let v987 : BitVec 1 := Scalar.andi v986 v983
  let v988 : BitVec 32 := Scalar.addi v982 v981
  let v989 : BitVec 32 := Scalar.select v987 v988 v982
  let v1387 : Index := Scalar.indexCast v989
  let c0_1379 : Index := 0#32
  let c0_1380 : Index := 0#32
  ![v1387.toNat, 0, 0]
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1075 : BitVec 32 := 1#32
  let v979 : BitVec 32 := Scalar.addi v2 c1_i32_1075
  let c4_i32_1076 : BitVec 32 := 4#32
  let c0_i32_1077 : BitVec 32 := 0#32
  let v980 : BitVec 1 := Scalar.cmpi .eq c4_i32_1076 c0_i32_1077
  let c1_i32_1078 : BitVec 32 := 1#32
  let v981 : BitVec 32 := Scalar.select v980 c1_i32_1078 c4_i32_1076
  let v982 : BitVec 32 := Scalar.remsi v979 v981
  let c0_i32_1080 : BitVec 32 := 0#32
  let v984 : BitVec 1 := Scalar.cmpi .slt v982 c0_i32_1080
  let c0_i32_1081 : BitVec 32 := 0#32
  let v985 : BitVec 1 := Scalar.cmpi .slt v981 c0_i32_1081
  let v986 : BitVec 1 := Scalar.xori v984 v985
  let c0_i32_1079 : BitVec 32 := 0#32
  let v983 : BitVec 1 := Scalar.cmpi .ne v982 c0_i32_1079
  let v987 : BitVec 1 := Scalar.andi v986 v983
  let v988 : BitVec 32 := Scalar.addi v982 v981
  let v989 : BitVec 32 := Scalar.select v987 v988 v982
  let c1024_i32_1383 : BitVec 32 := 1024#32
  let v1396 : BitVec 32 := Scalar.muli v989 c1024_i32_1383
  let c0_i32_1384 : BitVec 32 := 0#32
  ![v1396.toNat, 0]
def k0_off24 (d0 : Dev nD) (c4_i32_1082 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v990 : BitVec 32 := Scalar.addi v2 c4_i32_1082
  let c1_i32_1083 : BitVec 32 := 1#32
  let v991 : BitVec 32 := Scalar.subi v990 c1_i32_1083
  let c4_i32_1084 : BitVec 32 := 4#32
  let c0_i32_1085 : BitVec 32 := 0#32
  let v992 : BitVec 1 := Scalar.cmpi .eq c4_i32_1084 c0_i32_1085
  let c1_i32_1086 : BitVec 32 := 1#32
  let v993 : BitVec 32 := Scalar.select v992 c1_i32_1086 c4_i32_1084
  let v994 : BitVec 32 := Scalar.remsi v991 v993
  let c0_i32_1088 : BitVec 32 := 0#32
  let v996 : BitVec 1 := Scalar.cmpi .slt v994 c0_i32_1088
  let c0_i32_1089 : BitVec 32 := 0#32
  let v997 : BitVec 1 := Scalar.cmpi .slt v993 c0_i32_1089
  let v998 : BitVec 1 := Scalar.xori v996 v997
  let c0_i32_1087 : BitVec 32 := 0#32
  let v995 : BitVec 1 := Scalar.cmpi .ne v994 c0_i32_1087
  let v999 : BitVec 1 := Scalar.andi v998 v995
  let v1000 : BitVec 32 := Scalar.addi v994 v993
  let v1001 : BitVec 32 := Scalar.select v999 v1000 v994
  let v1398 : Index := Scalar.indexCast v1001
  let c0_1385 : Index := 0#32
  let c0_1386 : Index := 0#32
  ![v1398.toNat, 0, 0]
def k0_off24_at (r : Fin 3) : BitVec 32 :=
  if r.val < 1 then
    4#32
  else
    if r.val < 2 then
      1#32
    else
      2#32
def k0_off25 (d0 : Dev nD) (c4_i32_1082 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v990 : BitVec 32 := Scalar.addi v2 c4_i32_1082
  let c1_i32_1083 : BitVec 32 := 1#32
  let v991 : BitVec 32 := Scalar.subi v990 c1_i32_1083
  let c4_i32_1084 : BitVec 32 := 4#32
  let c0_i32_1085 : BitVec 32 := 0#32
  let v992 : BitVec 1 := Scalar.cmpi .eq c4_i32_1084 c0_i32_1085
  let c1_i32_1086 : BitVec 32 := 1#32
  let v993 : BitVec 32 := Scalar.select v992 c1_i32_1086 c4_i32_1084
  let v994 : BitVec 32 := Scalar.remsi v991 v993
  let c0_i32_1088 : BitVec 32 := 0#32
  let v996 : BitVec 1 := Scalar.cmpi .slt v994 c0_i32_1088
  let c0_i32_1089 : BitVec 32 := 0#32
  let v997 : BitVec 1 := Scalar.cmpi .slt v993 c0_i32_1089
  let v998 : BitVec 1 := Scalar.xori v996 v997
  let c0_i32_1087 : BitVec 32 := 0#32
  let v995 : BitVec 1 := Scalar.cmpi .ne v994 c0_i32_1087
  let v999 : BitVec 1 := Scalar.andi v998 v995
  let v1000 : BitVec 32 := Scalar.addi v994 v993
  let v1001 : BitVec 32 := Scalar.select v999 v1000 v994
  let c1024_i32_1389 : BitVec 32 := 1024#32
  let v1407 : BitVec 32 := Scalar.muli v1001 c1024_i32_1389
  let c1024_i32_1390 : BitVec 32 := 1024#32
  ![v1407.toNat, 1024]
def k0_off25_at (r : Fin 3) : BitVec 32 :=
  if r.val < 1 then
    4#32
  else
    if r.val < 2 then
      1#32
    else
      2#32
def k0_dev38 (d0 : Dev nD) : Nat :=
  let c0_i32_1425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1424 : BitVec 32 := 1#32
  let v1433 : BitVec 32 := Scalar.muli v13 c1_i32_1424
  let v1434 : BitVec 32 := Scalar.addi c0_i32_1425 v1433
  v1434.toNat
def k0_dev39 (d0 : Dev nD) : Nat :=
  let c0_i32_1462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1461 : BitVec 32 := 1#32
  let v1463 : BitVec 32 := Scalar.muli v25 c1_i32_1461
  let v1464 : BitVec 32 := Scalar.addi c0_i32_1462 v1463
  v1464.toNat
def k0_dev40 (d0 : Dev nD) : Nat :=
  let c0_i32_1499 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1498 : BitVec 32 := 1#32
  let v1493 : BitVec 32 := Scalar.muli v13 c1_i32_1498
  let v1494 : BitVec 32 := Scalar.addi c0_i32_1499 v1493
  v1494.toNat
def k0_dev41 (d0 : Dev nD) : Nat :=
  let c0_i32_1536 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1535 : BitVec 32 := 1#32
  let v1523 : BitVec 32 := Scalar.muli v25 c1_i32_1535
  let v1524 : BitVec 32 := Scalar.addi c0_i32_1536 v1523
  v1524.toNat
def k0_dev42 (d0 : Dev nD) : Nat :=
  let c0_i32_1573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1572 : BitVec 32 := 1#32
  let v1553 : BitVec 32 := Scalar.muli v13 c1_i32_1572
  let v1554 : BitVec 32 := Scalar.addi c0_i32_1573 v1553
  v1554.toNat
def k0_dev43 (d0 : Dev nD) : Nat :=
  let c0_i32_1610 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1609 : BitVec 32 := 1#32
  let v1583 : BitVec 32 := Scalar.muli v25 c1_i32_1609
  let v1584 : BitVec 32 := Scalar.addi c0_i32_1610 v1583
  v1584.toNat
def k0_dev44 (d0 : Dev nD) : Nat :=
  let c0_i32_1647 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1646 : BitVec 32 := 1#32
  let v1613 : BitVec 32 := Scalar.muli v13 c1_i32_1646
  let v1614 : BitVec 32 := Scalar.addi c0_i32_1647 v1613
  v1614.toNat
def k0_dev45 (d0 : Dev nD) : Nat :=
  let c0_i32_1684 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1683 : BitVec 32 := 1#32
  let v1643 : BitVec 32 := Scalar.muli v25 c1_i32_1683
  let v1644 : BitVec 32 := Scalar.addi c0_i32_1684 v1643
  v1644.toNat
def k0_off26 (d0 : Dev nD) (c1_i32_1689 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1651 : BitVec 32 := Scalar.subi v2 c1_i32_1689
  let c1_i32_1690 : BitVec 32 := 1#32
  let v1652 : BitVec 32 := Scalar.addi v1651 c1_i32_1690
  let c4_i32_1691 : BitVec 32 := 4#32
  let c0_i32_1692 : BitVec 32 := 0#32
  let v1653 : BitVec 1 := Scalar.cmpi .eq c4_i32_1691 c0_i32_1692
  let c1_i32_1693 : BitVec 32 := 1#32
  let v1654 : BitVec 32 := Scalar.select v1653 c1_i32_1693 c4_i32_1691
  let v1655 : BitVec 32 := Scalar.remsi v1652 v1654
  let c0_i32_1695 : BitVec 32 := 0#32
  let v1657 : BitVec 1 := Scalar.cmpi .slt v1655 c0_i32_1695
  let c0_i32_1696 : BitVec 32 := 0#32
  let v1658 : BitVec 1 := Scalar.cmpi .slt v1654 c0_i32_1696
  let v1659 : BitVec 1 := Scalar.xori v1657 v1658
  let c0_i32_1694 : BitVec 32 := 0#32
  let v1656 : BitVec 1 := Scalar.cmpi .ne v1655 c0_i32_1694
  let v1660 : BitVec 1 := Scalar.andi v1659 v1656
  let v1661 : BitVec 32 := Scalar.addi v1655 v1654
  let v1662 : BitVec 32 := Scalar.select v1660 v1661 v1655
  let v1663 : Index := Scalar.indexCast v1662
  let c0_1697 : Index := 0#32
  let c0_1698 : Index := 0#32
  ![v1663.toNat, 0, 0]
def k0_off27 (d0 : Dev nD) (c1_i32_1689 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1651 : BitVec 32 := Scalar.subi v2 c1_i32_1689
  let c1_i32_1690 : BitVec 32 := 1#32
  let v1652 : BitVec 32 := Scalar.addi v1651 c1_i32_1690
  let c4_i32_1691 : BitVec 32 := 4#32
  let c0_i32_1692 : BitVec 32 := 0#32
  let v1653 : BitVec 1 := Scalar.cmpi .eq c4_i32_1691 c0_i32_1692
  let c1_i32_1693 : BitVec 32 := 1#32
  let v1654 : BitVec 32 := Scalar.select v1653 c1_i32_1693 c4_i32_1691
  let v1655 : BitVec 32 := Scalar.remsi v1652 v1654
  let c0_i32_1695 : BitVec 32 := 0#32
  let v1657 : BitVec 1 := Scalar.cmpi .slt v1655 c0_i32_1695
  let c0_i32_1696 : BitVec 32 := 0#32
  let v1658 : BitVec 1 := Scalar.cmpi .slt v1654 c0_i32_1696
  let v1659 : BitVec 1 := Scalar.xori v1657 v1658
  let c0_i32_1694 : BitVec 32 := 0#32
  let v1656 : BitVec 1 := Scalar.cmpi .ne v1655 c0_i32_1694
  let v1660 : BitVec 1 := Scalar.andi v1659 v1656
  let v1661 : BitVec 32 := Scalar.addi v1655 v1654
  let v1662 : BitVec 32 := Scalar.select v1660 v1661 v1655
  let c1024_i32_1701 : BitVec 32 := 1024#32
  let v1672 : BitVec 32 := Scalar.muli v1662 c1024_i32_1701
  let c0_i32_1702 : BitVec 32 := 0#32
  ![v1672.toNat, 0]
def k0_dev46 (d0 : Dev nD) : Nat :=
  let c0_i32_1751 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1750 : BitVec 32 := 1#32
  let v1721 : BitVec 32 := Scalar.muli v13 c1_i32_1750
  let v1722 : BitVec 32 := Scalar.addi c0_i32_1751 v1721
  v1722.toNat
def k0_dev47 (d0 : Dev nD) : Nat :=
  let c0_i32_1788 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1787 : BitVec 32 := 1#32
  let v1751 : BitVec 32 := Scalar.muli v25 c1_i32_1787
  let v1752 : BitVec 32 := Scalar.addi c0_i32_1788 v1751
  v1752.toNat
def k0_dev48 (d0 : Dev nD) : Nat :=
  let c0_i32_1825 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1824 : BitVec 32 := 1#32
  let v1781 : BitVec 32 := Scalar.muli v13 c1_i32_1824
  let v1782 : BitVec 32 := Scalar.addi c0_i32_1825 v1781
  v1782.toNat
def k0_dev49 (d0 : Dev nD) : Nat :=
  let c0_i32_1862 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1861 : BitVec 32 := 1#32
  let v1811 : BitVec 32 := Scalar.muli v25 c1_i32_1861
  let v1812 : BitVec 32 := Scalar.addi c0_i32_1862 v1811
  v1812.toNat
def k0_dev50 (d0 : Dev nD) : Nat :=
  let c0_i32_1899 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1898 : BitVec 32 := 1#32
  let v1841 : BitVec 32 := Scalar.muli v13 c1_i32_1898
  let v1842 : BitVec 32 := Scalar.addi c0_i32_1899 v1841
  v1842.toNat
def k0_dev51 (d0 : Dev nD) : Nat :=
  let c0_i32_1936 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1935 : BitVec 32 := 1#32
  let v1871 : BitVec 32 := Scalar.muli v25 c1_i32_1935
  let v1872 : BitVec 32 := Scalar.addi c0_i32_1936 v1871
  v1872.toNat
def k0_dev52 (d0 : Dev nD) : Nat :=
  let c0_i32_1973 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1972 : BitVec 32 := 1#32
  let v1901 : BitVec 32 := Scalar.muli v13 c1_i32_1972
  let v1902 : BitVec 32 := Scalar.addi c0_i32_1973 v1901
  v1902.toNat
def k0_dev53 (d0 : Dev nD) : Nat :=
  let c0_i32_2010 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2009 : BitVec 32 := 1#32
  let v1931 : BitVec 32 := Scalar.muli v25 c1_i32_2009
  let v1932 : BitVec 32 := Scalar.addi c0_i32_2010 v1931
  v1932.toNat
def k0_off28 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2045 : BitVec 32 := 2#32
  let v1987 : BitVec 32 := Scalar.subi v2 c2_i32_2045
  let c4_i32_2046 : BitVec 32 := 4#32
  let c0_i32_2047 : BitVec 32 := 0#32
  let v1988 : BitVec 1 := Scalar.cmpi .eq c4_i32_2046 c0_i32_2047
  let c1_i32_2048 : BitVec 32 := 1#32
  let v1989 : BitVec 32 := Scalar.select v1988 c1_i32_2048 c4_i32_2046
  let v1990 : BitVec 32 := Scalar.remsi v1987 v1989
  let c0_i32_2050 : BitVec 32 := 0#32
  let v1992 : BitVec 1 := Scalar.cmpi .slt v1990 c0_i32_2050
  let c0_i32_2051 : BitVec 32 := 0#32
  let v1993 : BitVec 1 := Scalar.cmpi .slt v1989 c0_i32_2051
  let v1994 : BitVec 1 := Scalar.xori v1992 v1993
  let c0_i32_2049 : BitVec 32 := 0#32
  let v1991 : BitVec 1 := Scalar.cmpi .ne v1990 c0_i32_2049
  let v1995 : BitVec 1 := Scalar.andi v1994 v1991
  let v1996 : BitVec 32 := Scalar.addi v1990 v1989
  let v1997 : BitVec 32 := Scalar.select v1995 v1996 v1990
  let v2019 : Index := Scalar.indexCast v1997
  let c0_2078 : Index := 0#32
  let c0_2079 : Index := 0#32
  ![v2019.toNat, 0, 0]
def k0_off29 (d0 : Dev nD) (c0_i32_2083 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2045 : BitVec 32 := 2#32
  let v1987 : BitVec 32 := Scalar.subi v2 c2_i32_2045
  let c4_i32_2046 : BitVec 32 := 4#32
  let c0_i32_2047 : BitVec 32 := 0#32
  let v1988 : BitVec 1 := Scalar.cmpi .eq c4_i32_2046 c0_i32_2047
  let c1_i32_2048 : BitVec 32 := 1#32
  let v1989 : BitVec 32 := Scalar.select v1988 c1_i32_2048 c4_i32_2046
  let v1990 : BitVec 32 := Scalar.remsi v1987 v1989
  let c0_i32_2050 : BitVec 32 := 0#32
  let v1992 : BitVec 1 := Scalar.cmpi .slt v1990 c0_i32_2050
  let c0_i32_2051 : BitVec 32 := 0#32
  let v1993 : BitVec 1 := Scalar.cmpi .slt v1989 c0_i32_2051
  let v1994 : BitVec 1 := Scalar.xori v1992 v1993
  let c0_i32_2049 : BitVec 32 := 0#32
  let v1991 : BitVec 1 := Scalar.cmpi .ne v1990 c0_i32_2049
  let v1995 : BitVec 1 := Scalar.andi v1994 v1991
  let v1996 : BitVec 32 := Scalar.addi v1990 v1989
  let v1997 : BitVec 32 := Scalar.select v1995 v1996 v1990
  let c1024_i32_2082 : BitVec 32 := 1024#32
  let v2028 : BitVec 32 := Scalar.muli v1997 c1024_i32_2082
  let v2029 : BitVec 32 := Scalar.addi v2028 c0_i32_2083
  let c0_i32_2084 : BitVec 32 := 0#32
  ![v2029.toNat, 0]
def k0_off30 (d0 : Dev nD) (c0_i32_2111 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2052 : BitVec 32 := 2#32
  let v1998 : BitVec 32 := Scalar.addi v2 c2_i32_2052
  let c4_i32_2053 : BitVec 32 := 4#32
  let c0_i32_2054 : BitVec 32 := 0#32
  let v1999 : BitVec 1 := Scalar.cmpi .eq c4_i32_2053 c0_i32_2054
  let c1_i32_2055 : BitVec 32 := 1#32
  let v2000 : BitVec 32 := Scalar.select v1999 c1_i32_2055 c4_i32_2053
  let v2001 : BitVec 32 := Scalar.remsi v1998 v2000
  let c0_i32_2057 : BitVec 32 := 0#32
  let v2003 : BitVec 1 := Scalar.cmpi .slt v2001 c0_i32_2057
  let c0_i32_2058 : BitVec 32 := 0#32
  let v2004 : BitVec 1 := Scalar.cmpi .slt v2000 c0_i32_2058
  let v2005 : BitVec 1 := Scalar.xori v2003 v2004
  let c0_i32_2056 : BitVec 32 := 0#32
  let v2002 : BitVec 1 := Scalar.cmpi .ne v2001 c0_i32_2056
  let v2006 : BitVec 1 := Scalar.andi v2005 v2002
  let v2007 : BitVec 32 := Scalar.addi v2001 v2000
  let v2008 : BitVec 32 := Scalar.select v2006 v2007 v2001
  let c1024_i32_2110 : BitVec 32 := 1024#32
  let v2051 : BitVec 32 := Scalar.muli v2008 c1024_i32_2110
  let v2052 : BitVec 32 := Scalar.addi v2051 c0_i32_2111
  let c1024_i32_2112 : BitVec 32 := 1024#32
  ![v2052.toNat, 1024]
def k0_off31 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2045 : BitVec 32 := 2#32
  let v1987 : BitVec 32 := Scalar.subi v2 c2_i32_2045
  let c4_i32_2046 : BitVec 32 := 4#32
  let c0_i32_2047 : BitVec 32 := 0#32
  let v1988 : BitVec 1 := Scalar.cmpi .eq c4_i32_2046 c0_i32_2047
  let c1_i32_2048 : BitVec 32 := 1#32
  let v1989 : BitVec 32 := Scalar.select v1988 c1_i32_2048 c4_i32_2046
  let v1990 : BitVec 32 := Scalar.remsi v1987 v1989
  let c0_i32_2050 : BitVec 32 := 0#32
  let v1992 : BitVec 1 := Scalar.cmpi .slt v1990 c0_i32_2050
  let c0_i32_2051 : BitVec 32 := 0#32
  let v1993 : BitVec 1 := Scalar.cmpi .slt v1989 c0_i32_2051
  let v1994 : BitVec 1 := Scalar.xori v1992 v1993
  let c0_i32_2049 : BitVec 32 := 0#32
  let v1991 : BitVec 1 := Scalar.cmpi .ne v1990 c0_i32_2049
  let v1995 : BitVec 1 := Scalar.andi v1994 v1991
  let v1996 : BitVec 32 := Scalar.addi v1990 v1989
  let v1997 : BitVec 32 := Scalar.select v1995 v1996 v1990
  let v2065 : Index := Scalar.indexCast v1997
  let c256_2134 : Index := 256#32
  let c0_2135 : Index := 0#32
  ![v2065.toNat, 256, 0]
def k0_off32 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2045 : BitVec 32 := 2#32
  let v1987 : BitVec 32 := Scalar.subi v2 c2_i32_2045
  let c4_i32_2046 : BitVec 32 := 4#32
  let c0_i32_2047 : BitVec 32 := 0#32
  let v1988 : BitVec 1 := Scalar.cmpi .eq c4_i32_2046 c0_i32_2047
  let c1_i32_2048 : BitVec 32 := 1#32
  let v1989 : BitVec 32 := Scalar.select v1988 c1_i32_2048 c4_i32_2046
  let v1990 : BitVec 32 := Scalar.remsi v1987 v1989
  let c0_i32_2050 : BitVec 32 := 0#32
  let v1992 : BitVec 1 := Scalar.cmpi .slt v1990 c0_i32_2050
  let c0_i32_2051 : BitVec 32 := 0#32
  let v1993 : BitVec 1 := Scalar.cmpi .slt v1989 c0_i32_2051
  let v1994 : BitVec 1 := Scalar.xori v1992 v1993
  let c0_i32_2049 : BitVec 32 := 0#32
  let v1991 : BitVec 1 := Scalar.cmpi .ne v1990 c0_i32_2049
  let v1995 : BitVec 1 := Scalar.andi v1994 v1991
  let v1996 : BitVec 32 := Scalar.addi v1990 v1989
  let v1997 : BitVec 32 := Scalar.select v1995 v1996 v1990
  let v2111 : Index := Scalar.indexCast v1997
  let c512_2190 : Index := 512#32
  let c0_2191 : Index := 0#32
  ![v2111.toNat, 512, 0]
def k0_off33 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2045 : BitVec 32 := 2#32
  let v1987 : BitVec 32 := Scalar.subi v2 c2_i32_2045
  let c4_i32_2046 : BitVec 32 := 4#32
  let c0_i32_2047 : BitVec 32 := 0#32
  let v1988 : BitVec 1 := Scalar.cmpi .eq c4_i32_2046 c0_i32_2047
  let c1_i32_2048 : BitVec 32 := 1#32
  let v1989 : BitVec 32 := Scalar.select v1988 c1_i32_2048 c4_i32_2046
  let v1990 : BitVec 32 := Scalar.remsi v1987 v1989
  let c0_i32_2050 : BitVec 32 := 0#32
  let v1992 : BitVec 1 := Scalar.cmpi .slt v1990 c0_i32_2050
  let c0_i32_2051 : BitVec 32 := 0#32
  let v1993 : BitVec 1 := Scalar.cmpi .slt v1989 c0_i32_2051
  let v1994 : BitVec 1 := Scalar.xori v1992 v1993
  let c0_i32_2049 : BitVec 32 := 0#32
  let v1991 : BitVec 1 := Scalar.cmpi .ne v1990 c0_i32_2049
  let v1995 : BitVec 1 := Scalar.andi v1994 v1991
  let v1996 : BitVec 32 := Scalar.addi v1990 v1989
  let v1997 : BitVec 32 := Scalar.select v1995 v1996 v1990
  let v2157 : Index := Scalar.indexCast v1997
  let c768_2246 : Index := 768#32
  let c0_2247 : Index := 0#32
  ![v2157.toNat, 768, 0]
def k0_dev54 (d0 : Dev nD) : Nat :=
  let c0_i32_2309_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2308_r0 : BitVec 32 := 1#32
  let v2210_r0 : BitVec 32 := Scalar.muli v25 c1_i32_2308_r0
  let v2211_r0 : BitVec 32 := Scalar.addi c0_i32_2309_r0 v2210_r0
  v2211_r0.toNat
def k0_dev55 (d0 : Dev nD) : Nat :=
  let c0_i32_2312_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2311_r0 : BitVec 32 := 1#32
  let v2212_r0 : BitVec 32 := Scalar.muli v13 c1_i32_2311_r0
  let v2213_r0 : BitVec 32 := Scalar.addi c0_i32_2312_r0 v2212_r0
  v2213_r0.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Setup.lean ====
/-
  What every module of this proof shares: the resource algebra, the ring of devices, the kernel's buffers and the windows
  of them its copies move, the names of the copies, the semaphore cells, and the contents every window holds, as functions
  of the launch memory.

  The kernel on device `c`, in the words used here. `r` is the direction "to `c + 1`", `l` the direction "to `c - 1`"; a
  direction is a `Bool`, `false` for `r`, `true` for `l`. Direction `r` carries the left half of the columns, `l` the right
  half. `rs d h s` is hop `h` of the reduce-scatter in direction `d`, rows `256 s ..`; `ag d g s` hop `g` of the all-gather of
  the quantised chunks; `ax k` the exchange of the device's maximum with device `c + k + 1`.
-/
module

public import proofs.«01_k».proof.Defs
public import Idealize.ShloMosaic.Lib.Pipeline.Launch
public import Idealize.ShloMosaic.Lib.Tactic
public import Idealize.ShloMosaic.Lib.Batch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The pipeline's rounds, -/
abbrev UR (nD : Nat) (τ : Topo) : Type := URounds (GSem nD τ sig) Unit
/-- the kernel's rounds, whose duties are named by a `Bool`, -/
abbrev RR (nD : Nat) (τ : Topo) : Type := URounds (GSem nD τ sig) Bool
/-- and, beside them, the counters of the local copies. -/
abbrev UU (nD : Nat) (τ : Topo) : Type := UR nD τ × (RR nD τ × Counters)

local notation "𝕄" => MT nD τ sig Unit (Elt F) ℕ (UU nD τ) ℕ

/-- The pipeline's copy inside the whole algebra, -/
def EP : Emb (UR nD τ) (MT nD τ sig Unit (Elt F) ℕ (UU nD τ) ℕ) :=
  (Emb.inl : Emb (UR nD τ) (UU nD τ)).trans (uEmb (nD := nD) (sig := sig) (Ix := Unit) (Val := Elt F) (Name := ℕ) (U := UU nD τ) (Lvl := ℕ)).toEmb
/-- and the kernel's. -/
def ER : Emb (RR nD τ) (MT nD τ sig Unit (Elt F) ℕ (UU nD τ) ℕ) :=
  ((Emb.inl : Emb (RR nD τ) (RR nD τ × Counters)).trans (Emb.inr : Emb (RR nD τ × Counters) (UU nD τ))).trans
    (uEmb (nD := nD) (sig := sig) (Ix := Unit) (Val := Elt F) (Name := ℕ) (U := UU nD τ) (Lvl := ℕ)).toEmb

instance EP_landsIn : (EP : Emb (UR nD τ) 𝕄).LandsIn (upEmb : UEmb _ 𝕄) := by unfold EP; infer_instance
instance ER_landsIn : (ER : Emb (RR nD τ) 𝕄).LandsIn (upEmb : UEmb _ 𝕄) := by unfold ER; infer_instance

/-- The counters' embedding. -/
abbrev EC : UEmb Counters (MT nD τ sig Unit (Elt F) ℕ (UU nD τ) ℕ) := countersEmb

/-! ## The ring -/

/-- Device `c + k`, around the ring. -/
def rot (k : ℕ) (c : Dev nD) : Dev nD := ⟨(c.val + k) % 4, Nat.mod_lt _ (by decide)⟩

/-- The device direction `d` sends to, -/
def dstD (d : Bool) (c : Dev nD) : Dev nD := if d then rot 3 c else rot 1 c
/-- and the one it receives from. -/
def srcD (d : Bool) (c : Dev nD) : Dev nD := if d then rot 1 c else rot 3 c

theorem src_dst : ∀ (d : Bool) (c : Dev nD), srcD d (dstD d c) = c := by decide
theorem dst_src : ∀ (d : Bool) (c : Dev nD), dstD d (srcD d c) = c := by decide

/-! ## The buffers -/

/-- The device's rows of `x`, and the result. -/
abbrev xM : Memref sig .tc .hbm S4096x1024 .f32 := Memref.whole main_arg0
abbrev outM : Memref sig .tc .hbm S4096x2048 .f32 := Memref.whole main_v1
/-- The staged block of `w`. -/
abbrev wM : Memref sig .tc .vmem S1024x2048 .f32 := Memref.whole cc0_stg0_0
/-- A chunk of `x`, then rounded; `w` rounded. -/
abbrev xsM : Memref sig .tc .vmem S1024x1024 .f32 := Memref.whole cc0_scratch0
abbrev xbM : Memref sig .tc .vmem S1024x1024 .bf16 := Memref.whole cc0_scratch1
abbrev wbM : Memref sig .tc .vmem S1024x2048 .bf16 := Memref.whole cc0_scratch2
/-- Per direction: the accumulator, the landing buffer of the reduce-scatter, the quantised chunks, the staging of the result. -/
@[reducible] def accM : Bool → Memref sig .tc .vmem S1024x1024 .bf16
  | false => Memref.whole cc0_scratch3
  | true => Memref.whole cc0_scratch4
@[reducible] def rsM : Bool → Memref sig .tc .vmem S3x1024x1024 .bf16
  | false => Memref.whole cc0_scratch5
  | true => Memref.whole cc0_scratch6
@[reducible] def qM : Bool → Memref sig .tc .vmem S4x1024x1024 .i8
  | false => Memref.whole cc0_scratch7
  | true => Memref.whole cc0_scratch8
@[reducible] def stM : Bool → Memref sig .tc .vmem S1024x1024 .f32
  | false => Memref.whole cc0_scratch9
  | true => Memref.whole cc0_scratch10
/-- The table of the devices' maxima. -/
abbrev amM : Memref sig .tc .vmem S4x8x128 .f32 := Memref.whole cc0_scratch11

/-! ## The windows -/

theorem inb2 (o s : Fin 2 → ℕ) (h0 : o 0 + 256 ≤ 1024) (h1 : o 1 + 1024 ≤ 1024) : ∀ a, o a + S256x1024.size a ≤ S1024x1024.size a := by
  intro a; fin_cases a <;> assumption

/-- Rows `256 s ..` of a chunk. -/
abbrev rowR (s : Fin 4) : Rect S1024x1024 :=
  Rect.unit (s := S1024x1024) ![256 * s.val, 0] S256x1024.size (by revert s; decide)
/-- Slot `h`, rows `256 s ..`, of a landing buffer. -/
abbrev rsR (h : Fin 3) (s : Fin 4) : Rect S3x1024x1024 :=
  Rect.unit (s := S3x1024x1024) ![h.val, 256 * s.val, 0] S1x256x1024.size (by revert h s; decide)
/-- Slot `j`, rows `256 s ..`, of the quantised chunks; the whole slot. -/
abbrev qR (j : Dev nD) (s : Fin 4) : Rect S4x1024x1024 :=
  Rect.unit (s := S4x1024x1024) ![j.val, 256 * s.val, 0] S1x256x1024.size (by revert j s; decide)
abbrev qC (j : Dev nD) : Rect S4x1024x1024 :=
  Rect.unit (s := S4x1024x1024) ![j.val, 0, 0] S1x1024x1024.size (by revert j; decide)
/-- Row `j` of the table of maxima. -/
abbrev amR (j : Dev nD) : Rect S4x8x128 :=
  Rect.unit (s := S4x8x128) ![j.val, 0, 0] S1x8x128.size (by revert j; decide)
/-- Chunk `j` of the device's rows of `x`. -/
abbrev xR (j : Dev nD) : Rect S4096x1024 :=
  Rect.unit (s := S4096x1024) ![1024 * j.val, 0] S1024x1024.size (by revert j; decide)
/-- The columns of direction `d` of `w`, -/
abbrev wR (d : Bool) : Rect S1024x2048 :=
  Rect.unit (s := S1024x2048) ![0, if d then 1024 else 0] S1024x1024.size (by revert d; decide)
/-- of chunk `j` of the result, and of rows `256 s ..` of that chunk. -/
abbrev outC (d : Bool) (j : Dev nD) : Rect S4096x2048 :=
  Rect.unit (s := S4096x2048) ![1024 * j.val, if d then 1024 else 0] S1024x1024.size (by revert d j; decide)
abbrev outR (d : Bool) (j : Dev nD) (s : Fin 4) : Rect S4096x2048 :=
  Rect.unit (s := S4096x2048) ![1024 * j.val + 256 * s.val, if d then 1024 else 0] S256x1024.size (by revert d j s; decide)

abbrev accW (d : Bool) (s : Fin 4) : Memref sig .tc .vmem S256x1024 .bf16 := (accM d).slice (rowR s) (fun _ => rfl)
abbrev stW (d : Bool) (s : Fin 4) : Memref sig .tc .vmem S256x1024 .f32 := (stM d).slice (rowR s) (fun _ => rfl)
abbrev rsW (d : Bool) (h : Fin 3) (s : Fin 4) : Memref sig .tc .vmem S1x256x1024 .bf16 := (rsM d).slice (rsR h s) (fun _ => rfl)
abbrev qW (d : Bool) (j : Dev nD) (s : Fin 4) : Memref sig .tc .vmem S1x256x1024 .i8 := (qM d).slice (qR j s) (fun _ => rfl)
abbrev amW (j : Dev nD) : Memref sig .tc .vmem S1x8x128 .f32 := amM.slice (amR j) (fun _ => rfl)
abbrev xW (j : Dev nD) : Memref sig .tc .hbm S1024x1024 .f32 := xM.slice (xR j) (fun _ => rfl)
abbrev outWC (d : Bool) (j : Dev nD) : Memref sig .tc .hbm S1024x1024 .f32 := outM.slice (outC d j) (fun _ => rfl)
abbrev outWR (d : Bool) (j : Dev nD) (s : Fin 4) : Memref sig .tc .hbm S256x1024 .f32 := outM.slice (outR d j s) (fun _ => rfl)

/-- Rows `256 s ..` of one slot. -/
abbrev chR (s : Fin 4) : Rect S1x1024x1024 :=
  Rect.unit (s := S1x1024x1024) ![0, 256 * s.val, 0] S1x256x1024.size (by revert s; decide)

/-! ### The families of windows: pairwise disjoint, and what they cover -/

section Geometry

omit [FloatOps F]

theorem rowR_dis : ∀ s t : Fin 4, s ≠ t → Disjoint (rowR s).set (rowR t).set := by
  intro s t h
  rw [Finset.disjoint_left]
  intro i hi hj
  have h1 := Rect.mem_set_unit.mp hi 0
  have h2 := Rect.mem_set_unit.mp hj 0
  simp at h1 h2
  exact h (Fin.ext (by omega))

theorem rowR_cov : (Finset.univ : Finset (Fin 4)).biUnion (fun s => (rowR s).set) = Finset.univ := by
  ext i
  simp only [Finset.mem_biUnion, Finset.mem_univ, true_and, iff_true]
  have h0 : (i 0).val < 1024 := (i 0).isLt
  have h1 : (i 1).val < 1024 := (i 1).isLt
  refine ⟨⟨(i 0).val / 256, by omega⟩, Rect.mem_set_unit.mpr fun a => ?_⟩
  match a with
  | 0 => simp; omega
  | 1 => simp; omega

theorem chR_dis : ∀ s t : Fin 4, s ≠ t → Disjoint (chR s).set (chR t).set := by
  intro s t h
  rw [Finset.disjoint_left]
  intro i hi hj
  have h1 := Rect.mem_set_unit.mp hi 1
  have h2 := Rect.mem_set_unit.mp hj 1
  simp at h1 h2
  exact h (Fin.ext (by omega))

theorem chR_cov : (Finset.univ : Finset (Fin 4)).biUnion (fun s => (chR s).set) = Finset.univ := by
  ext i
  simp only [Finset.mem_biUnion, Finset.mem_univ, true_and, iff_true]
  have h0 : (i 0).val < 1 := (i 0).isLt
  have h1 : (i 1).val < 1024 := (i 1).isLt
  have h2 : (i 2).val < 1024 := (i 2).isLt
  refine ⟨⟨(i 1).val / 256, by omega⟩, Rect.mem_set_unit.mpr fun a => ?_⟩
  match a with
  | 0 => simp; omega
  | 1 => simp; omega
  | 2 => simp; omega

theorem rsR_dis : ∀ s t : Fin 3 × Fin 4, s ≠ t → Disjoint (rsR s.1 s.2).set (rsR t.1 t.2).set := by
  intro s t h
  rw [Finset.disjoint_left]
  intro i hi hj
  have h0 := Rect.mem_set_unit.mp hi 0
  have h0' := Rect.mem_set_unit.mp hj 0
  have h1 := Rect.mem_set_unit.mp hi 1
  have h2 := Rect.mem_set_unit.mp hj 1
  simp at h0 h0' h1 h2
  exact h (Prod.ext (Fin.ext (by omega)) (Fin.ext (by omega)))

theorem rsR_cov : (Finset.univ : Finset (Fin 3 × Fin 4)).biUnion (fun s => (rsR s.1 s.2).set) = Finset.univ := by
  ext i
  simp only [Finset.mem_biUnion, Finset.mem_univ, true_and, iff_true]
  have h0 : (i 0).val < 3 := (i 0).isLt
  have h1 : (i 1).val < 1024 := (i 1).isLt
  have h2 : (i 2).val < 1024 := (i 2).isLt
  refine ⟨(⟨(i 0).val, h0⟩, ⟨(i 1).val / 256, by omega⟩), Rect.mem_set_unit.mpr fun a => ?_⟩
  match a with
  | 0 => simp
  | 1 => simp; omega
  | 2 => simp; omega

theorem qR_dis : ∀ s t : Dev nD × Fin 4, s ≠ t → Disjoint (qR s.1 s.2).set (qR t.1 t.2).set := by
  intro s t h
  rw [Finset.disjoint_left]
  intro i hi hj
  have h0 := Rect.mem_set_unit.mp hi 0
  have h0' := Rect.mem_set_unit.mp hj 0
  have h1 := Rect.mem_set_unit.mp hi 1
  have h2 := Rect.mem_set_unit.mp hj 1
  simp at h0 h0' h1 h2
  exact h (Prod.ext (Fin.ext (by omega)) (Fin.ext (by omega)))

theorem qR_cov : (Finset.univ : Finset (Dev nD × Fin 4)).biUnion (fun s => (qR s.1 s.2).set) = Finset.univ := by
  ext i
  simp only [Finset.mem_biUnion, Finset.mem_univ, true_and, iff_true]
  have h0 : (i 0).val < 4 := (i 0).isLt
  have h1 : (i 1).val < 1024 := (i 1).isLt
  have h2 : (i 2).val < 1024 := (i 2).isLt
  refine ⟨(⟨(i 0).val, h0⟩, ⟨(i 1).val / 256, by omega⟩), Rect.mem_set_unit.mpr fun a => ?_⟩
  match a with
  | 0 => simp
  | 1 => simp; omega
  | 2 => simp; omega

theorem amR_dis : ∀ s t : Dev nD, s ≠ t → Disjoint (amR s).set (amR t).set := by
  intro s t h
  rw [Finset.disjoint_left]
  intro i hi hj
  have h1 := Rect.mem_set_unit.mp hi 0
  have h2 := Rect.mem_set_unit.mp hj 0
  simp at h1 h2
  exact h (Fin.ext (by omega))

theorem amR_cov : (Finset.univ : Finset (Dev nD)).biUnion (fun s => (amR s).set) = Finset.univ := by
  ext i
  simp only [Finset.mem_biUnion, Finset.mem_univ, true_and, iff_true]
  have h0 : (i 0).val < 4 := (i 0).isLt
  have h1 : (i 1).val < 8 := (i 1).isLt
  have h2 : (i 2).val < 128 := (i 2).isLt
  refine ⟨⟨(i 0).val, h0⟩, Rect.mem_set_unit.mpr fun a => ?_⟩
  match a with
  | 0 => simp
  | 1 => simp; omega
  | 2 => simp; omega

theorem xR_dis : ∀ s t : Dev nD, s ≠ t → Disjoint (xR s).set (xR t).set := by
  intro s t h
  rw [Finset.disjoint_left]
  intro i hi hj
  have h1 := Rect.mem_set_unit.mp hi 0
  have h2 := Rect.mem_set_unit.mp hj 0
  simp at h1 h2
  exact h (Fin.ext (by omega))

theorem xR_cov : (Finset.univ : Finset (Dev nD)).biUnion (fun s => (xR s).set) = Finset.univ := by
  ext i
  simp only [Finset.mem_biUnion, Finset.mem_univ, true_and, iff_true]
  have h0 : (i 0).val < 4096 := (i 0).isLt
  have h1 : (i 1).val < 1024 := (i 1).isLt
  refine ⟨⟨(i 0).val / 1024, by show _ < 4; omega⟩, Rect.mem_set_unit.mpr fun a => ?_⟩
  match a with
  | 0 => simp; omega
  | 1 => simp; omega

theorem outC_dis : ∀ s t : Bool × Dev nD, s ≠ t → Disjoint (outC s.1 s.2).set (outC t.1 t.2).set := by
  rintro ⟨d, s⟩ ⟨e, t⟩ h
  rw [Finset.disjoint_left]
  intro i hi hj
  have h0 := Rect.mem_set_unit.mp hi 0
  have h0' := Rect.mem_set_unit.mp hj 0
  have h1 := Rect.mem_set_unit.mp hi 1
  have h2 := Rect.mem_set_unit.mp hj 1
  simp at h0 h0' h1 h2
  refine h (Prod.ext ?_ (Fin.ext (by show s.val = t.val; omega)))
  cases d <;> cases e <;> simp at h1 h2 ⊢ <;> omega

theorem outC_cov : (Finset.univ : Finset (Bool × Dev nD)).biUnion (fun s => (outC s.1 s.2).set) = Finset.univ := by
  ext i
  simp only [Finset.mem_biUnion, Finset.mem_univ, true_and, iff_true]
  have h0 : (i 0).val < 4096 := (i 0).isLt
  have h1 : (i 1).val < 2048 := (i 1).isLt
  refine ⟨(decide (1024 ≤ (i 1).val), ⟨(i 0).val / 1024, by show _ < 4; omega⟩), Rect.mem_set_unit.mpr fun a => ?_⟩
  match a with
  | 0 => simp; omega
  | 1 => simp; split <;> omega

end Geometry

/-! ## The copies and the cells -/

/-- The remote copies a device starts. -/
inductive Cp where
  | rs (d : Bool) (h : Fin 3) (s : Fin 4)
  | ag (d : Bool) (g : Fin 3) (s : Fin 4)
  | ax (k : Fin 3)
  deriving DecidableEq

/-- The remote copies, as a sum the library counts. -/
def cpEquiv : Cp ≃ ((Bool × Fin 3 × Fin 4) ⊕ (Bool × Fin 3 × Fin 4)) ⊕ Fin 3 where
  toFun | .rs d h s => .inl (.inl (d, h, s)) | .ag d g s => .inl (.inr (d, g, s)) | .ax k => .inr k
  invFun | .inl (.inl (d, h, s)) => .rs d h s | .inl (.inr (d, g, s)) => .ag d g s | .inr k => .ax k
  left_inv := by rintro (_ | _ | _) <;> rfl
  right_inv := by rintro ((_ | _) | _) <;> rfl

instance : Fintype Cp := Fintype.ofEquiv _ cpEquiv.symm

/-- The cells several devices touch: the runtime's barrier, the kernel's own second barrier, and each copy's two. -/
inductive CIx where
  | bar
  | sec
  | snd (e : Cp)
  | rcv (e : Cp)
  deriving DecidableEq

def cixEquiv : CIx ≃ (Bool × Cp) ⊕ Bool where
  toFun | .bar => .inr false | .sec => .inr true | .snd e => .inl (false, e) | .rcv e => .inl (true, e)
  invFun | .inr false => .bar | .inr true => .sec | .inl (false, e) => .snd e | .inl (true, e) => .rcv e
  left_inv := by rintro (_ | _ | _ | _) <;> rfl
  right_inv := by rintro ((⟨_ | _, _⟩) | (_ | _)) <;> rfl

instance : Fintype CIx := Fintype.ofEquiv _ cixEquiv.symm

/-- A copy's place among the semaphores of its kind, as the kernel lays them out: the send cell's number, -/
def sndN : Cp → ℕ
  | .rs d h s => (if d then 28 else 4) + (4 * h.val + s.val)
  | .ag d g s => (if d then 82 else 58) + (4 * g.val + s.val)
  | .ax k => 52 + k.val
/-- and the receive cell's. -/
def rcvN : Cp → ℕ
  | .rs d h s => (if d then 40 else 16) + (4 * h.val + s.val)
  | .ag d g s => (if d then 94 else 70) + (4 * g.val + s.val)
  | .ax k => 55 + k.val

theorem sndN_lt : ∀ e, sndN e < 106 := by decide +kernel
theorem rcvN_lt : ∀ e, rcvN e < 106 := by decide +kernel

def csem : CIx → SemLoc sig
  | .bar => .reg (0 : Fin 2)
  | .sec => .reg (1 : Fin 2)
  | .snd e => .dma (⟨sndN e, sndN_lt e⟩ : Fin 106)
  | .rcv e => .dma (⟨rcvN e, rcvN_lt e⟩ : Fin 106)

theorem csem_inj : Function.Injective csem := by
  have h : ∀ a b : CIx, csem a = csem b → a = b := by decide +kernel
  exact fun a b => h a b

/-- Which of the cells a semaphore is. -/
def cix (sm : SemLoc sig) : Option CIx := if h : ∃ k, csem k = sm then some h.choose else none

theorem cix_csem (k : CIx) : cix (csem k) = some k := by
  have h : ∃ k', csem k' = csem k := ⟨k, rfl⟩
  unfold cix
  rw [dif_pos h]
  exact congrArg some (csem_inj h.choose_spec)

abbrev cellOf' (c : Dev nD) (k : CIx) : GSem nD τ sig := ((c : Thread nD τ), csem k)

/-! ## Contents -/

variable (m : (ℓ : Loc nD τ sig) → Buf (Elt F) ℓ)

/-- The device's rows of `x`, chunk `j` of them, and that chunk rounded. -/
def xA (c : Dev nD) : Vec F S4096x1024 .f32 := m ((c : Thread nD τ).loc main_arg0)
def xch (c j : Dev nD) : Vec F S1024x1024 .f32 := fun i => xA m c ((xR j).emb i)
def xbv (c j : Dev nD) : Vec F S1024x1024 .bf16 := k0_pay2 (xch m c j)
/-- The device's block of `w`, rounded, and the columns of direction `d`. -/
def wA (c : Dev nD) : Vec F S1024x2048 .f32 := m ((c : Thread nD τ).loc main_arg1)
def wbv (c : Dev nD) : Vec F S1024x2048 .bf16 := k0_pay1 (wA m c)
def wcol (c : Dev nD) (d : Bool) : Vec F S1024x1024 .bf16 := fun i => wbv m c ((wR d).emb i)

/-- The chunk of `x` device `c` adds in direction `d` at hop `h`. -/
def chunkAt (d : Bool) (h : Fin 3) (c : Dev nD) : Dev nD := if d then rot (h.val + 1) c else rot (3 - h.val) c

/-- The product added in direction `d` at hop `h`. -/
def pv (c : Dev nD) (d : Bool) (h : Fin 3) : Vec F S1024x1024 .f32 := k0_pay12 (xbv m c (chunkAt d h c)) (wcol m c d)

/-- What one hop adds to the rows it received. -/
def stepV : Fin 4 → Vec F S1024x1024 .f32 → Vec F S1x256x1024 .bf16 → Vec F S256x1024 .bf16
  | 0 => k0_pay15
  | 1 => k0_pay17
  | 2 => k0_pay19
  | 3 => k0_pay21

/-- Rows as a slot of a landing buffer shows them. -/
def unsq {e : EltTy} (X : Vec F S256x1024 e) : Vec F S1x256x1024 e :=
  fun i => X ((Shape.reshapeEquiv squeezes_S1x256x1024_S256x1024.numel_eq).symm i)

/-- The accumulator's rows after `k` hops. -/
def accv (d : Bool) (s : Fin 4) : ℕ → Dev nD → Vec F S256x1024 .bf16
  | 0, c => k0_pay3 (fun i => xbv m c c ((rowR s).emb i)) (wcol m c d)
  | k + 1, c => stepV s (pv m c d (Fin.ofNat 3 k)) (unsq (accv d s k (srcD d c)))

/-- What hop `h` leaves in its landing slot. -/
def rsv (c : Dev nD) (d : Bool) (h : Fin 3) (s : Fin 4) : Vec F S1x256x1024 .bf16 := unsq (accv m d s h.val (srcD d c))

/-- The largest absolute value of the last hop's rows. -/
def maxV : Fin 4 → Vec F S1024x1024 .f32 → Vec F S1x256x1024 .bf16 → F .f32
  | 0 => fun P v => k0_pay46 (k0_pay45 P v)
  | 1 => k0_pay49
  | 2 => k0_pay55
  | 3 => k0_pay61

def mxv (c : Dev nD) (d : Bool) (s : Fin 4) : F .f32 := maxV s (pv m c d 2) (rsv m c d 2 s)

/-- The device's maximum, as its row of the table; the table; the scale. -/
def amv (c : Dev nD) : Vec F S1x8x128 .f32 :=
  k0_pay65 (mxv m c false 0) (mxv m c true 0) (mxv m c false 1) (mxv m c true 1) (mxv m c false 2) (mxv m c true 2) (mxv m c false 3) (mxv m c true 3)
def amT : Vec F S4x8x128 .f32 := Rect.glue amR amR_cov (fun j => amv m j)
/-- The scale. -/
def scl : F .f32 := k0_pay66 (amT m)

/-- The slot a chunk has in direction `d` on device `c`, `n` hops after its owner: the chunk there. -/
def slotD (d : Bool) (n : ℕ) (c : Dev nD) : Dev nD := if d then rot (3 + n) c else rot (5 - n) c

/-- Chunk `j`, direction `d`, rows `256 s ..`, quantised (by its owner, `srcD d j`). -/
def qv (d : Bool) (j : Dev nD) (s : Fin 4) : Vec F S1x256x1024 .i8 := k0_pay77 (k0_pay76 (scl m) (accv m d s 3 (srcD d j)))

/-- The whole chunk, -/
def qcv (d : Bool) (j : Dev nD) : Vec F S1x1024x1024 .i8 := Rect.glue chR chR_cov (fun s => qv m d j s)
/-- and what it becomes in the result. -/
def outv (d : Bool) (j : Dev nD) : Vec F S1024x1024 .f32 := k0_pay85 (scl m) (qcv m d j)
/-- The result. -/
def OUT : Vec F S4096x2048 .f32 := Rect.glue (fun s : Bool × Dev nD => outC s.1 s.2) outC_cov (fun s => outv m s.1 s.2)

end Cert.Proof
-- ==== Proof.Names.lean ====
/-
  Names for the pieces of state a device holds (`It`), for its payments in program order, and the levels of the semaphore
  cells: a device waits on a cell only below everything it still owes.
-/
module

public import proofs.«01_k».proof.Proof.Setup

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ)

/-! ## Names -/

inductive It where
  /-- `w` staged; `w` rounded, not yet and ready. -/
  | w | wbAny | wb
  /-- Chunk `c + k` of `x`; its buffer, and the rounded one's. -/
  | x (k : Fin 4) | xsAny | xs (k : Fin 4) | xbAny | xb (k : Fin 4)
  /-- The copy of chunk `c + k` in flight; its semaphore at rest. -/
  | xfl (k : Fin 4) | copyZ
  /-- Rows `s` of the accumulator at anything, and after `k` hops. -/
  | accAny (d : Bool) (s : Fin 4) | acc (d : Bool) (s : Fin 4) (k : Fin 4)
  /-- A landing slot of this device at anything, of the neighbour's at anything, of this device once landed. -/
  | rsAny (d : Bool) (h : Fin 3) (s : Fin 4) | rsP (d : Bool) (h : Fin 3) (s : Fin 4) | rs (d : Bool) (h : Fin 3) (s : Fin 4)
  /-- The same of the quantised chunks, the slot `n` hops after its owner; its two halves, for a copy and for the loads beside it. -/
  | qAny (d : Bool) (n : Fin 4) (s : Fin 4) | qP (d : Bool) (n : Fin 4) (s : Fin 4) | q (d : Bool) (n : Fin 4) (s : Fin 4)
  | qL (d : Bool) (n : Fin 4) (s : Fin 4) | qR (d : Bool) (n : Fin 4) (s : Fin 4)
  /-- A whole chunk of them, at the second half; and below the whole table of maxima. -/
  | qC (d : Bool) (n : Fin 4)
  /-- Row `c + k` of this device's table at anything; the device's own row; a share of it for one copy; the row this device
      writes on device `c + k + 1`; the row of device `c + 1`'s table this device hands on; a row landed. -/
  | amAny (k : Fin 4) | am | amAll | amS (k : Fin 3) | amP (k : Fin 3) | amF | amL (k : Fin 3)
  /-- The staging of the result: at anything, at a chunk; rows of it. -/
  | stAny (d : Bool) | stC (d : Bool) (n : Fin 3) | stRAny (d : Bool) (s : Fin 4) | stR (d : Bool) (s : Fin 4)
  /-- The result's windows, before and after; the copy of a chunk in flight; the copies' semaphore at rest; the four copies of
      the last chunk's rows, `i` started and `w` waited for. -/
  | outAny (d : Bool) (n : Fin 3) | out (d : Bool) (n : Fin 3) | outRAny (d : Bool) (s : Fin 4) | outR (d : Bool) (s : Fin 4)
  | outFl (d : Bool) (n : Fin 3) | oz (d : Bool) | bat (d : Bool) (i w : ℕ)
  /-- A remote copy not started, started, its source back, landed. -/
  | idle (e : Cp) | live (e : Cp) | half (e : Cp) | fin (e : Cp)
  /-- The barrier: the right to signal a neighbour, the right to wait, at rest; the second barrier. -/
  | barT (d : Bool) | barW | barZ | secT (d : Bool) | secW | secZ
  /-- What the device still owes, the first `n` payments made. -/
  | ow (n : ℕ)
  deriving DecidableEq

/-! ## What a device owes, in program order -/

/-- A payment: the barrier signal to the neighbour in direction `d`, a copy, the second barrier's signal. -/
inductive Pay where
  | bar (d : Bool) | cp (e : Cp) | sec (d : Bool)
  deriving DecidableEq

/-- The sub-blocks in the order the kernel visits them. -/
def sweep : List (Bool × Fin 4) := [(false, 0), (true, 0), (false, 1), (true, 1), (false, 2), (true, 2), (false, 3), (true, 3)]

def payL : List Pay :=
  [.bar true, .bar false]
    ++ (sweep.map fun p => .cp (.rs p.1 0 p.2)) ++ (sweep.map fun p => .cp (.rs p.1 1 p.2)) ++ (sweep.map fun p => .cp (.rs p.1 2 p.2))
    ++ [.cp (.ax 0), .cp (.ax 1), .cp (.ax 2)]
    ++ (sweep.map fun p => .cp (.ag p.1 0 p.2)) ++ (sweep.map fun p => .cp (.ag p.1 1 p.2)) ++ (sweep.map fun p => .cp (.ag p.1 2 p.2))
    ++ [.sec true, .sec false]

/-- The device copy `e` of device `c` writes to, and the one whose copy `e` writes to `c`. -/
def cpDst : Cp → Dev nD → Dev nD
  | .rs d _ _, c => dstD d c
  | .ag d _ _, c => dstD d c
  | .ax k, c => rot (k.val + 1) c
def cpSrc : Cp → Dev nD → Dev nD
  | .rs d _ _, c => srcD d c
  | .ag d _ _, c => srcD d c
  | .ax k, c => rot (3 - k.val) c

theorem cpSrc_dst : ∀ (e : Cp) (c : Dev nD), cpSrc e (cpDst e c) = c := by decide +kernel
theorem cpDst_src : ∀ (e : Cp) (c : Dev nD), cpDst e (cpSrc e c) = c := by decide +kernel

/-- What a copy credits. -/
def cpN : Cp → ℕ
  | .rs d h s => (rsW d h s).view.dmaCredit
  | .ag d _ s => (qW d 0 s).view.dmaCredit
  | .ax _ => (amW 0).view.dmaCredit

theorem numel_pos_S256x1024 : 0 < S256x1024.numel := by decide +kernel
theorem numel_pos_S1x256x1024 : 0 < S1x256x1024.numel := by decide +kernel
theorem numel_pos_S1x8x128 : 0 < S1x8x128.numel := by decide +kernel

theorem cpN_pos : ∀ e : Cp, 0 < cpN e
  | .rs d h s => View.dmaCredit_pos (rsW d h s).view numel_pos_S1x256x1024
  | .ag d _ s => View.dmaCredit_pos (qW d 0 s).view numel_pos_S256x1024
  | .ax _ => View.dmaCredit_pos (amW 0).view numel_pos_S1x8x128

/-- The cell a payment goes to, as the paying device `c` names it, and its amount. -/
def payCell (c : Dev nD) : Pay → GSem nD τ sig
  | .bar d => cellOf' (dstD d c) .bar
  | .cp e => cellOf' (cpDst e c) (.rcv e)
  | .sec d => cellOf' (dstD d c) .sec
def payN : Pay → ℕ
  | .cp e => cpN e
  | _ => 1

/-- What is owed for a list of payments. -/
def owedL (c : Dev nD) : List Pay → CellTallies nD τ sig Unit
  | [] => 0
  | p :: l => owedL c l + tallyAt (payCell c p) () (payN p)

/-! ## Levels -/

/-- The level of a cell: the local copies' and the send cells at 0, then in the order the kernel waits. -/
def lvC : CIx → ℕ
  | .bar => 1
  | .snd _ => 0
  | .rcv (.rs _ h _) => 2 + h.val
  | .rcv (.ax _) => 6
  | .rcv (.ag _ g _) => 7 + g.val
  | .sec => 12
def lvS (sm : SemLoc sig) : ℕ := match cix sm with | some k => lvC k | none => 0

theorem lvS_csem (k : CIx) : lvS (csem k) = lvC k := by unfold lvS; rw [cix_csem]

def L (g : GSem nD τ sig) : Finset Unit := if g.1.2 = .tc then {()} else ∅
def lv (g : GSem nD τ sig) (_ : Unit) : ℕ := lvS g.2

def lvP : Pay → ℕ
  | .bar _ => lvC .bar
  | .cp e => lvC (.rcv e)
  | .sec _ => lvC .sec

theorem L_tc (c : Dev nD) (sm : SemLoc sig) : L ((c : Thread nD τ), sm) = {()} := if_pos rfl

theorem owedL_pos {c : Dev nD} {l : List Pay} {g : GSem nD τ sig} {u : Unit} (h : 0 < owedL c l g u) : ∃ p ∈ l, g = payCell c p := by
  induction l with
  | nil => exact absurd h (Nat.lt_irrefl 0)
  | cons p l ih =>
    unfold owedL at h
    rw [Pi.add_apply, Finsupp.add_apply, tallyAt_apply] at h
    by_cases hp : g = payCell c p ∧ u = ()
    · exact ⟨p, List.mem_cons_self, hp.1⟩
    · rw [if_neg hp] at h
      obtain ⟨p', hp', e⟩ := ih h
      exact ⟨p', List.mem_cons_of_mem _ hp', e⟩

theorem lv_payCell (c : Dev nD) (p : Pay) (u : Unit) : lv (payCell c p) u = lvP p := by
  cases p with
  | bar d => exact lvS_csem .bar
  | cp e => exact lvS_csem (.rcv e)
  | sec d => exact lvS_csem .sec

theorem L_payCell (c : Dev nD) (p : Pay) : L (payCell c p) = {()} := by
  cases p <;> exact L_tc _ _

omit [FloatOps F] in
/-- A device may wait on a cell below everything it still owes. -/
theorem mayWait (c : Dev nD) (sm : SemLoc sig) (n : ℕ) (h : ∀ p ∈ payL.drop n, lvS sm < lvP p) :
    (levAts L lv : sProp 𝕄) ⊢ MayWait (c : Thread nD τ) sm () (owedL c (payL.drop n)) :=
  MayOwe.of_cut (L := L) (lev := lv) (lvS sm)
    (fun p hp => by rw [Finset.mem_singleton.mp hp, L_tc]; exact Finset.mem_singleton_self _)
    (fun g u hg => by obtain ⟨p, _, rfl⟩ := owedL_pos hg; rw [L_payCell]; exact Finset.mem_singleton_self _)
    (fun p hp => by rw [Finset.mem_singleton.mp hp]; exact le_rfl)
    (fun g u hg => by obtain ⟨p, hp, rfl⟩ := owedL_pos hg; rw [lv_payCell]; exact h p hp)

end Cert.Proof
-- ==== Proof.Items.lean ====
/-
  The pieces of state device `c` holds while it runs the kernel, each named by an `It` and given by `res`: a window of a
  buffer, at known contents or at any; a copy in flight; a copy's place in its protocol; what the device still owes. A part
  of the kernel is then described by two lists of names: what it takes and what it leaves.
-/
module

public import proofs.«01_k».proof.Proof.Names

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ)

/-! ## What each name stands for -/

/-- A window at whatever it holds. -/
def anyW (c : Dev nD) {sp : Space} {sh : Shape} {e : EltTy} (w : Memref sig .tc sp sh e) : sProp 𝕄 :=
  iprop(∃ X, owns (c : Thread nD τ) w fullShare X)

/-- A window at `X`. -/
abbrev atW (c : Dev nD) {sp : Space} {sh : Shape} {e : EltTy} (w : Memref sig .tc sp sh e) (q : PosShare TreeShare) (X : sh.Idx → Elt F e) : sProp 𝕄 :=
  owns (c : Thread nD τ) w q X

/-- A local copy in flight: it hands back its source and its destination, holding the source's contents. -/
def flW (c : Dev nD) {sp sp' : Space} {sh : Shape} {e : EltTy} (src : Memref sig .tc sp sh e) (dst : Memref sig .tc sp' sh e)
    (sm : SemLoc sig) (X : sh.Idx → Elt F e) : sProp 𝕄 :=
  iprop(∃ (D : sProp 𝕄), ⌜D ⊢ iprop(atW c dst fullShare X ∗ atW c src fullShare X)⌝ ∗ Transfers.Flight EC (c : Thread nD τ) sm () dst.view.dmaCredit D)

/-- The semaphore of the copies of `x`, and of the copies into the result. -/
def copyS : SemLoc sig := .dma (1 : Fin 106)
def outS (d : Bool) : SemLoc sig := .dma (if d then (3 : Fin 106) else 2)

/-- The contents of rows `s` of the last chunk in the staging buffer. -/
def stv (c : Dev nD) (d : Bool) (s : Fin 4) : Vec F S256x1024 .f32 := fun i => outv m d (slotD d 3 c) ((rowR s).emb i)

/-- What the copy of rows `s` of the last chunk hands back. -/
def batD (c : Dev nD) (d : Bool) (s : Fin 4) : sProp 𝕄 :=
  iprop(atW c (outWR d (slotD d 3 c) s) fullShare (stv m c d s) ∗ atW c (stW d s) fullShare (stv m c d s))

instance batD_storable (c : Dev nD) (d : Bool) (s : Fin 4) : BI.Storable (upEmb : UEmb _ 𝕄) (batD m c d s) := by
  unfold batD; infer_instance

def batN (d : Bool) : ℕ := (outWR d 0 0).view.dmaCredit

/-- Shares of the device's own row: a half for the first copy, the other halved again for the other two. -/
def amQ : Fin 3 → PosShare TreeShare
  | 0 => fullShare.left
  | 1 => fullShare.right.left
  | 2 => fullShare.right.right

def res (c : Dev nD) : It → sProp 𝕄
  | .w => atW c wM fullShare (wA m c)
  | .wbAny => anyW c wbM
  | .wb => atW c wbM fullShare (wbv m c)
  | .x k => atW c (xW (rot k c)) fullShare (xch m c (rot k c))
  | .xsAny => anyW c xsM
  | .xs k => atW c xsM fullShare (xch m c (rot k c))
  | .xbAny => anyW c xbM
  | .xb k => atW c xbM fullShare (xbv m c (rot k c))
  | .xfl k => flW c (xW (rot k c)) xsM copyS (xch m c (rot k c))
  | .copyZ => semVal ((c : Thread nD τ), copyS) 0
  | .accAny d s => anyW c (accW d s)
  | .acc d s k => atW c (accW d s) fullShare (accv m d s k c)
  | .rsAny d h s => anyW c (rsW d h s)
  | .rsP d h s => anyW (dstD d c) (rsW d h s)
  | .rs d h s => atW c (rsW d h s) fullShare (rsv m c d h s)
  | .qAny d n s => anyW c (qW d (slotD d n c) s)
  | .qP d n s => anyW (dstD d c) (qW d (slotD d n (dstD d c)) s)
  | .q d n s => atW c (qW d (slotD d n c) s) fullShare (qv m d (slotD d n c) s)
  | .qL d n s => atW c (qW d (slotD d n c) s) fullShare.left (qv m d (slotD d n c) s)
  | .qR d n s => atW c (qW d (slotD d n c) s) fullShare.right (qv m d (slotD d n c) s)
  | .qC d n => owns (c : Thread nD τ) ((qM d).slice (qC (slotD d n c)) (fun _ => rfl)) fullShare.right (qcv m d (slotD d n c))
  | .amAny k => anyW c (amW (rot k c))
  | .am => atW c (amW c) fullShare (amv m c)
  | .amAll => atW c amM fullShare (amT m)
  | .amS k => atW c (amW c) (amQ k) (amv m c)
  | .amP k => anyW (rot (k.val + 1) c) (amW c)
  | .amF => anyW (rot 1 c) (amW (rot 3 c))
  | .amL k => atW c (amW (rot (3 - k.val) c)) fullShare (amv m (rot (3 - k.val) c))
  | .stAny d => anyW c (stM d)
  | .stC d n => atW c (stM d) fullShare (outv m d (slotD d n c))
  | .stRAny d s => anyW c (stW d s)
  | .stR d s => atW c (stW d s) fullShare (stv m c d s)
  | .outAny d n => anyW c (outWC d (slotD d n c))
  | .out d n => atW c (outWC d (slotD d n c)) fullShare (outv m d (slotD d n c))
  | .outRAny d s => anyW c (outWR d (slotD d 3 c) s)
  | .outR d s => atW c (outWR d (slotD d 3 c) s) fullShare (stv m c d s)
  | .outFl d n => flW c (stM d) (outWC d (slotD d n c)) (outS d) (outv m d (slotD d n c))
  | .oz d => semVal ((c : Thread nD τ), outS d) 0
  | .bat d i w => Transfers.Batch EC (c : Thread nD τ) (outS d) () (batN d) (batD m c d) i (batN d * w)
  | .idle e => iprop(dutyTok ER (cellOf' c (.snd e)) 0 false ∗ dutyTok ER (cellOf' (cpDst e c) (.rcv e)) 0 false
      ∗ atPos ER (cellOf' c (.snd e)) 0 ∅ 0 ∗ atPos ER (cellOf' c (.rcv e)) 0 ∅ 0 ∗ cred (tallyAt (cellOf' c (.rcv e)) () (cpN e)))
  | .live e => iprop(cred (tallyAt (cellOf' c (.snd e)) () (cpN e))
      ∗ atPos ER (cellOf' c (.snd e)) 0 ∅ 0 ∗ atPos ER (cellOf' c (.rcv e)) 0 ∅ 0 ∗ cred (tallyAt (cellOf' c (.rcv e)) () (cpN e)))
  | .half e => iprop(semVal (cellOf' c (.snd e)) 0
      ∗ atPos ER (cellOf' c (.rcv e)) 0 ∅ 0 ∗ cred (tallyAt (cellOf' c (.rcv e)) () (cpN e)))
  | .fin e => iprop(semVal (cellOf' c (.snd e)) 0 ∗ semVal (cellOf' c (.rcv e)) 0)
  | .barT d => dutyTok ER (cellOf' (dstD d c) .bar) 0 d
  | .barW => iprop(atPos ER (cellOf' c .bar) 0 ∅ 0 ∗ cred (tallyAt (cellOf' c .bar) () 2))
  | .barZ => semVal (cellOf' c .bar) 0
  | .secT d => dutyTok ER (cellOf' (dstD d c) .sec) 0 d
  | .secW => iprop(atPos ER (cellOf' c .sec) 0 ∅ 0 ∗ cred (tallyAt (cellOf' c .sec) () 2))
  | .secZ => semVal (cellOf' c .sec) 0
  | .ow n => iprop(∃ W, owes (c : Thread nD τ) (owedL c (payL.drop n)) W)

/-- A list of pieces. -/
def ctx (c : Dev nD) : List It → sProp 𝕄
  | [] => iprop(emp)
  | i :: l => iprop(res m c i ∗ ctx c l)

theorem ctx_cons (c : Dev nD) (i : It) (l : List It) : ctx m c (i :: l) = iprop(res m c i ∗ ctx m c l) := rfl
theorem ctx_nil (c : Dev nD) : ctx m c [] = iprop(emp) := rfl

theorem ctx_append (c : Dev nD) (l l' : List It) : ctx m c (l ++ l') = iprop(ctx m c l ∗ ctx m c l') := by
  induction l with
  | nil => exact (equiv_iff.mp emp_sep).symm
  | cons i l ih =>
    rw [List.cons_append, ctx_cons, ctx_cons, ih]
    exact sep_assoc'.antisymm sep_assoc

omit [FloatOps F] in
theorem sep_swap {P Q R : sProp 𝕄} : iprop(P ∗ Q ∗ R) ⊢ iprop(Q ∗ P ∗ R) := by
  iintro ⟨H1, H2, H3⟩
  isplitl [H2]; · iexact H2
  isplitl [H1]; · iexact H1
  iexact H3

theorem ctx_perm (c : Dev nD) {l l' : List It} (h : l.Perm l') : ctx m c l = ctx m c l' := by
  induction h with
  | nil => rfl
  | cons i _ ih => rw [ctx_cons, ctx_cons, ih]
  | swap i j l =>
    rw [ctx_cons, ctx_cons, ctx_cons, ctx_cons]
    exact Entails.antisymm sep_swap sep_swap
  | trans _ _ ih ih' => exact ih.trans ih'

/-! ## The cells' schedule -/

/-- What the neighbours' barrier signals hand device `c`: duty `d` is paid by the neighbour direction `d` comes from, and
    hands over what direction `!d` writes there. -/
def barItems (d : Bool) : List It :=
  ((List.finRange 3).flatMap fun h => (List.finRange 4).map fun s => It.rsP d h s)
    ++ ((List.finRange 3).flatMap fun g => (List.finRange 4).map fun s => It.qP d g.succ s)
    ++ (if d then [It.amP 2] else [It.amP 0, It.amF])

/-- What each duty of each cell hands over. -/
def payItems : CIx → Bool → List It
  | .bar, d => barItems (!d)
  | .sec, _ => []
  | .snd (.rs d h s), _ => [.acc d s h.castSucc]
  | .snd (.ag d g s), _ => [.qL d g.castSucc s]
  | .snd (.ax k), _ => [.amS k]
  | .rcv (.rs d h s), _ => if d = true ∧ h = 0 ∧ s = 0 then [.rs d h s, .amP 1] else [.rs d h s]
  | .rcv (.ag d g s), _ => [.q d g.succ s]
  | .rcv (.ax k), _ => [.amL k]

abbrev payld (c : Dev nD) (k : CIx) (d : Bool) : sProp 𝕄 := ctx m c (payItems k d)

def dutC : CIx → Finset Bool
  | .bar => Finset.univ
  | .sec => Finset.univ
  | _ => {false}
def amtC : CIx → ℕ
  | .snd e => cpN e
  | .rcv e => cpN e
  | _ => 1

theorem amtC_pos : ∀ k : CIx, 0 < amtC k
  | .bar => Nat.one_pos
  | .sec => Nat.one_pos
  | .snd e => cpN_pos e
  | .rcv e => cpN_pos e

instance anyW_storable (c : Dev nD) {sp : Space} {sh : Shape} {e : EltTy} (w : Memref sig .tc sp sh e) :
    BI.Storable (upEmb : UEmb _ 𝕄) (anyW c w) := by
  unfold anyW; infer_instance

/-- The kernel's schedule: one round on every cell. -/
def Rd : Rounds.Schedule (GSem nD τ sig) Bool 𝕄 where
  duties g r := if r = 0 ∧ g.1.2 = .tc then (match cix g.2 with | some k => dutC k | none => ∅) else ∅
  unitless _ := False
  amount g _ _ := match cix g.2 with | some k => amtC k | none => 1
  payload g _ d := match cix g.2 with | some k => payld m g.1.1 k d | none => iprop(emp)
  amount_pos g _ _ _ := by
    rcases cix g.2 with _ | k
    · exact Nat.one_pos
    · exact amtC_pos k

/-- The names that stand for windows a cell may hand over. -/
def handed : It → Bool
  | .rsP .. => true
  | .qP .. => true
  | .amP _ => true
  | .amF => true
  | .acc .. => true
  | .qL .. => true
  | .amS _ => true
  | .rs .. => true
  | .q .. => true
  | .amL _ => true
  | _ => false

theorem res_storable (c : Dev nD) : ∀ i : It, handed i = true → BI.Storable (upEmb : UEmb _ 𝕄) (res m c i)
  | .rsP d h s, _ => anyW_storable _ _
  | .qP d n s, _ => anyW_storable _ _
  | .amP k, _ => anyW_storable _ _
  | .amF, _ => anyW_storable _ _
  | .acc d s k, _ => owns_storable _ _ _ _
  | .qL d n s, _ => owns_storable _ _ _ _
  | .amS k, _ => owns_storable _ _ _ _
  | .rs d h s, _ => owns_storable _ _ _ _
  | .q d n s, _ => owns_storable _ _ _ _
  | .amL k, _ => owns_storable _ _ _ _

theorem ctx_storable (c : Dev nD) (l : List It) (h : ∀ i ∈ l, handed i = true) : BI.Storable (upEmb : UEmb _ 𝕄) (ctx m c l) := by
  induction l with
  | nil => rw [ctx_nil]; infer_instance
  | cons i l ih =>
    rw [ctx_cons]
    haveI := res_storable m c i (h i List.mem_cons_self)
    haveI := ih fun j hj => h j (List.mem_cons_of_mem _ hj)
    infer_instance

theorem payItems_handed : ∀ (k : CIx) (d : Bool), ∀ i ∈ payItems k d, handed i = true := by decide +kernel

theorem payld_storable (c : Dev nD) (k : CIx) (d : Bool) : BI.Storable (upEmb : UEmb _ 𝕄) (payld m c k d) :=
  ctx_storable m c _ (payItems_handed k d)

instance Rd_payload_storable (g : GSem nD τ sig) (r : ℕ) (d : Bool) :
    BI.Storable (upEmb : UEmb _ 𝕄) ((Rd m).payload g r d) := by
  show BI.Storable upEmb (match cix g.2 with | some k => payld m g.1.1 k d | none => iprop(emp))
  rcases cix g.2 with _ | k
  · show BI.Storable upEmb iprop(emp); infer_instance
  · exact payld_storable m _ k d

theorem Rd_duties (c : Dev nD) (k : CIx) : (Rd m).duties (cellOf' c k) 0 = dutC k := by
  show (if (0 : ℕ) = 0 ∧ (c : Thread nD τ).2 = .tc then (match cix (csem k) with | some k => dutC k | none => ∅) else ∅) = _
  rw [cix_csem, if_pos ⟨rfl, rfl⟩]
theorem Rd_later (g : GSem nD τ sig) : ∀ r, 1 ≤ r → (Rd m).duties g r = ∅ :=
  fun r hr => if_neg fun h => by omega
theorem Rd_amount (c : Dev nD) (k : CIx) (r : ℕ) (d : Bool) : (Rd m).amount (cellOf' c k) r d = amtC k := by
  show (match cix (csem k) with | some k => amtC k | none => 1) = _
  rw [cix_csem]
theorem Rd_payload (c : Dev nD) (k : CIx) (r : ℕ) (d : Bool) : (Rd m).payload (cellOf' c k) r d = payld m c k d := by
  show (match cix (csem k) with | some k => payld m c k d | none => iprop(emp)) = _
  rw [cix_csem]
theorem Rd_expect (c : Dev nD) (k : CIx) : (Rd m).expect (cellOf' c k) 0 = (dutC k).card * amtC k := by
  unfold Schedule.expect Schedule.amountOf
  rw [Rd_duties, Finset.sum_congr rfl fun d _ => Rd_amount m c k 0 d, Finset.sum_const, smul_eq_mul]

end Cert.Proof
-- ==== Proof.Triples.lean ====
/-
  Running the kernel over lists of pieces: `Tr m c l p Q` says that device `c`, holding the pieces `l` beside the records
  every device shares, runs `p` to `Q`. One rule for each kind of operation: waiting for a copy, starting one, the barriers,
  loads and stores of windows.
-/
module

public import proofs.«01_k».proof.Proof.Items

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ)

abbrev 𝒱₀ : Variants := Variants.none

/-! ## What every device shares -/

def recs (K : Dev nD × CIx → ℕ) : sProp 𝕄 :=
  iprop((bigSep Finset.univ fun ck : Dev nD × CIx => cellInv ER (Rd m) (K ck) (cellOf' ck.1 ck.2))
    ∗ bigSep Finset.univ fun ck : Dev nD × CIx => reached ER (cellOf' ck.1 ck.2) 0)

instance recs_persistent (K : Dev nD × CIx → ℕ) : BI.Persistent (recs m K) := by unfold recs; infer_instance

def env (K : Dev nD × CIx → ℕ) : sProp 𝕄 := iprop(recs m K ∗ levAts L lv)

instance env_persistent (K : Dev nD × CIx → ℕ) : BI.Persistent (env m K) := by unfold env; infer_instance

theorem env_inv (K : Dev nD × CIx → ℕ) (c : Dev nD) (k : CIx) : env m K ⊢ cellInv ER (Rd m) (K (c, k)) (cellOf' c k) := by
  unfold env recs
  have h : (bigSep Finset.univ fun ck : Dev nD × CIx => (cellInv ER (Rd m) (K ck) (cellOf' ck.1 ck.2) : sProp 𝕄)) ⊢ cellInv ER (Rd m) (K (c, k)) (cellOf' c k) := bigSep_elim (Finset.mem_univ (c, k))
  iintro ⟨⟨H, -⟩, -⟩
  iapply h; iexact H

theorem env_reached (K : Dev nD × CIx → ℕ) (c : Dev nD) (k : CIx) : env m K ⊢ reached ER (cellOf' c k) 0 := by
  unfold env recs
  have h : (bigSep Finset.univ fun ck : Dev nD × CIx => (reached ER (cellOf' ck.1 ck.2) 0 : sProp 𝕄)) ⊢ reached ER (cellOf' c k) 0 := bigSep_elim (Finset.mem_univ (c, k))
  iintro ⟨⟨-, H⟩, -⟩
  iapply h; iexact H

theorem env_lev (K : Dev nD × CIx → ℕ) : env m K ⊢ levAts L lv := by
  unfold env
  iintro ⟨-, H⟩
  iexact H

/-! ## Triples -/

abbrev 𝓦 (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

def Tr (c : Dev nD) (l : List It) {α : Type} (p : Prog (TpuEff nD τ sig (Elt F) Λ₀ .tc) α) (Q : α → sProp 𝕄) : Prop :=
  ∀ K : Dev nD × CIx → ℕ, iprop(env m K ∗ ctx m c l) ⊢ 𝓦 c p Q

variable {m} {c : Dev nD} {α : Type}

/-- Pieces in another order. -/
theorem Tr.perm {Q : α → sProp 𝕄} {l l' : List It} {p : Prog (TpuEff nD τ sig (Elt F) Λ₀ .tc) α} (h : l'.isPerm l = true) (hp : Tr m c l' p Q) :
    Tr m c l p Q := fun K => by
  rw [← ctx_perm m c (List.isPerm_iff.mp h)]
  exact hp K

/-- Some of the pieces brought to the front. -/
theorem Tr.use {Q : α → sProp 𝕄} {l : List It} (pre : List It) {p : Prog (TpuEff nD τ sig (Elt F) Λ₀ .tc) α} (h : (pre ++ l.diff pre).isPerm l = true)
    (hp : Tr m c (pre ++ l.diff pre) p Q) : Tr m c l p Q := Tr.perm h hp

/-- A reordering of the first pieces. -/
theorem Tr.pick {Q : α → sProp 𝕄} {l : List It} (is : List ℕ) {fr : List It} {p : Prog (TpuEff nD τ sig (Elt F) Λ₀ .tc) α}
    (h : (is.isPerm (List.range l.length)) = true) (hp : Tr m c (is.map (fun i => l.getD i (.ow 0)) ++ fr) p Q) :
    Tr m c (l ++ fr) p Q := fun K => by
  have e : (List.range l.length).map (fun i => l.getD i (.ow 0)) = l := by
    apply List.ext_getElem
    · simp
    · intro i h1 h2; simp [List.getD_eq_getElem?_getD, h2]
  have := (List.isPerm_iff.mp h).map (fun i => l.getD i (It.ow 0))
  rw [e] at this
  rw [← ctx_perm m c (this.append_right fr)]
  exact hp K

/-! ## The rules -/

theorem lvP_pos : ∀ p : Pay, 0 < lvP p
  | .bar _ => Nat.one_pos
  | .cp (.rs _ h _) => by show 0 < 2 + h.val; omega
  | .cp (.ag _ g _) => by show 0 < 7 + g.val; omega
  | .cp (.ax _) => by show 0 < 6; omega
  | .sec _ => by show 0 < 12; omega

theorem snd_expect (c : Dev nD) (e : Cp) : 0 + cpN e = (Rd m).expect (cellOf' c (.snd e)) 0 := by
  rw [Rd_expect]; show 0 + cpN e = 1 * cpN e; omega
theorem rcv_expect (c : Dev nD) (e : Cp) : 0 + cpN e = (Rd m).expect (cellOf' c (.rcv e)) 0 := by
  rw [Rd_expect]; show 0 + cpN e = 1 * cpN e; omega

theorem snd_pay (c : Dev nD) (e : Cp) :
    bigSep ((Rd m).duties (cellOf' c (.snd e)) 0 \ ∅) (fun d => (Rd m).payload (cellOf' c (.snd e)) 0 d) = payld m c (.snd e) false := by
  rw [Finset.sdiff_empty, Rd_duties, show dutC (.snd e) = {false} from rfl, bigSep_singleton, Rd_payload]
theorem rcv_pay (c : Dev nD) (e : Cp) :
    bigSep ((Rd m).duties (cellOf' c (.rcv e)) 0 \ ∅) (fun d => (Rd m).payload (cellOf' c (.rcv e)) 0 d) = payld m c (.rcv e) false := by
  rw [Finset.sdiff_empty, Rd_duties, show dutC (.rcv e) = {false} from rfl, bigSep_singleton, Rd_payload]

/-- Waiting for a copy's source: it comes back, and the send cell is at rest. -/
theorem Tr.waitS {Q : α → sProp 𝕄} (e : Cp) (n : ℕ) {fr : List It} {sp sp' : Space} {s s' : Shape} {ty ty' : EltTy} {sem : DmaSem sig}
    {src : Memref sig .tc sp' s' ty'} {dst : Memref sig .tc sp s ty} {hsrc : src.view.WordExact} {hdst : dst.view.WordExact}
    {k : PUnit → Prog (TpuEff nD τ sig (Elt F) Λ₀ .tc) α}
    (hs : SemLoc.dma sem = csem (.snd e)) (hN : dst.view.dmaCredit = cpN e)
    (hk : Tr m c (.half e :: (payItems (.snd e) false ++ .ow n :: fr)) (k ⟨⟩) Q) :
    Tr m c (.live e :: .ow n :: fr) (.op (.waitDma2 sem src dst hsrc hdst) k) Q := fun K => by
  have hk := hk K
  rw [ctx_cons, ctx_append, ctx_cons] at hk
  rw [ctx_cons, ctx_cons]
  simp only [res] at hk ⊢
  iintro ⟨#HE, ⟨Hcr, HaS, HaR, HcR⟩, ⟨%W, How⟩, Hfr⟩
  ihave #Hinv := (env_inv m K c (.snd e)) $$ HE
  ihave #Hlev := (env_lev m K) $$ HE
  have hw := wp_wait_rest_token (Λ := Λ₀) (defs := defs₀ (F := F)) (Q := Q) 𝒱₀ ER (Rd m) (c : Thread nD τ) none (sm := .dma sem) (k' := dst.view.dmaCredit) (κ := K (c, .snd e))
    (wpE_waitDma2_eq (src := src) (dst := dst) (hsrc := hsrc) (hdst := hdst) 𝒱₀ (c : Thread nD τ) none Set.univ) (Set.mem_univ _) (k := k) () (O := owedL c (payL.drop n)) (W := W) (R := 0) (m := 0) (T := ∅)
    (by rw [hs, hN]; exact snd_expect c e)
  rw [hs, hN] at hw
  iapply hw $$ [Hcr How HaS]
  · isplitr; · iexact Hinv
    isplitl [Hcr]; · iexact Hcr
    isplitl [How]; · iexact How
    isplitr
    · iapply (mayWait c (csem (.snd e)) n fun p _ => by rw [lvS_csem]; exact lvP_pos p) $$ Hlev
    iexact HaS
  iintro ⟨How, HaS, -, Hpay⟩
  iapply fupd_wp
  imod (cell_close ER (Rd m) (Set.mem_univ (K (c, .snd e))) (fun h => h) (R := 0 + 1) (Rd_later m _)) $$ [HaS] with Hz
  · isplitr; · iexact Hinv
    iexact HaS
  imodintro
  iapply hk
  isplitr; · iexact HE
  isplitl [Hz HaR HcR]
  · isplitl [Hz]; · iexact Hz
    isplitl [HaR]; · iexact HaR
    iexact HcR
  isplitl [Hpay]
  · iapply (Entails.of_eq (snd_pay (m := m) c e)); iexact Hpay
  isplitl [How]; · iexists _; iexact How
  iexact Hfr

/-- Waiting for a copy to land here: what it brought, and the receive cell at rest. -/
theorem Tr.waitR {Q : α → sProp 𝕄} (e : Cp) (n : ℕ) {fr : List It} {sp sp' : Space} {s s' : Shape} {ty ty' : EltTy} {sem : DmaSem sig}
    {src : Memref sig .tc sp' s' ty'} {dst : Memref sig .tc sp s ty} {hsrc : src.view.WordExact} {hdst : dst.view.WordExact}
    {k : PUnit → Prog (TpuEff nD τ sig (Elt F) Λ₀ .tc) α}
    (hs : SemLoc.dma sem = csem (.rcv e)) (hN : dst.view.dmaCredit = cpN e)
    (hl : ∀ p ∈ payL.drop n, lvC (.rcv e) < lvP p)
    (hk : Tr m c (.fin e :: (payItems (.rcv e) false ++ .ow n :: fr)) (k ⟨⟩) Q) :
    Tr m c (.half e :: .ow n :: fr) (.op (.waitDma2 sem src dst hsrc hdst) k) Q := fun K => by
  have hk := hk K
  rw [ctx_cons, ctx_append, ctx_cons] at hk
  rw [ctx_cons, ctx_cons]
  simp only [res] at hk ⊢
  iintro ⟨#HE, ⟨HzS, HaR, HcR⟩, ⟨%W, How⟩, Hfr⟩
  ihave #Hinv := (env_inv m K c (.rcv e)) $$ HE
  ihave #Hlev := (env_lev m K) $$ HE
  have hw := wp_wait_rest_token (Λ := Λ₀) (defs := defs₀ (F := F)) (Q := Q) 𝒱₀ ER (Rd m) (c : Thread nD τ) none (sm := .dma sem) (k' := dst.view.dmaCredit) (κ := K (c, .rcv e))
    (wpE_waitDma2_eq (src := src) (dst := dst) (hsrc := hsrc) (hdst := hdst) 𝒱₀ (c : Thread nD τ) none Set.univ) (Set.mem_univ _) (k := k) () (O := owedL c (payL.drop n)) (W := W) (R := 0) (m := 0) (T := ∅)
    (by rw [hs, hN]; exact rcv_expect c e)
  rw [hs, hN] at hw
  iapply hw $$ [HcR How HaR]
  · isplitr; · iexact Hinv
    isplitl [HcR]; · iexact HcR
    isplitl [How]; · iexact How
    isplitr
    · iapply (mayWait c (csem (.rcv e)) n fun p hp => by rw [lvS_csem]; exact hl p hp) $$ Hlev
    iexact HaR
  iintro ⟨How, HaR, -, Hpay⟩
  iapply fupd_wp
  imod (cell_close ER (Rd m) (Set.mem_univ (K (c, .rcv e))) (fun h => h) (R := 0 + 1) (Rd_later m _)) $$ [HaR] with Hz
  · isplitr; · iexact Hinv
    iexact HaR
  imodintro
  iapply hk
  isplitr; · iexact HE
  isplitl [Hz HzS]
  · isplitl [HzS]; · iexact HzS
    iexact Hz
  isplitl [Hpay]
  · iapply (Entails.of_eq (rcv_pay (m := m) c e)); iexact Hpay
  isplitl [How]; · iexists _; iexact How
  iexact Hfr

end Cert.Proof
-- ==== Proof.Rules.lean ====
/-
  The rules for copies, barriers, loads and stores over lists of pieces.
-/
module

public import proofs.«01_k».proof.Proof.Triples

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ)

variable {m} {c : Dev nD} {α : Type}

/-! ## Windows seen another way -/

omit [FloatOps F] in
/-- A window with its unit axes dropped is the same window. -/
theorem owns_squeeze (c : Dev nD) {sp : Space} {s s' : Shape} {e : EltTy} (w : Memref sig .tc sp s e) (h : s.Squeezes s')
    (q : PosShare TreeShare) (X : s'.Idx → Elt F e) :
    (owns (c : Thread nD τ) (w.squeeze s' h) q X : sProp 𝕄)
      = owns (c : Thread nD τ) w q (fun i => X ((Shape.reshapeEquiv h.numel_eq).symm i)) := by
  have hr : ∀ f, ((w.squeeze s' h).view.read (Elt F) f = X) = (w.view.read (Elt F) f = fun i => X ((Shape.reshapeEquiv h.numel_eq).symm i)) := fun f => by
    rw [eq_iff_iff]
    constructor
    · intro hf; funext i
      have := congrFun hf ((Shape.reshapeEquiv h.numel_eq).symm i)
      rw [← this]
      show _ = w.view.read (Elt F) f (Shape.reshapeEquiv h.numel_eq ((Shape.reshapeEquiv h.numel_eq).symm i))
      rw [Equiv.apply_symm_apply]
    · intro hf; funext i
      have := congrFun hf (Shape.reshapeEquiv h.numel_eq i)
      rw [Equiv.symm_apply_apply] at this
      exact this
  unfold owns
  simp only [hr, Memref.view_squeeze, View.set_reshape]

omit [FloatOps F] in
theorem any_squeeze (c : Dev nD) {sp : Space} {s s' : Shape} {e : EltTy} (w : Memref sig .tc sp s e) (h : s.Squeezes s') :
    (anyW (F := F) c w : sProp 𝕄) ⊢ anyW c (w.squeeze s' h) := by
  unfold anyW
  iintro ⟨%X, H⟩
  iexists fun i => X (Shape.reshapeEquiv h.numel_eq i)
  rw [owns_squeeze]
  simp only [Equiv.apply_symm_apply]
  iexact H

omit [FloatOps F] in
theorem any_of (c : Dev nD) {sp : Space} {s : Shape} {e : EltTy} (w : Memref sig .tc sp s e) (X : s.Idx → Elt F e) :
    (atW c w fullShare X : sProp 𝕄) ⊢ anyW c w := by
  unfold anyW
  iintro H; iexists X; iexact H

omit [FloatOps F] in
/-- The rectangle that is everything. -/
theorem emb_full {s : Shape} {off : Fin s.rank → ℕ} (h0 : off = fun _ => 0) (inb : ∀ a, off a + s.size a ≤ s.size a) (i : s.Idx) :
    (Rect.unit (s := s) off s.size inb).emb i = i := by
  subst h0
  funext a
  apply Fin.ext
  rw [Rect.emb_apply]
  simp [Rect.unit]

omit [FloatOps F] in
/-- A memref sliced by everything is the memref. -/
theorem owns_full (c : Dev nD) {sp : Space} {s : Shape} {e : EltTy} (w : Memref sig .tc sp s e) {off : Fin s.rank → ℕ} (h0 : off = fun _ => 0)
    (inb : ∀ a, off a + s.size a ≤ s.size a) (q : PosShare TreeShare) (X : s.Idx → Elt F e) :
    (owns (c : Thread nD τ) (w.slice (Rect.unit (s := s) off s.size inb) (fun _ => rfl)) q X : sProp 𝕄) = owns (c : Thread nD τ) w q X := by
  have hv : (w.slice (Rect.unit (s := s) off s.size inb) (fun _ => rfl)).view.set = w.view.set := by
    have : (Rect.unit (s := s) off s.size inb).set = Finset.univ := by
      ext i; simp only [Finset.mem_univ, iff_true, Rect.mem_set_unit]
      subst h0; intro a; exact ⟨Nat.zero_le _, by simpa using (i a).isLt⟩
    refine (View.set_slice (v := w.view) _).trans ?_
    rw [this]; rfl
  have hr : ∀ f, (w.slice (Rect.unit (s := s) off s.size inb) (fun _ => rfl)).view.read (Elt F) f = w.view.read (Elt F) f := fun f => by
    funext i
    show w.view.read (Elt F) f ((Rect.unit (s := s) off s.size inb).emb i) = _
    rw [emb_full h0]
  unfold owns
  simp only [hr, hv]

omit [FloatOps F] in
theorem any_full (c : Dev nD) {sp : Space} {s : Shape} {e : EltTy} (w : Memref sig .tc sp s e) {off : Fin s.rank → ℕ} (h0 : off = fun _ => 0)
    (inb : ∀ a, off a + s.size a ≤ s.size a) :
    (anyW (F := F) c w : sProp 𝕄) ⊢ anyW c (w.slice (Rect.unit (s := s) off s.size inb) (fun _ => rfl)) := by
  unfold anyW
  iintro ⟨%X, H⟩
  iexists X
  rw [owns_full c w h0]
  iexact H

/-! ## Pieces replaced -/

/-- Pieces turned into others. -/
theorem Tr.turn {Q : α → sProp 𝕄} {l l' fr : List It} {p : Prog (TpuEff nD τ sig (Elt F) Λ₀ .tc) α} (h : ctx m c l ⊢ ctx m c l')
    (hp : Tr m c (l' ++ fr) p Q) : Tr m c (l ++ fr) p Q := fun K => by
  have hp := hp K
  rw [ctx_append] at hp ⊢
  iintro ⟨HE, Hl, Hf⟩
  iapply hp
  isplitl [HE]; · iexact HE
  isplitl [Hl]; · iapply h; iexact Hl
  iexact Hf

/-- The end of the program. -/
theorem Tr.done {Q : α → sProp 𝕄} {l : List It} {a : α} (h : ctx m c l ⊢ Q a) : Tr m c l (.ret a) Q := fun K => by
  rw [𝓦, wp_ret]
  iintro ⟨-, Hl⟩
  imodintro; iapply h; iexact Hl

/-! ## Loads and stores -/

theorem Tr.loadSub {Q : α → sProp 𝕄} (i : It) {fr : List It} {cs : CoreSpace} {s : Shape} {ty : EltTy} {M : Memref sig .tc cs s ty} {r : Rect s}
    {hl : M.view.LoadsAt r.toLoadRect} {k : (r.shape.Idx → Elt F ty) → Prog (TpuEff nD τ sig (Elt F) Λ₀ .tc) α}
    {q : PosShare TreeShare} (X : s.Idx → Elt F ty) {Y : r.shape.Idx → Elt F ty} (hi : res m c i = owns (c : Thread nD τ) M q X)
    (hY : (fun j => X (r.emb j)) = Y) (hk : Tr m c (i :: fr) (k Y) Q) :
    Tr m c (i :: fr) (.op (.load M r.toLoadRect hl) k) Q := fun K => by
  have hk := hk K
  rw [ctx_cons, hi] at hk
  rw [ctx_cons, hi]
  unfold owns at hk ⊢
  iintro ⟨HE, ⟨%f, %hf, H⟩, Hfr⟩
  iapply (wp_load (defs := defs₀ (F := F)) 𝒱₀ (c : Thread nD τ) none Set.univ (r := r.toLoadRect) (S := M.view.set) (View.setOn_subset_set _ _)) $$ H
  iintro H
  have e : M.view.readAt (Elt F) r.toLoadRect f = Y := by
    rw [← hY, ← hf]; rfl
  rw [e]
  iapply hk
  isplitl [HE]; · iexact HE
  isplitl [H]
  · iexists f; isplitr; · ipureintro; exact hf
    iexact H
  iexact Hfr

theorem Tr.load {Q : α → sProp 𝕄} (i : It) {fr : List It} {cs : CoreSpace} {s : Shape} {ty : EltTy} {M : Memref sig .tc cs s ty} {r : Rect s}
    {hr : ∀ a, r.stride a = 1}
    {hl : M.view.LoadsAt r.toLoadRect} {k : (r.shape.Idx → Elt F ty) → Prog (TpuEff nD τ sig (Elt F) Λ₀ .tc) α}
    {q : PosShare TreeShare} {X : r.shape.Idx → Elt F ty} (hi : res m c i = owns (c : Thread nD τ) (M.slice r hr) q X)
    (hk : Tr m c (i :: fr) (k X) Q) :
    Tr m c (i :: fr) (.op (.load M r.toLoadRect hl) k) Q := fun K => by
  have hk := hk K
  rw [ctx_cons, hi] at hk
  rw [ctx_cons, hi]
  unfold owns at hk ⊢
  iintro ⟨HE, ⟨%f, %hf, H⟩, Hfr⟩
  iapply (wp_load_rect (defs := defs₀ (F := F)) 𝒱₀ (c : Thread nD τ) none Set.univ (m := M) (r := r) (S := (M.slice r hr).view.set) subset_rfl) $$ H
  iintro H
  have e : (M.access r).read (Elt F) f = X := hf
  rw [e]
  iapply hk
  isplitl [HE]; · iexact HE
  isplitl [H]
  · iexists f; isplitr; · ipureintro; exact hf
    iexact H
  iexact Hfr

/-- A window written, after a load of it. -/
theorem Tr.putD {Q : α → sProp 𝕄} (i j : It) {fr : List It} {cs : CoreSpace} {s : Shape} {ty : EltTy} {M : Memref sig .tc cs s ty} {r : Rect s}
    {hr : ∀ a, r.stride a = 1}
    {hl : M.view.LoadsAt r.toLoadRect} {w : (r.shape.Idx → Elt F ty) → r.shape.Idx → Elt F ty} {hx : (M.access r).Stores Finset.univ} {hm : (Finset.univ : Finset r.shape.Idx) = Finset.univ ∨ ∀ a, r.stride a = 1}
    {k : (r.shape.Idx → Elt F ty) → PUnit → Prog (TpuEff nD τ sig (Elt F) Λ₀ .tc) α}
    (hi : res m c i ⊢ anyW c (M.slice r hr)) (hj : ∀ x, atW c (M.slice r hr) fullShare (w x) ⊢ res m c j)
    (hk : ∀ x, Tr m c (j :: fr) (k x ⟨⟩) Q) :
    Tr m c (i :: fr) (.op (.load M r.toLoadRect hl) fun x => .op (.store M r (w x) Finset.univ hx hm) (k x)) Q := fun K => by
  have hk := fun x => hk x K
  simp only [ctx_cons] at hk
  rw [ctx_cons]
  unfold anyW at hi
  unfold owns at hi
  iintro ⟨HE, Hi, Hfr⟩
  ihave Hi := hi $$ Hi
  icases Hi with ⟨%X, %f, %hf, H⟩
  iapply (wp_load_rect (defs := defs₀ (F := F)) 𝒱₀ (c : Thread nD τ) none Set.univ (m := M) (r := r) (S := (M.slice r hr).view.set) subset_rfl) $$ H
  iintro H
  iapply (wp_store (defs := defs₀ (F := F)) 𝒱₀ (c : Thread nD τ) none Set.univ (m := M) (r := r) (w := w ((M.access r).read (Elt F) f)) (Mk := Finset.univ) (hx := hx) (hm := hm) (S := (M.slice r hr).view.set) (View.setOn_subset_set _ _)) $$ H
  iintro H
  iapply (hk _)
  isplitl [HE]; · iexact HE
  isplitl [H]
  · iapply (hj ((M.access r).read (Elt F) f))
    unfold atW owns
    iexists _; isplitr
    · ipureintro; exact View.read_write_univ (v := M.access r) f _
    iexact H
  iexact Hfr

/-- A window written, after a load of it whose value is not used. -/
theorem Tr.put {Q : α → sProp 𝕄} (i j : It) {fr : List It} {cs : CoreSpace} {s : Shape} {ty : EltTy} {M : Memref sig .tc cs s ty} {r : Rect s}
    {hr : ∀ a, r.stride a = 1}
    {hl : M.view.LoadsAt r.toLoadRect} {w : r.shape.Idx → Elt F ty} {hx : (M.access r).Stores Finset.univ} {hm : (Finset.univ : Finset r.shape.Idx) = Finset.univ ∨ ∀ a, r.stride a = 1}
    {k : PUnit → Prog (TpuEff nD τ sig (Elt F) Λ₀ .tc) α}
    (hi : res m c i ⊢ anyW c (M.slice r hr)) (hj : atW c (M.slice r hr) fullShare w ⊢ res m c j)
    (hk : Tr m c (j :: fr) (k ⟨⟩) Q) :
    Tr m c (i :: fr) (.op (.load M r.toLoadRect hl) fun _ => .op (.store M r w Finset.univ hx hm) k) Q :=
  Tr.putD i j hi (fun _ => hj) (fun _ => hk)

end Cert.Proof
-- ==== Proof.Copies.lean ====
/-
  The rules for copies and for the barriers over lists of pieces.
-/
module

public import proofs.«01_k».proof.Proof.Rules

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ)

variable {m} {c : Dev nD} {α : Type}

/-! ## The pieces by name -/

theorem res_ow (n : ℕ) : res m c (.ow n) = iprop(∃ W, owes (c : Thread nD τ) (owedL c (payL.drop n)) W) := rfl
theorem res_idle (e : Cp) : res m c (.idle e) = iprop(dutyTok ER (cellOf' c (.snd e)) 0 false ∗ dutyTok ER (cellOf' (cpDst e c) (.rcv e)) 0 false
      ∗ atPos ER (cellOf' c (.snd e)) 0 ∅ 0 ∗ atPos ER (cellOf' c (.rcv e)) 0 ∅ 0 ∗ cred (tallyAt (cellOf' c (.rcv e)) () (cpN e))) := rfl
theorem res_live (e : Cp) : res m c (.live e) = iprop(cred (tallyAt (cellOf' c (.snd e)) () (cpN e))
      ∗ atPos ER (cellOf' c (.snd e)) 0 ∅ 0 ∗ atPos ER (cellOf' c (.rcv e)) 0 ∅ 0 ∗ cred (tallyAt (cellOf' c (.rcv e)) () (cpN e))) := rfl
theorem res_bat (d : Bool) (i w : ℕ) : res m c (.bat d i w) = Transfers.Batch EC (c : Thread nD τ) (outS d) () (batN d) (batD m c d) i (batN d * w) := rfl
theorem res_oz (d : Bool) : res m c (.oz d) = semVal ((c : Thread nD τ), outS d) 0 := rfl
theorem res_barT (d : Bool) : res m c (.barT d) = dutyTok ER (cellOf' (dstD d c) .bar) 0 d := rfl
theorem res_barW : res m c .barW = iprop(atPos ER (cellOf' c .bar) 0 ∅ 0 ∗ cred (tallyAt (cellOf' c .bar) () 2)) := rfl
theorem res_barZ : res m c .barZ = semVal (cellOf' c .bar) 0 := rfl
theorem res_secT (d : Bool) : res m c (.secT d) = dutyTok ER (cellOf' (dstD d c) .sec) 0 d := rfl
theorem res_secW : res m c .secW = iprop(atPos ER (cellOf' c .sec) 0 ∅ 0 ∗ cred (tallyAt (cellOf' c .sec) () 2)) := rfl
theorem res_secZ : res m c .secZ = semVal (cellOf' c .sec) 0 := rfl
theorem res_stR (d : Bool) (s : Fin 4) : res m c (.stR d s) = atW c (stW d s) fullShare (stv m c d s) := rfl
theorem res_outR (d : Bool) (s : Fin 4) : res m c (.outR d s) = atW c (outWR d (slotD d 3 c) s) fullShare (stv m c d s) := rfl

/-! ## Remote copies -/

/-- Starting copy `e`: its source in, at the share the send cell hands back; the neighbour's window in; one payment made. -/
theorem Tr.start {Q : α → sProp 𝕄} (e : Cp) (n : ℕ) (i j o : It) (ex exR : List It) {fr : List It} {sp sp' : Space} {s : Shape} {ty : EltTy}
    {src : Memref sig .tc sp s ty} {dst : Memref sig .tc sp' s ty} {d : Dev nD} {sS sR : DmaSem sig} {hsc : dst.view.ref.isScScratch = false}
    {hsrc : src.view.WordExact} {hdst : dst.view.WordExact} {hsem : DmaTarget.Typed (nD := nD) sp (.dma sR) (.remote (Dev.tc d) dst (.dma sS) hsc)}
    {k : PUnit → Prog (TpuEff nD τ sig (Elt F) Λ₀ .tc) α} {q : PosShare TreeShare} {X : s.Idx → Elt F ty}
    (hd : d = cpDst e c) (hs : SemLoc.dma sS = csem (.snd e)) (hr : SemLoc.dma sR = csem (.rcv e)) (hN : dst.view.dmaCredit = cpN e)
    (hpay : payL.drop n = .cp e :: payL.drop (n + 1))
    (hsnd : payItems (.snd e) false = [i]) (hrcv : payItems (.rcv e) false = o :: exR)
    (hi : res m c i = owns (c : Thread nD τ) src q X) (hj : res m c j ⊢ anyW (cpDst e c) dst)
    (ho : atW (cpDst e c) dst fullShare X ⊢ res m (cpDst e c) o) (hex : ctx m c ex ⊢ ctx m (cpDst e c) exR)
    (hk : Tr m c (.live e :: .ow (n + 1) :: fr) (k ⟨⟩) Q) :
    Tr m c (.idle e :: .ow n :: i :: j :: (ex ++ fr)) (.op (.enqueueDma src (.remote (Dev.tc d) dst (.dma sS) hsc) (.dma sR) hsrc hdst hsem) k) Q := fun K => by
  subst hd
  have hk := hk K
  rw [ctx_cons, ctx_cons] at hk
  rw [ctx_cons, ctx_cons, ctx_cons, ctx_cons, ctx_append, hi]
  unfold anyW at hj
  have eS : cellOf' c (.snd e) = ((c : Thread nD τ), SemLoc.dma sS) := by rw [hs]
  have eR : cellOf' (cpDst e c) (.rcv e) = (((cpDst e c : Dev nD) : Thread nD τ), SemLoc.dma sR) := by rw [hr]
  have hiS := env_inv m K c (.snd e)
  have hiR := env_inv m K (cpDst e c) (.rcv e)
  have hrS := env_reached m K c (.snd e)
  have hrR := env_reached m K (cpDst e c) (.rcv e)
  rw [eS] at hiS hrS
  rw [eR] at hiR hrR
  rw [res_live, res_ow, eS] at hk
  rw [res_idle, res_ow, eS, eR]
  unfold owns at hj ⊢
  iintro ⟨#HE, ⟨HtS, HtR, HaS, HaR, HcR⟩, ⟨%W, How⟩, ⟨%fs, %hfs, Hs⟩, Hj, Hex, Hfr⟩
  ihave Hj := hj $$ Hj
  icases Hj with ⟨%X', %fd, %hfd, Hd⟩
  ihave #HiS := hiS $$ HE
  ihave #HiR := hiR $$ HE
  ihave #HrS := hrS $$ HE
  ihave #HrR := hrR $$ HE
  have hw := Rounds.wp_send_pointsTo_with (Λ := Λ₀) (defs := defs₀ (F := F)) (Q := Q) 𝒱₀ ER (Rd m) (c : Thread nD τ) none (κ₁ := K (c, .snd e)) (κ₂ := K (cpDst e c, .rcv e))
    (c' := ((cpDst e c : Dev nD) : Thread nD τ)) (src := src) (dst := dst) (sS := .dma sS) (sem := .dma sR) (hsc := hsc) (hsrc := hsrc) (hdst := hdst) (hsem := hsem) (k := k) (q := q) (fs := fs) (fd := fd)
    (Γ := .empty) (F := ctx m (cpDst e c) exR) (r₁ := 0) (r₂ := 0) (d₁ := false) (d₂ := false)
    (by rw [hs]; exact (Rd_duties m c (.snd e)).symm ▸ Finset.mem_singleton_self _)
    (by rw [hr]; exact (Rd_duties m (cpDst e c) (.rcv e)).symm ▸ Finset.mem_singleton_self _)
    () () (cpN e) hN (by rw [hs]; exact Rd_amount m c (.snd e) 0 false) (by rw [hr]; exact Rd_amount m (cpDst e c) (.rcv e) 0 false)
    (O₀ := owedL c (payL.drop n)) (owedL c (payL.drop (n + 1))) (by rw [hpay, hr]; rfl) (W := W)
    (by
      rw [hs, show ((c : Thread nD τ), csem (.snd e)) = cellOf' c (.snd e) from rfl, Rd_payload, payld, hsnd, ctx_cons, ctx_nil, hi]
      unfold owns
      iintro H
      isplitl [H]
      · iexists fs; isplitr; · ipureintro; exact hfs
        iexact H
      iempintro)
    (by
      rw [hr, show (((cpDst e c : Dev nD) : Thread nD τ), csem (.rcv e)) = cellOf' (cpDst e c) (.rcv e) from rfl, Rd_payload, payld, hrcv, ctx_cons]
      iintro ⟨H, Hx⟩
      isplitl [H]
      · iapply ho
        unfold atW owns
        iexists _; isplitr
        · ipureintro; exact (View.read_write_univ (v := dst.view) fd (src.view.read (Elt F) fs)).trans hfs
        iexact H
      iexact Hx)
    (Es := Set.univ)
  iapply hw $$ [Hs Hd Hex How HtS HtR]
  · isplitr; · iexact HiS
    isplitr; · iexact HiR
    isplitl [Hs]; · iexact Hs
    isplitl [Hd Hex]
    · isplitl [Hd]; · iexact Hd
      iapply hex; iexact Hex
    isplitl [How]; · iexact How
    isplitl [HtS]; · iexact HtS
    isplitr; · iexact HrS
    isplitl [HtR]; · iexact HtR
    iexact HrR
  iintro ⟨Hcr, How⟩
  iapply hk
  isplitr; · iexact HE
  isplitl [Hcr HaS HaR HcR]
  · isplitl [Hcr]; · iexact Hcr
    isplitl [HaS]; · iexact HaS
    isplitl [HaR]; · iexact HaR
    iexact HcR
  isplitl [How]; · iexists W; iexact How
  iexact Hfr

/-! ## Local copies -/

theorem lvS_other {sm : SemLoc sig} (h : ∀ k, csem k ≠ sm) : lvS sm = 0 := by
  have : cix sm = none := dif_neg (by rintro ⟨k, hk⟩; exact h k hk)
  unfold lvS; rw [this]

theorem lvS_copy : lvS copyS = 0 := lvS_other (by decide +kernel)
theorem lvS_out (d : Bool) : lvS (outS d) = 0 := lvS_other (by revert d; decide +kernel)

/-- Starting a local copy. -/
theorem Tr.copy {Q : α → sProp 𝕄} (i j z f : It) {fr : List It} {sp sp' : Space} {s : Shape} {ty : EltTy}
    {src : Memref sig .tc sp s ty} {dst : Memref sig .tc sp' s ty} {sm : DmaSem sig}
    {hsrc : src.view.WordExact} {hdst : dst.view.WordExact} {hsem : DmaTarget.Typed (nD := nD) sp (.dma sm) (.here (p := .tc) dst)}
    {k : PUnit → Prog (TpuEff nD τ sig (Elt F) Λ₀ .tc) α} {X : s.Idx → Elt F ty} (hs : 0 < s.numel)
    (hi : res m c i = owns (c : Thread nD τ) src fullShare X) (hj : res m c j ⊢ anyW c dst)
    (hz : res m c z = semVal ((c : Thread nD τ), .dma sm) 0) (hf : flW c src dst (.dma sm) X ⊢ res m c f)
    (hk : Tr m c (f :: fr) (k ⟨⟩) Q) :
    Tr m c (i :: j :: z :: fr) (.op (.enqueueDma src (.here dst) (.dma sm) hsrc hdst hsem) k) Q := fun K => by
  have hk := hk K
  rw [ctx_cons] at hk
  rw [ctx_cons, ctx_cons, ctx_cons, hi, hz]
  unfold flW at hf
  unfold anyW at hj
  unfold owns at hj ⊢
  iintro ⟨HE, ⟨%fs, %hfs, Hs⟩, Hj, Hz, Hfr⟩
  ihave Hj := hj $$ Hj
  icases Hj with ⟨%X', %fd, %hfd, Hd⟩
  iapply (Transfers.wp_dmaLocal (defs := defs₀ (F := F)) EC 𝒱₀ (c : Thread nD τ) none () dst.view.dmaCredit rfl (View.dmaCredit_pos _ hs) (Sd := dst.view.set) subset_rfl) $$ [Hs Hd Hz]
  · isplitl [Hs]; · iexact Hs
    isplitl [Hd]; · iexact Hd
    iexact Hz
  iintro Hfl
  iapply hk
  isplitl [HE]; · iexact HE
  isplitl [Hfl]
  · iapply hf
    iexists _
    isplitr
    · ipureintro
      show iprop((dst.view.loc (c : Thread nD τ) ↦[dst.view.set]{fullShare} (dst.view.write (Elt F) fd (src.view.read (Elt F) fs) Finset.univ))
          ∗ (src.view.loc (c : Thread nD τ) ↦[src.view.set]{fullShare} fs)) ⊢ iprop(atW c dst fullShare X ∗ atW c src fullShare X)
      unfold atW owns
      iintro ⟨H1, H2⟩
      isplitl [H1]
      · iexists _; isplitr
        · ipureintro; exact (View.read_write_univ (v := dst.view) fd (src.view.read (Elt F) fs)).trans hfs
        iexact H1
      · iexists fs; isplitr; · ipureintro; exact hfs
        iexact H2
    iexact Hfl
  iexact Hfr

/-- Waiting for it. -/
theorem Tr.copyWait {Q : α → sProp 𝕄} (f : It) (n : ℕ) (o i z : It) {fr : List It} {sp sp' spv spv' : Space} {s sv sv' : Shape} {ty tyv tyv' : EltTy}
    {src : Memref sig .tc sp s ty} {dst : Memref sig .tc sp' s ty} {srcw : Memref sig .tc spv sv tyv} {dstw : Memref sig .tc spv' sv' tyv'} {sm : DmaSem sig}
    {hsrc : srcw.view.WordExact} {hdst : dstw.view.WordExact}
    {k : PUnit → Prog (TpuEff nD τ sig (Elt F) Λ₀ .tc) α} {X : s.Idx → Elt F ty}
    (hf : res m c f = flW c src dst (.dma sm) X) (hN : dstw.view.dmaCredit = dst.view.dmaCredit) (hl : lvS (.dma sm) = 0)
    (ho : atW c dst fullShare X ⊢ res m c o) (hi : atW c src fullShare X ⊢ res m c i)
    (hz : res m c z = semVal ((c : Thread nD τ), .dma sm) 0)
    (hk : Tr m c (o :: i :: z :: .ow n :: fr) (k ⟨⟩) Q) :
    Tr m c (f :: .ow n :: fr) (.op (.waitDma2 sm srcw dstw hsrc hdst) k) Q := fun K => by
  have hk := hk K
  rw [ctx_cons, ctx_cons, ctx_cons, ctx_cons, hz] at hk
  rw [ctx_cons, ctx_cons, hf]
  rw [res_ow] at hk ⊢
  unfold flW
  iintro ⟨#HE, ⟨%D, %hD, Hfl⟩, ⟨%W, How⟩, Hfr⟩
  ihave #Hlev := (env_lev m K) $$ HE
  iapply (Transfers.wp_waitLocalO (defs := defs₀ (F := F)) EC 𝒱₀ (c : Thread nD τ) none () hN (O := owedL c (payL.drop n)) (W := W)) $$ [Hfl How]
  · isplitl [Hfl]; · iexact Hfl
    isplitl [How]; · iexact How
    iapply (mayWait c (.dma sm) n fun p _ => by rw [hl]; exact lvP_pos p) $$ Hlev
  iintro ⟨HD, Hz, How⟩
  ihave HD := hD $$ HD
  icases HD with ⟨Ho, Hi⟩
  iapply hk
  isplitr; · iexact HE
  isplitl [Ho]; · iapply ho; iexact Ho
  isplitl [Hi]; · iapply hi; iexact Hi
  isplitl [Hz]; · iexact Hz
  isplitl [How]; · iexists _; iexact How
  iexact Hfr

/-! ## The four copies of the last chunk's rows -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem batN_pos (d : Bool) : 0 < batN d := View.dmaCredit_pos _ numel_pos_S256x1024

attribute [local irreducible] batN

/-- The semaphore at rest holds a batch none of whose copies has started. -/
theorem Tr.batch {Q : α → sProp 𝕄} (d : Bool) {fr : List It} {p : Prog (TpuEff nD τ sig (Elt F) Λ₀ .tc) α}
    (hp : Tr m c (.bat d 0 0 :: fr) p Q) : Tr m c (.oz d :: fr) p Q := fun K => by
  have hp := hp K
  rw [ctx_cons] at hp ⊢
  rw [res_bat, Nat.mul_zero] at hp
  rw [res_oz]
  iintro ⟨HE, Hz, Hfr⟩
  iapply fupd_wp
  imod (Transfers.batch_alloc' EC (c := (c : Thread nD τ)) (sm := outS d) () (batN d) (batD m c d) (E := Set.univ)) $$ Hz with Hb
  imodintro
  iapply hp
  isplitl [HE]; · iexact HE
  isplitl [Hb]
  · iexact Hb
  iexact Hfr

theorem Tr.batchStart {Q : α → sProp 𝕄} (d : Bool) (u : ℕ) (hu : u < 4) (i j : It) {fr : List It} {sp sp' : Space} {s : Shape} {ty : EltTy}
    {src : Memref sig .tc sp s ty} {dst : Memref sig .tc sp' s ty} {sm : DmaSem sig}
    {hsrc : src.view.WordExact} {hdst : dst.view.WordExact} {hsem : DmaTarget.Typed (nD := nD) sp (.dma sm) (.here (p := .tc) dst)}
    {k : PUnit → Prog (TpuEff nD τ sig (Elt F) Λ₀ .tc) α} {X : s.Idx → Elt F ty} (hs : .dma sm = outS d)
    (hN : dst.view.dmaCredit = batN d)
    (hi : res m c i = owns (c : Thread nD τ) src fullShare X) (hj : res m c j ⊢ anyW c dst)
    (hD : iprop(atW c dst fullShare X ∗ atW c src fullShare X) ⊢ batD m c d ⟨u, hu⟩)
    (hk : Tr m c (.bat d (u + 1) 0 :: fr) (k ⟨⟩) Q) :
    Tr m c (.bat d u 0 :: i :: j :: fr) (.op (.enqueueDma src (.here dst) (.dma sm) hsrc hdst hsem) k) Q := fun K => by
  have hD' : ∀ fs fd, src.view.read (Elt F) fs = X → iprop((dst.view.loc (c : Thread nD τ) ↦[dst.view.set]{fullShare} (dst.view.write (Elt F) fd (src.view.read (Elt F) fs) Finset.univ))
          ∗ (src.view.loc (c : Thread nD τ) ↦[src.view.set]{fullShare} fs)) ⊢ batD m c d ⟨u, hu⟩ := fun fs fd hfs => by
      refine BIBase.Entails.trans ?_ hD
      unfold atW owns
      iintro ⟨H1, H2⟩
      isplitl [H1]
      · iexists _; isplitr
        · ipureintro; exact (View.read_write_univ (v := dst.view) fd (src.view.read (Elt F) fs)).trans hfs
        iexact H1
      · iexists fs; isplitr; · ipureintro; exact hfs
        iexact H2
  have hk := hk K
  rw [ctx_cons] at hk
  rw [ctx_cons, ctx_cons, ctx_cons, hi]
  simp only [res_bat, ← hs] at hk ⊢
  unfold anyW at hj
  unfold owns at hj ⊢
  iintro ⟨HE, Hb, ⟨%fs, %hfs, Hs⟩, Hj, Hfr⟩
  ihave Hj := hj $$ Hj
  icases Hj with ⟨%X', %fd, %hfd, Hd⟩
  have hw := (Transfers.wp_dmaBatch (Λ := Λ₀) (defs := defs₀ (F := F)) (Q := Q) EC 𝒱₀ (c : Thread nD τ) none (src := src) (dst := dst) (via := .same) (hsrc := hsrc) (hdst := hdst) (hsem := hsem) (k := k) (q := fullShare) (fs := fs) (fd := fd) (n := 4) (D := batD m c d) (sm := .dma sm) () (batN d) hN (Sd := dst.view.set) (j := u) (u := batN d * 0) subset_rfl hu (by rw [Nat.mul_zero]; exact Nat.zero_le _) (hD' fs fd hfs))
  generalize batN d * 0 = z at hw hk ⊢
  iapply hw $$ [Hs Hd Hb]
  · isplitl [Hs]; · iexact Hs
    isplitl [Hd]; · iexact Hd
    iexact Hb
  iintro Hb
  iapply hk
  isplitl [HE]; · iexact HE
  isplitl [Hb]; · iexact Hb
  iexact Hfr

theorem Tr.batchWait {Q : α → sProp 𝕄} (d : Bool) (u n : ℕ) (hu : u < 3) {fr : List It} {spv spv' : Space} {sv sv' : Shape} {tyv tyv' : EltTy}
    {srcw : Memref sig .tc spv sv tyv} {dstw : Memref sig .tc spv' sv' tyv'} {sm : DmaSem sig}
    {hsrc : srcw.view.WordExact} {hdst : dstw.view.WordExact}
    {k : PUnit → Prog (TpuEff nD τ sig (Elt F) Λ₀ .tc) α} (hs : .dma sm = outS d) (hN : dstw.view.dmaCredit = batN d)
    (hk : Tr m c (.bat d 4 (u + 1) :: .ow n :: fr) (k ⟨⟩) Q) :
    Tr m c (.bat d 4 u :: .ow n :: fr) (.op (.waitDma2 sm srcw dstw hsrc hdst) k) Q := fun K => by
  have hk := hk K
  have hl : lvS (.dma sm) = 0 := hs ▸ lvS_out d
  rw [ctx_cons, ctx_cons] at hk
  rw [ctx_cons, ctx_cons]
  simp only [res_bat, res_ow, ← hs, Nat.mul_add, Nat.mul_one] at hk ⊢
  iintro ⟨#HE, Hb, ⟨%W, How⟩, Hfr⟩
  ihave #Hlev := (env_lev m K) $$ HE
  iapply (Transfers.wp_waitBatchO (defs := defs₀ (F := F)) EC 𝒱₀ (c : Thread nD τ) none (D := batD m c d) () hN (u := batN d * u)
    (by have := batN_pos d; nlinarith) (O := owedL c (payL.drop n)) (W := W)) $$ [Hb How]
  · isplitl [Hb]; · iexact Hb
    isplitl [How]; · iexact How
    iapply (mayWait c (.dma sm) n fun p _ => by rw [hl]; exact lvP_pos p) $$ Hlev
  iintro ⟨Hb, How⟩
  iapply hk
  isplitr; · iexact HE
  isplitl [Hb]; · iexact Hb
  isplitl [How]; · iexists _; iexact How
  iexact Hfr

theorem Tr.batchLast {Q : α → sProp 𝕄} (d : Bool) (n : ℕ) {fr : List It} {spv spv' : Space} {sv sv' : Shape} {tyv tyv' : EltTy}
    {srcw : Memref sig .tc spv sv tyv} {dstw : Memref sig .tc spv' sv' tyv'} {sm : DmaSem sig}
    {hsrc : srcw.view.WordExact} {hdst : dstw.view.WordExact}
    {k : PUnit → Prog (TpuEff nD τ sig (Elt F) Λ₀ .tc) α} (hs : .dma sm = outS d) (hN : dstw.view.dmaCredit = batN d)
    (hk : Tr m c (.oz d :: .outR d 0 :: .stR d 0 :: .outR d 1 :: .stR d 1 :: .outR d 2 :: .stR d 2 :: .outR d 3 :: .stR d 3 :: .ow n :: fr) (k ⟨⟩) Q) :
    Tr m c (.bat d 4 3 :: .ow n :: fr) (.op (.waitDma2 sm srcw dstw hsrc hdst) k) Q := fun K => by
  have hk := hk K
  have hl : lvS (.dma sm) = 0 := hs ▸ lvS_out d
  simp only [ctx_cons] at hk ⊢
  simp only [res_bat, res_ow, res_oz, res_stR, res_outR, ← hs] at hk ⊢
  iintro ⟨#HE, Hb, ⟨%W, How⟩, Hfr⟩
  ihave #Hlev := (env_lev m K) $$ HE
  iapply (Transfers.wp_waitBatchLastO (defs := defs₀ (F := F)) EC 𝒱₀ (c : Thread nD τ) none (D := batD m c d) () hN (batN_pos d) (u := batN d * 3)
    (by ring) (O := owedL c (payL.drop n)) (W := W)) $$ [Hb How]
  · isplitl [Hb]; · iexact Hb
    isplitl [How]; · iexact How
    iapply (mayWait c (.dma sm) n fun p _ => by rw [hl]; exact lvP_pos p) $$ Hlev
  rw [bigSep_fin4]
  unfold batD
  iintro ⟨⟨⟨H0, H0'⟩, ⟨H1, H1'⟩, ⟨H2, H2'⟩, ⟨H3, H3'⟩⟩, Hz, How⟩
  iapply hk
  isplitr; · iexact HE
  isplitl [Hz]; · iexact Hz
  isplitl [H0]; · iexact H0
  isplitl [H0']; · iexact H0'
  isplitl [H1]; · iexact H1
  isplitl [H1']; · iexact H1'
  isplitl [H2]; · iexact H2
  isplitl [H2']; · iexact H2'
  isplitl [H3]; · iexact H3
  isplitl [H3']; · iexact H3'
  isplitl [How]; · iexists _; iexact How
  iexact Hfr

/-! ## The two barriers -/

theorem Tr.devId {Q : α → sProp 𝕄} {l : List It} {k : Dev nD → Prog (TpuEff nD τ sig (Elt F) Λ₀ .tc) α} (hk : Tr m c l (k c) Q) :
    Tr m c l (.op .deviceId k) Q := fun K => by
  have hk := hk K
  unfold 𝓦 at hk ⊢
  rw [wp_deviceId]
  exact hk

/-- One signal of the first barrier, handing over the windows the neighbour will write. -/
theorem Tr.barSignal {Q : α → sProp 𝕄} (d : Bool) (n : ℕ) (ex : List It) {fr : List It} {dv : Dev nD} {sem : Sem sig} {v : BitVec 32}
    {k : PUnit → Prog (TpuEff nD τ sig (Elt F) Λ₀ .tc) α} (hd : dv = dstD d c) (hs : SemLoc.reg sem = csem .bar) (hv : v = 1#32)
    (hpay : payL.drop n = .bar d :: payL.drop (n + 1)) (hex : ctx m c ex ⊢ ctx m (dstD d c) (barItems (!d)))
    (hk : Tr m c (.ow (n + 1) :: fr) (k ⟨⟩) Q) :
    Tr m c (.barT d :: .ow n :: (ex ++ fr)) (Prog.bind (semSignalWord dv sem v) k) Q := fun K => by
  subst hd hv
  have hk := hk K
  rw [ctx_cons, res_ow] at hk
  rw [ctx_cons, ctx_cons, ctx_append, res_ow, res_barT]
  unfold 𝓦
  simp only [semSignalWord, Prog.lift, Prog.bind_op, Prog.bind_ret, Prog.pure_eq_ret]
  iintro ⟨#HE, HtB, ⟨%W, How⟩, Hex, Hfr⟩
  ihave #Hi := (env_inv m K (dstD d c) .bar) $$ HE
  ihave #Hr := (env_reached m K (dstD d c) .bar) $$ HE
  have hw := Rounds.wp_signal (Λ := Λ₀) (defs := defs₀ (F := F)) (Q := Q) 𝒱₀ ER (Rd m) (c : Thread nD τ) none (Γ := .empty) (κ := K (dstD d c, .bar))
    (dst := ((dstD d c : Dev nD) : Thread nD τ)) (sem := sem) (k' := 1) (k := k) (r := 0) (d := d)
    (by rw [hs]; exact (Rd_duties m (dstD d c) .bar).symm ▸ Finset.mem_univ d)
    (by rw [hs]; exact Rd_amount m (dstD d c) .bar 0 d) () (O₀ := owedL c (payL.drop n)) (owedL c (payL.drop (n + 1)))
    (by rw [hpay, hs]; rfl) (W := W) (Es := Set.univ)
  rw [hs, show ((((dstD d c : Dev nD) : Thread nD τ)), csem .bar) = cellOf' (dstD d c) .bar from rfl, Rd_payload] at hw
  iapply hw $$ [How HtB Hex]
  · isplitr; · iexact Hi
    isplitl [How]; · iexact How
    isplitl [HtB]; · iexact HtB
    isplitl [Hex]; · iapply hex; iexact Hex
    iexact Hr
  iintro How
  iapply hk
  isplitr; · iexact HE
  isplitl [How]; · iexists W; iexact How
  iexact Hfr

theorem bar_expect (c : Dev nD) (k : CIx) (hk : (dutC k).card * amtC k = 2) : 0 + 2 = (Rd m).expect (cellOf' c k) 0 := by
  rw [Rd_expect, hk]

/-- Waiting for both neighbours: their windows are ours to write. -/
theorem Tr.barWait {Q : α → sProp 𝕄} (n : ℕ) {fr : List It} {sem : Sem sig} {v : BitVec 32}
    {k : PUnit → Prog (TpuEff nD τ sig (Elt F) Λ₀ .tc) α} (hs : SemLoc.reg sem = csem .bar) (hv : v = 2#32)
    (hl : ∀ p ∈ payL.drop n, lvC .bar < lvP p)
    (hk : Tr m c (.barZ :: .ow n :: (barItems true ++ (barItems false ++ fr))) (k ⟨⟩) Q) :
    Tr m c (.barW :: .ow n :: fr) (Prog.bind (semWaitWord sem v) k) Q := fun K => by
  subst hv
  have hk := hk K
  rw [ctx_cons, ctx_cons, ctx_append, ctx_append, res_ow, res_barZ] at hk
  rw [ctx_cons, ctx_cons, res_ow, res_barW]
  unfold 𝓦
  simp only [semWaitWord, Prog.lift, Prog.bind_op, Prog.bind_ret, Prog.pure_eq_ret]
  iintro ⟨#HE, ⟨HaB, HcB⟩, ⟨%W, How⟩, Hfr⟩
  ihave #Hinv := (env_inv m K c .bar) $$ HE
  ihave #Hlev := (env_lev m K) $$ HE
  have hw := wp_wait_rest_token (Λ := Λ₀) (defs := defs₀ (F := F)) (Q := Q) 𝒱₀ ER (Rd m) (c : Thread nD τ) none (sm := .reg sem) (k' := 2) (κ := K (c, .bar))
    (wpE_semWait_eq 𝒱₀ (c : Thread nD τ) none Set.univ) (Set.mem_univ _) (k := k) () (O := owedL c (payL.drop n)) (W := W) (R := 0) (m := 0) (T := ∅)
    (by rw [hs]; exact bar_expect c .bar (by rfl))
  rw [hs] at hw
  iapply hw $$ [HcB How HaB]
  · isplitr; · iexact Hinv
    isplitl [HcB]; · iexact HcB
    isplitl [How]; · iexact How
    isplitr
    · iapply (mayWait c (csem .bar) n fun p hp => by rw [lvS_csem]; exact hl p hp) $$ Hlev
    iexact HaB
  iintro ⟨How, HaB, -, Hpay⟩
  iapply fupd_wp
  imod (cell_close ER (Rd m) (Set.mem_univ (K (c, .bar))) (fun h => h) (R := 0 + 1) (Rd_later m _)) $$ [HaB] with Hz
  · isplitr; · iexact Hinv
    iexact HaB
  imodintro
  have hp : bigSep ((Rd m).duties (cellOf' c .bar) 0 \ ∅) (fun d => (Rd m).payload (cellOf' c .bar) 0 d)
      ⊢ iprop(ctx m c (barItems true) ∗ ctx m c (barItems false)) := by
    rw [Finset.sdiff_empty, Rd_duties, show dutC .bar = {false, true} from by decide, bigSep_insert (by decide), bigSep_singleton, Rd_payload, Rd_payload]
    exact Entails.rfl
  ihave Hpay := hp $$ Hpay
  icases Hpay with ⟨H1, H2⟩
  iapply hk
  isplitr; · iexact HE
  isplitl [Hz]; · iexact Hz
  isplitl [How]; · iexists _; iexact How
  isplitl [H1]; · iexact H1
  isplitl [H2]; · iexact H2
  iexact Hfr

theorem Tr.secSignal {Q : α → sProp 𝕄} (d : Bool) (n : ℕ) {fr : List It} {dv : Dev nD} {sem : Sem sig} {v : BitVec 32}
    {k : PUnit → Prog (TpuEff nD τ sig (Elt F) Λ₀ .tc) α} (hd : dv = dstD d c) (hs : SemLoc.reg sem = csem .sec) (hv : v = 1#32)
    (hpay : payL.drop n = .sec d :: payL.drop (n + 1)) (hk : Tr m c (.ow (n + 1) :: fr) (k ⟨⟩) Q) :
    Tr m c (.secT d :: .ow n :: fr) (Prog.bind (semSignalWord dv sem v) k) Q := fun K => by
  subst hd hv
  have hk := hk K
  rw [ctx_cons, res_ow] at hk
  rw [ctx_cons, ctx_cons, res_ow, res_secT]
  unfold 𝓦
  simp only [semSignalWord, Prog.lift, Prog.bind_op, Prog.bind_ret, Prog.pure_eq_ret]
  iintro ⟨#HE, HtB, ⟨%W, How⟩, Hfr⟩
  ihave #Hi := (env_inv m K (dstD d c) .sec) $$ HE
  ihave #Hr := (env_reached m K (dstD d c) .sec) $$ HE
  have hw := Rounds.wp_signal (Λ := Λ₀) (defs := defs₀ (F := F)) (Q := Q) 𝒱₀ ER (Rd m) (c : Thread nD τ) none (Γ := .empty) (κ := K (dstD d c, .sec))
    (dst := ((dstD d c : Dev nD) : Thread nD τ)) (sem := sem) (k' := 1) (k := k) (r := 0) (d := d)
    (by rw [hs]; exact (Rd_duties m (dstD d c) .sec).symm ▸ Finset.mem_univ d)
    (by rw [hs]; exact Rd_amount m (dstD d c) .sec 0 d) () (O₀ := owedL c (payL.drop n)) (owedL c (payL.drop (n + 1)))
    (by rw [hpay, hs]; rfl) (W := W) (Es := Set.univ)
  rw [hs, show ((((dstD d c : Dev nD) : Thread nD τ)), csem .sec) = cellOf' (dstD d c) .sec from rfl, Rd_payload] at hw
  iapply hw $$ [How HtB]
  · isplitr; · iexact Hi
    isplitl [How]; · iexact How
    isplitl [HtB]; · iexact HtB
    isplitr; · unfold payld; iempintro
    iexact Hr
  iintro How
  iapply hk
  isplitr; · iexact HE
  isplitl [How]; · iexists W; iexact How
  iexact Hfr

theorem Tr.secWait {Q : α → sProp 𝕄} (n : ℕ) {fr : List It} {sem : Sem sig} {v : BitVec 32}
    {k : PUnit → Prog (TpuEff nD τ sig (Elt F) Λ₀ .tc) α} (hs : SemLoc.reg sem = csem .sec) (hv : v = 2#32)
    (hl : ∀ p ∈ payL.drop n, lvC .sec < lvP p)
    (hk : Tr m c (.secZ :: .ow n :: fr) (k ⟨⟩) Q) :
    Tr m c (.secW :: .ow n :: fr) (Prog.bind (semWaitWord sem v) k) Q := fun K => by
  subst hv
  have hk := hk K
  rw [ctx_cons, ctx_cons, res_ow, res_secZ] at hk
  rw [ctx_cons, ctx_cons, res_ow, res_secW]
  unfold 𝓦
  simp only [semWaitWord, Prog.lift, Prog.bind_op, Prog.bind_ret, Prog.pure_eq_ret]
  iintro ⟨#HE, ⟨HaB, HcB⟩, ⟨%W, How⟩, Hfr⟩
  ihave #Hinv := (env_inv m K c .sec) $$ HE
  ihave #Hlev := (env_lev m K) $$ HE
  have hw := wp_wait_rest_token (Λ := Λ₀) (defs := defs₀ (F := F)) (Q := Q) 𝒱₀ ER (Rd m) (c : Thread nD τ) none (sm := .reg sem) (k' := 2) (κ := K (c, .sec))
    (wpE_semWait_eq 𝒱₀ (c : Thread nD τ) none Set.univ) (Set.mem_univ _) (k := k) () (O := owedL c (payL.drop n)) (W := W) (R := 0) (m := 0) (T := ∅)
    (by rw [hs]; exact bar_expect c .sec (by rfl))
  rw [hs] at hw
  iapply hw $$ [HcB How HaB]
  · isplitr; · iexact Hinv
    isplitl [HcB]; · iexact HcB
    isplitl [How]; · iexact How
    isplitr
    · iapply (mayWait c (csem .sec) n fun p hp => by rw [lvS_csem]; exact hl p hp) $$ Hlev
    iexact HaB
  iintro ⟨How, HaB, -, -⟩
  iapply fupd_wp
  imod (cell_close ER (Rd m) (Set.mem_univ (K (c, .sec))) (fun h => h) (R := 0 + 1) (Rd_later m _)) $$ [HaB] with Hz
  · isplitr; · iexact Hinv
    iexact HaB
  imodintro
  iapply hk
  isplitr; · iexact HE
  isplitl [Hz]; · iexact Hz
  isplitl [How]; · iexists _; iexact How
  iexact Hfr

end Cert.Proof
-- ==== Proof.Steps.lean ====
/-
  The kernel's repeated steps as rules over lists of pieces.
-/
module

public import proofs.«01_k».proof.Proof.Copies

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ)

variable {m} {c : Dev nD} {α : Type}

/-! ## Pieces taken out of a list -/

class Take (x : It) (l : List It) (l' : outParam (List It)) : Prop where
  perm : l.Perm (x :: l')
instance (priority := high) Take.head (x : It) (l : List It) : Take x (x :: l) l := ⟨.refl _⟩
instance Take.tail (x y : It) (l l' : List It) [h : Take x l l'] : Take x (y :: l) (y :: l') := ⟨(h.perm.cons y).trans (.swap x y l')⟩

instance Take.append (x y : It) (l₁ l₂ l' : List It) [h : Take x (y :: (l₁ ++ l₂)) l'] : Take x ((y :: l₁) ++ l₂) l' := h
instance Take.append' (x y : It) (l₁ l₂ l' : List It) [h : Take x (y :: (l₁ ++ l₂)) l'] : Take x (List.append (y :: l₁) l₂) l' := h
instance Take.none (x : It) (l l' : List It) [h : Take x l l'] : Take x ([] ++ l) l' := h
instance Take.none' (x : It) (l l' : List It) [h : Take x l l'] : Take x (List.append [] l) l' := h

class Takes (xs l : List It) (l' : outParam (List It)) : Prop where
  perm : l.Perm (xs ++ l')
instance Takes.nil (l : List It) : Takes [] l l := ⟨.refl _⟩
instance Takes.cons (x : It) (xs l l₁ l' : List It) [h : Take x l l₁] [h' : Takes xs l₁ l'] : Takes (x :: xs) l l' :=
  ⟨h.perm.trans (h'.perm.cons x)⟩

theorem Tr.take {Q : α → sProp 𝕄} {l fr : List It} (xs : List It) [h : Takes xs l fr] {p : Prog (TpuEff nD τ sig (Elt F) Λ₀ .tc) α}
    (hp : Tr m c (xs ++ fr) p Q) : Tr m c l p Q := fun K => by
  rw [ctx_perm m c h.perm]; exact hp K

/-- A list reordered into another. -/
class Reorder (l' l : List It) : Prop where
  perm : l.Perm l'
instance (priority := low) Reorder.rfl' (l : List It) : Reorder l l := ⟨.refl _⟩
instance Reorder.cons (x : It) (l' l l₁ : List It) [h : Take x l l₁] [h' : Reorder l' l₁] : Reorder (x :: l') l := ⟨h.perm.trans (h'.perm.cons x)⟩
theorem Tr.re {Q : α → sProp 𝕄} {l l' : List It} [h : Reorder l' l] {p : Prog (TpuEff nD τ sig (Elt F) Λ₀ .tc) α} (hp : Tr m c l' p Q) : Tr m c l p Q := fun K => by
  rw [ctx_perm m c h.perm]; exact hp K

/-! ## The reduce-scatter -/

theorem rot_zero : ∀ c : Dev nD, rot 0 c = c := by decide

abbrev S1 : Fin 2 → ℕ := S1024x1024.size

/-- A chunk of `x` brought in and rounded. -/
theorem Tr.loadXD {Q : α → sProp 𝕄} (off : Dev nD → Fin 2 → ℕ) (k : Fin 4) (n : ℕ) (i : It) {l fr : List It} [Takes [.x k, .xsAny, .copyZ, .ow n, i] l fr]
    {inb : ∀ a, off c a + S1024x1024.size a ≤ S4096x1024.size a} {hr1} {inb0 inb1 inb2 : ∀ a, (![0, 0] : Fin 2 → ℕ) a + S1024x1024.size a ≤ S1024x1024.size a}
    {spv : Space} {sv : Shape} {tyv : EltTy} {srcw : Memref sig .tc spv sv tyv} {h1 h2 h3 h4 h5} {hl hl' hx hm}
    {w : Vec F S1024x1024 .f32 → Vec F S1024x1024 .bf16 → Vec F S1024x1024 .bf16} {kk : Vec F S1024x1024 .f32 → Vec F S1024x1024 .bf16 → PUnit → Prog (TpuEff nD τ sig (Elt F) Λ₀ .tc) α}
    (hi : res m c i ⊢ anyW c xbM)
    (hk : ∀ y, Tr m c (.x k :: .xsAny :: .copyZ :: .xb k :: .ow n :: fr) (kk (xch m c (rot k.val c)) y ⟨⟩) Q)
    (hoff : ∀ c, off c = ![1024 * (rot k.val c).val, 0] := by decide +kernel) (hw : ∀ v y, w v y = k0_pay2 v := by intros; rfl) :
    Tr m c l (.op (.enqueueDma (xM.slice (Rect.unit (s := S4096x1024) (off c) S1024x1024.size inb) hr1) (.here xsM) (.dma cc0_scratch12.sem) h1 h2 h3) fun _ =>
      .op (.waitDma2 cc0_scratch12.sem srcw xsM h4 h5) fun _ =>
      .op (.load xsM (Rect.unit (s := S1024x1024) ![0, 0] S1024x1024.size inb0).toLoadRect hl) fun v =>
      .op (.load xbM (Rect.unit (s := S1024x1024) ![0, 0] S1024x1024.size inb1).toLoadRect hl') fun y =>
      .op (.store xbM (Rect.unit (s := S1024x1024) ![0, 0] S1024x1024.size inb2) (w v y) Finset.univ hx hm) (kk v y)) Q := by
  have h0 : (![0, 0] : Fin S1024x1024.rank → ℕ) = fun _ => 0 := by decide
  refine Tr.take [.x k, .xsAny, .copyZ, .ow n, i] ?_
  have e := Memref.slice_unit_congr xM (hoff c) inb (by rw [← hoff c]; exact inb) hr1 (fun _ => rfl)
  refine Tr.copy (.x k) .xsAny .copyZ (.xfl k) (X := xch m c (rot k.val c)) (by exact (by decide +kernel : 0 < S1024x1024.numel)) (by rw [e]; rfl) (by exact Entails.rfl) rfl
    (by rw [e]; exact Entails.rfl) ?_
  refine Tr.copyWait (.xfl k) n (.xs k) (.x k) .copyZ rfl rfl lvS_copy (by exact Entails.rfl) (by exact Entails.rfl) rfl ?_
  refine Tr.loadSub (.xs k) (xch m c (rot k.val c)) (Y := xch m c (rot k.val c)) rfl (by funext j; exact congrArg _ (emb_full h0 _ j)) ?_
  refine Tr.take [i, .xs k, .x k, .copyZ, .ow n] ?_
  refine Tr.putD i (.xb k) (hr := fun _ => rfl) (hi.trans (any_full c xbM h0 _)) ?_ (fun y => ?_)
  · intro y
    rw [hw]
    exact Entails.of_eq (owns_full c xbM h0 _ fullShare _)
  refine Tr.take [.x k, .xs k, .copyZ, .xb k, .ow n] ?_
  refine Tr.turn (l := [.x k, .xs k, .copyZ, .xb k, .ow n]) (l' := [.x k, .xsAny, .copyZ, .xb k, .ow n]) ?_ (hk y)
  simp only [ctx_cons]
  iintro ⟨H1, H2, H3⟩
  isplitl [H1]; · iexact H1
  isplitl [H2]; · iapply (show res m c (.xs k) ⊢ res m c .xsAny from any_of c xsM _); iexact H2
  iexact H3

/-- The same when nothing else reads the old contents. -/
theorem Tr.loadX {Q : α → sProp 𝕄} (off : Dev nD → Fin 2 → ℕ) (k : Fin 4) (n : ℕ) (i : It) {l fr : List It} [Takes [.x k, .xsAny, .copyZ, .ow n, i] l fr]
    {inb : ∀ a, off c a + S1024x1024.size a ≤ S4096x1024.size a} {hr1} {inb0 inb1 inb2 : ∀ a, (![0, 0] : Fin 2 → ℕ) a + S1024x1024.size a ≤ S1024x1024.size a}
    {spv : Space} {sv : Shape} {tyv : EltTy} {srcw : Memref sig .tc spv sv tyv} {h1 h2 h3 h4 h5} {hl hl' hx hm}
    {w : Vec F S1024x1024 .f32 → Vec F S1024x1024 .bf16} {kk : Vec F S1024x1024 .f32 → PUnit → Prog (TpuEff nD τ sig (Elt F) Λ₀ .tc) α}
    (hi : res m c i ⊢ anyW c xbM)
    (hk : Tr m c (.x k :: .xsAny :: .copyZ :: .xb k :: .ow n :: fr) (kk (xch m c (rot k.val c)) ⟨⟩) Q)
    (hoff : ∀ c, off c = ![1024 * (rot k.val c).val, 0] := by decide +kernel) (hw : ∀ v, w v = k0_pay2 v := by intros; rfl) :
    Tr m c l (.op (.enqueueDma (xM.slice (Rect.unit (s := S4096x1024) (off c) S1024x1024.size inb) hr1) (.here xsM) (.dma cc0_scratch12.sem) h1 h2 h3) fun _ =>
      .op (.waitDma2 cc0_scratch12.sem srcw xsM h4 h5) fun _ =>
      .op (.load xsM (Rect.unit (s := S1024x1024) ![0, 0] S1024x1024.size inb0).toLoadRect hl) fun v =>
      .op (.load xbM (Rect.unit (s := S1024x1024) ![0, 0] S1024x1024.size inb1).toLoadRect hl') fun _ =>
      .op (.store xbM (Rect.unit (s := S1024x1024) ![0, 0] S1024x1024.size inb2) (w v) Finset.univ hx hm) (kk v)) Q :=
  Tr.loadXD off k n i hi (fun _ => hk) hoff (fun v _ => hw v)

/-- The rounded chunk and the columns of direction `d` of `w` read. -/
theorem Tr.loadP {Q : α → sProp 𝕄} (k : Fin 4) (d : Bool) {l fr : List It} [Takes [.xb k, .wb] l fr]
    {inb0 : ∀ a, (![0, 0] : Fin 2 → ℕ) a + S1024x1024.size a ≤ S1024x1024.size a} {hl hl'}
    {kk : Vec F S1024x1024 .bf16 → Vec F S1024x1024 .bf16 → Prog (TpuEff nD τ sig (Elt F) Λ₀ .tc) α}
    (hk : Tr m c (.xb k :: .wb :: fr) (kk (xbv m c (rot k.val c)) (wcol m c d)) Q) :
    Tr m c l (.op (.load xbM (Rect.unit (s := S1024x1024) ![0, 0] S1024x1024.size inb0).toLoadRect hl) fun v =>
      .op (.load wbM (wR d).toLoadRect hl') fun u => kk v u) Q := by
  have h0 : (![0, 0] : Fin S1024x1024.rank → ℕ) = fun _ => 0 := by decide
  refine Tr.take [.xb k, .wb] ?_
  refine Tr.loadSub (.xb k) (xbv m c (rot k.val c)) (Y := xbv m c (rot k.val c)) rfl (by funext j; exact congrArg _ (emb_full h0 _ j)) ?_
  refine Tr.take [.wb, .xb k] ?_
  refine Tr.loadSub .wb (wbv m c) (Y := wcol m c d) rfl rfl ?_
  exact Tr.take [.xb k, .wb] hk

/-- The rows of the first product stored. -/
theorem Tr.first {Q : α → sProp 𝕄} (d : Bool) (s : Fin 4) {l fr : List It} [Takes [.xb 0, .wb, .accAny d s] l fr]
    {hl hl' hl'' hx hm} {w : Vec F S256x1024 .bf16 → Vec F S1024x1024 .bf16 → Vec F S256x1024 .bf16} {kk : PUnit → Prog (TpuEff nD τ sig (Elt F) Λ₀ .tc) α}
    (hk : Tr m c (.acc d s 0 :: .xb 0 :: .wb :: fr) (kk ⟨⟩) Q) (hw : ∀ v u, w v u = k0_pay3 v u := by intros; rfl) :
    Tr m c l (.op (.load xbM (rowR s).toLoadRect hl) fun v => .op (.load wbM (wR d).toLoadRect hl') fun u =>
      .op (.load (accM d) (rowR s).toLoadRect hl'') fun _ => .op (.store (accM d) (rowR s) (w v u) Finset.univ hx hm) kk) Q := by
  refine Tr.take [.xb 0, .wb, .accAny d s] ?_
  refine Tr.loadSub (.xb 0) (xbv m c (rot 0 c)) (Y := fun j => xbv m c c ((rowR s).emb j)) rfl (by rw [rot_zero]) ?_
  refine Tr.take [.wb, .xb 0, .accAny d s] ?_
  refine Tr.loadSub .wb (wbv m c) (Y := wcol m c d) rfl rfl ?_
  refine Tr.take [.accAny d s, .xb 0, .wb] ?_
  exact Tr.put (.accAny d s) (.acc d s 0) (hr := fun _ => rfl) (by exact Entails.rfl) (by rw [hw]; exact Entails.rfl) hk

/-- Rows of the accumulator sent on. -/
theorem Tr.rs {Q : α → sProp 𝕄} (d : Bool) (h : Fin 3) (s k : Fin 4) (n : ℕ) {l fr : List It} [Takes [.idle (.rs d h s), .ow n, .acc d s k, .rsP d h s] l fr]
    {dv : Dev nD → ℕ} {hx : dv c < nD} {sS sR : DmaSem sig} {src dst : Memref sig .tc .vmem S256x1024 .bf16} {h1 h2 h3 h4}
    {kk : PUnit → Prog (TpuEff nD τ sig (Elt F) Λ₀ .tc) α}
    (hk : Tr m c (.live (.rs d h s) :: .ow (n + 1) :: fr) (kk ⟨⟩) Q)
    (hd : ∀ c, dv c = (dstD d c).val := by decide +kernel) (hs : SemLoc.dma sS = csem (.snd (.rs d h s)) := by rfl) (hr : SemLoc.dma sR = csem (.rcv (.rs d h s)) := by rfl)
    (hsrc : src = accW d s := by rfl) (hdst : dst = (rsW d h s).squeeze S256x1024 squeezes_S1x256x1024_S256x1024 := by rfl)
    (hN : dst.view.dmaCredit = cpN (.rs d h s) := by rfl)
    (hpay : payL.drop n = .cp (.rs d h s) :: payL.drop (n + 1) := by rfl) (hkk : h.castSucc = k := by rfl) (hrcv : payItems (.rcv (.rs d h s)) false = [.rs d h s] := by rfl) :
    Tr m c l (.op (.enqueueDma src (.remote (Dev.tc (⟨dv c, hx⟩ : Dev nD)) dst (.dma sS) h1) (.dma sR) h2 h3 h4) kk) Q := by
  subst hkk
  subst hsrc hdst
  refine Tr.take [.idle (.rs d h s), .ow n, .acc d s h.castSucc, .rsP d h s] ?_
  refine Tr.start (.rs d h s) n (.acc d s h.castSucc) (.rsP d h s) (.rs d h s) [] [] (X := accv m d s h.val c) (Fin.ext (hd c)) hs hr hN hpay rfl hrcv rfl
    (by exact any_squeeze (dstD d c) (rsW d h s) squeezes_S1x256x1024_S256x1024) ?_ (by exact Entails.rfl) hk
  show atW (dstD d c) ((rsW d h s).squeeze S256x1024 squeezes_S1x256x1024_S256x1024) fullShare (accv m d s h.val c) ⊢ atW (dstD d c) (rsW d h s) fullShare (rsv m (dstD d c) d h s)
  unfold atW
  rw [owns_squeeze]
  unfold rsv
  rw [src_dst]
  exact Entails.rfl

theorem accv_succ (c : Dev nD) (d : Bool) (h : Fin 3) (s : Fin 4) : accv m d s h.succ.val c = stepV s (pv m c d h) (rsv m c d h s) := by
  show stepV s (pv m c d (Fin.ofNat 3 h.val)) _ = _
  rw [(by decide : ∀ h : Fin 3, Fin.ofNat 3 h.val = h) h]
  rfl

/-- One hop: the rows sent come back, the neighbour's rows land and are added. -/
theorem Tr.hop' {Q : α → sProp 𝕄} (d : Bool) (h : Fin 3) (s k k' : Fin 4) (n : ℕ) {l fr : List It} [Takes [.live (.rs d h s), .ow n] l fr]
    {sS sR : DmaSem sig} {sp1 sp2 sp3 sp4 : Space} {s1 s2 s3 s4 : Shape} {t1 t2 t3 t4 : EltTy} {a1 : Memref sig .tc sp1 s1 t1} {a2 : Memref sig .tc sp2 s2 t2} {a3 : Memref sig .tc sp3 s3 t3} {a4 : Memref sig .tc sp4 s4 t4}
    {h1 h2 h3 h4 hl hl' hx hm} {w : Vec F S1x256x1024 .bf16 → Vec F S256x1024 .bf16}
    {kk : Vec F S1x256x1024 .bf16 → PUnit → Prog (TpuEff nD τ sig (Elt F) Λ₀ .tc) α}
    (hs : SemLoc.dma sS = csem (.snd (.rs d h s))) (hr : SemLoc.dma sR = csem (.rcv (.rs d h s)))
    (hN : a2.view.dmaCredit = cpN (.rs d h s)) (hN' : a4.view.dmaCredit = cpN (.rs d h s)) (hl0 : ∀ p ∈ payL.drop n, lvC (.rcv (.rs d h s)) < lvP p)
    (hkk : h.castSucc = k) (hkk' : h.succ = k') (hw : w (rsv m c d h s) = stepV s (pv m c d h) (rsv m c d h s))
    (hk : Tr m c (.acc d s k' :: .rs d h s :: .ow n :: .fin (.rs d h s) :: (if d = true ∧ h = 0 ∧ s = 0 then .amP 1 :: fr else fr)) (kk (rsv m c d h s) ⟨⟩) Q) :
    Tr m c l (.op (.waitDma2 sS a1 a2 h1 h2) fun _ => .op (.waitDma2 sR a3 a4 h3 h4) fun _ =>
      .op (.load (rsM d) (rsR h s).toLoadRect hl) fun v => .op (.load (accM d) (rowR s).toLoadRect hl') fun _ =>
      .op (.store (accM d) (rowR s) (w v) Finset.univ hx hm) (kk v)) Q := by
  subst hkk hkk'
  rw [← accv_succ] at hw
  refine Tr.take [.live (.rs d h s), .ow n] ?_
  refine Tr.waitS (.rs d h s) n hs hN ?_
  rw [show payItems (.snd (.rs d h s)) false = [.acc d s h.castSucc] from rfl]
  refine Tr.take [.half (.rs d h s), .ow n, .acc d s h.castSucc] ?_
  refine Tr.waitR (.rs d h s) n hr hN' hl0 ?_
  by_cases hc : d = true ∧ h = 0 ∧ s = 0
  · rw [if_pos hc] at hk
    rw [show payItems (.rcv (.rs d h s)) false = [.rs d h s, .amP 1] from if_pos hc]
    refine Tr.take [.rs d h s, .amP 1, .fin (.rs d h s), .ow n, .acc d s h.castSucc] ?_
    refine Tr.load (.rs d h s) (hr := fun _ => rfl) rfl ?_
    refine Tr.take [.acc d s h.castSucc, .rs d h s, .amP 1, .fin (.rs d h s), .ow n] ?_
    refine Tr.put (.acc d s h.castSucc) (.acc d s h.succ) (hr := fun _ => rfl) (by exact any_of _ _ _) (by rw [hw]; exact Entails.rfl) ?_
    exact Tr.take [.acc d s h.succ, .rs d h s, .ow n, .fin (.rs d h s), .amP 1] hk
  · rw [if_neg hc] at hk
    rw [show payItems (.rcv (.rs d h s)) false = [.rs d h s] from if_neg hc]
    refine Tr.take [.rs d h s, .fin (.rs d h s), .ow n, .acc d s h.castSucc] ?_
    refine Tr.load (.rs d h s) (hr := fun _ => rfl) rfl ?_
    refine Tr.take [.acc d s h.castSucc, .rs d h s, .fin (.rs d h s), .ow n] ?_
    refine Tr.put (.acc d s h.castSucc) (.acc d s h.succ) (hr := fun _ => rfl) (by exact any_of _ _ _) (by rw [hw]; exact Entails.rfl) ?_
    exact Tr.take [.acc d s h.succ, .rs d h s, .ow n, .fin (.rs d h s)] hk

/-- One hop but the first to the left, -/
theorem Tr.hop {Q : α → sProp 𝕄} (d : Bool) (h : Fin 3) (s k k' : Fin 4) (n : ℕ) {l fr : List It} [Takes [.live (.rs d h s), .ow n] l fr]
    {sS sR : DmaSem sig} {sp1 sp2 sp3 sp4 : Space} {s1 s2 s3 s4 : Shape} {t1 t2 t3 t4 : EltTy} {a1 : Memref sig .tc sp1 s1 t1} {a2 : Memref sig .tc sp2 s2 t2} {a3 : Memref sig .tc sp3 s3 t3} {a4 : Memref sig .tc sp4 s4 t4}
    {h1 h2 h3 h4 hl hl' hx hm} {w : Vec F S1x256x1024 .bf16 → Vec F S256x1024 .bf16}
    {kk : Vec F S1x256x1024 .bf16 → PUnit → Prog (TpuEff nD τ sig (Elt F) Λ₀ .tc) α}
    (hk : Tr m c (.acc d s k' :: .rs d h s :: .ow n :: .fin (.rs d h s) :: fr) (kk (rsv m c d h s) ⟨⟩) Q)
    (hs : SemLoc.dma sS = csem (.snd (.rs d h s)) := by rfl) (hr : SemLoc.dma sR = csem (.rcv (.rs d h s)) := by rfl)
    (hN : a2.view.dmaCredit = cpN (.rs d h s) := by rfl) (hN' : a4.view.dmaCredit = cpN (.rs d h s) := by rfl) (hl0 : ∀ p ∈ payL.drop n, lvC (.rcv (.rs d h s)) < lvP p := by decide +kernel)
    (hkk : h.castSucc = k := by rfl) (hkk' : h.succ = k' := by rfl) (hw : w (rsv m c d h s) = stepV s (pv m c d h) (rsv m c d h s) := by rfl) (hc : ¬(d = true ∧ h = 0 ∧ s = 0) := by decide) :
    Tr m c l (.op (.waitDma2 sS a1 a2 h1 h2) fun _ => .op (.waitDma2 sR a3 a4 h3 h4) fun _ =>
      .op (.load (rsM d) (rsR h s).toLoadRect hl) fun v => .op (.load (accM d) (rowR s).toLoadRect hl') fun _ =>
      .op (.store (accM d) (rowR s) (w v) Finset.univ hx hm) (kk v)) Q :=
  Tr.hop' d h s k k' n hs hr hN hN' hl0 hkk hkk' hw (by rw [if_neg hc]; exact hk)

/-- and that one. -/
theorem Tr.hop0 {Q : α → sProp 𝕄} (n : ℕ) {l fr : List It} [Takes [.live (.rs true 0 0), .ow n] l fr]
    {sS sR : DmaSem sig} {sp1 sp2 sp3 sp4 : Space} {s1 s2 s3 s4 : Shape} {t1 t2 t3 t4 : EltTy} {a1 : Memref sig .tc sp1 s1 t1} {a2 : Memref sig .tc sp2 s2 t2} {a3 : Memref sig .tc sp3 s3 t3} {a4 : Memref sig .tc sp4 s4 t4}
    {h1 h2 h3 h4 hl hl' hx hm} {w : Vec F S1x256x1024 .bf16 → Vec F S256x1024 .bf16}
    {kk : Vec F S1x256x1024 .bf16 → PUnit → Prog (TpuEff nD τ sig (Elt F) Λ₀ .tc) α}
    (hk : Tr m c (.acc true 0 1 :: .rs true 0 0 :: .ow n :: .fin (.rs true 0 0) :: .amP 1 :: fr) (kk (rsv m c true 0 0) ⟨⟩) Q)
    (hs : SemLoc.dma sS = csem (.snd (.rs true 0 0)) := by rfl) (hr : SemLoc.dma sR = csem (.rcv (.rs true 0 0)) := by rfl)
    (hN : a2.view.dmaCredit = cpN (.rs true 0 0) := by rfl) (hN' : a4.view.dmaCredit = cpN (.rs true 0 0) := by rfl) (hl0 : ∀ p ∈ payL.drop n, lvC (.rcv (.rs true 0 0)) < lvP p := by decide +kernel)
    (hw : w (rsv m c true 0 0) = stepV 0 (pv m c true 0) (rsv m c true 0 0) := by rfl) :
    Tr m c l (.op (.waitDma2 sS a1 a2 h1 h2) fun _ => .op (.waitDma2 sR a3 a4 h3 h4) fun _ =>
      .op (.load (rsM true) (rsR 0 0).toLoadRect hl) fun v => .op (.load (accM true) (rowR 0).toLoadRect hl') fun _ =>
      .op (.store (accM true) (rowR 0) (w v) Finset.univ hx hm) (kk v)) Q :=
  Tr.hop' true 0 0 0 1 n hs hr hN hN' hl0 rfl rfl hw hk

/-! ## The kernel's parts at this launch's buffers -/

/-- A part of the kernel, its buffers and semaphores those of the launch. -/
abbrev at' {β : Sort _} (f : (arg0 : Memref sig .tc .hbm S4096x1024 .f32) → (harg0 : arg0.IsWhole) → (arg1 : Memref sig .tc .vmem S1024x2048 .f32) → (harg1 : arg1.IsWhole) → (arg2 : Memref sig .tc .hbm S4096x2048 .f32) → (harg2 : arg2.IsWhole) → (arg3 : Memref sig .tc .vmem S1024x1024 .f32) → (harg3 : arg3.IsWhole) → (arg4 : Memref sig .tc .vmem S1024x1024 .bf16) → (harg4 : arg4.IsWhole) → (arg5 : Memref sig .tc .vmem S1024x2048 .bf16) → (harg5 : arg5.IsWhole) → (arg6 : Memref sig .tc .vmem S1024x1024 .bf16) → (harg6 : arg6.IsWhole) → (arg7 : Memref sig .tc .vmem S1024x1024 .bf16) → (harg7 : arg7.IsWhole) → (arg8 : Memref sig .tc .vmem S3x1024x1024 .bf16) → (harg8 : arg8.IsWhole) → (arg9 : Memref sig .tc .vmem S3x1024x1024 .bf16) → (harg9 : arg9.IsWhole) → (arg10 : Memref sig .tc .vmem S4x1024x1024 .i8) → (harg10 : arg10.IsWhole) → (arg11 : Memref sig .tc .vmem S4x1024x1024 .i8) → (harg11 : arg11.IsWhole) → (arg12 : Memref sig .tc .vmem S1024x1024 .f32) → (harg12 : arg12.IsWhole) → (arg13 : Memref sig .tc .vmem S1024x1024 .f32) → (harg13 : arg13.IsWhole) → (arg14 : Memref sig .tc .vmem S4x8x128 .f32) → (harg14 : arg14.IsWhole) → (arg15 : DmaSems sig S_) → (arg16 : DmaSems sig S_) → (arg17 : DmaSems sig S_) → (arg18 : DmaSems sig S3x4) → (arg19 : DmaSems sig S3x4) → (arg20 : DmaSems sig S3x4) → (arg21 : DmaSems sig S3x4) → (arg22 : DmaSems sig S3) → (arg23 : DmaSems sig S3) → (arg24 : DmaSems sig S3x4) → (arg25 : DmaSems sig S3x4) → (arg26 : DmaSems sig S3x4) → (arg27 : DmaSems sig S3x4) → (v2209_r0 : Sems sig S_) → β) : β :=
  f (Memref.whole main_arg0) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21 cc0_scratch22 cc0_scratch23 cc0_scratch24 cc0_scoped0

/-- One piece for each sub-block, in the order of the kernel. -/
def its (f : Bool → Fin 4 → It) : List It := [f false 0, f true 0, f false 1, f true 1, f false 2, f true 2, f false 3, f true 3]

/-! ## What the first barrier hands over -/

theorem ctx_map {β : Type} {c' : Dev nD} (f g : β → It) (h : ∀ b, res m c (f b) = res m c' (g b)) (l : List β) : ctx m c (l.map f) = ctx m c' (l.map g) := by
  induction l with
  | nil => rfl
  | cons b l ih => rw [List.map_cons, List.map_cons, ctx_cons, ctx_cons, h, ih]
theorem ctx_flatMap {β : Type} {c' : Dev nD} (f g : β → List It) (h : ∀ b, ctx m c (f b) = ctx m c' (g b)) (l : List β) : ctx m c (l.flatMap f) = ctx m c' (l.flatMap g) := by
  induction l with
  | nil => rfl
  | cons b l ih => rw [List.flatMap_cons, List.flatMap_cons, ctx_append, ctx_append, h, ih]

/-- What a device hands the neighbour in direction `d`. -/
def handL (d : Bool) : List It :=
  ((List.finRange 3).flatMap fun h => (List.finRange 4).map fun s => It.rsAny (!d) h s)
    ++ ((List.finRange 3).flatMap fun g => (List.finRange 4).map fun s => It.qAny (!d) g.succ s)
    ++ (if d then [It.amAny 3, It.amAny 2] else [It.amAny 1])

theorem dst_not (d : Bool) (c : Dev nD) : dstD (!d) (dstD d c) = c := by revert d c; decide
theorem am_back : ∀ c : Dev nD, rot 1 (dstD true c) = c ∧ dstD true c = rot 3 c ∧ rot 3 (dstD true c) = rot 2 c ∧ rot 3 (dstD false c) = c ∧ dstD false c = rot 1 c := by decide

theorem hand (d : Bool) : ctx m c (handL d) = ctx m (dstD d c) (barItems (!d)) := by
  unfold handL barItems
  rw [ctx_append, ctx_append, ctx_append, ctx_append]
  congr 1
  · congr 1
    · refine ctx_flatMap _ _ (fun h => ctx_map _ _ (fun s => ?_) _) _
      show anyW c _ = anyW (dstD (!d) (dstD d c)) _
      rw [dst_not]
    · refine ctx_flatMap _ _ (fun h => ctx_map _ _ (fun s => ?_) _) _
      show anyW c _ = anyW (dstD (!d) (dstD d c)) (qW (!d) (slotD (!d) _ (dstD (!d) (dstD d c))) _)
      rw [dst_not]
  · obtain ⟨e1, e2, e3, e4, e5⟩ := am_back c
    cases d
    · show iprop(anyW c (amW (rot 1 c)) ∗ emp) = iprop(anyW (rot 3 (dstD false c)) (amW (dstD false c)) ∗ emp)
      rw [e4, e5]
    · show iprop(anyW c (amW (rot 3 c)) ∗ anyW c (amW (rot 2 c)) ∗ emp) = iprop(anyW (rot 1 (dstD true c)) (amW (dstD true c)) ∗ anyW (rot 1 (dstD true c)) (amW (rot 3 (dstD true c))) ∗ emp)
      rw [e1, e3, e2]

/-- The first rows sent to the left, with the row of the table the left neighbour will write in turn. -/
theorem Tr.rs0 {Q : α → sProp 𝕄} (n : ℕ) {l fr : List It} [Takes [.idle (.rs true 0 0), .ow n, .acc true 0 0, .rsP true 0 0, .amF] l fr]
    {dv : Dev nD → ℕ} {hx : dv c < nD} {sS sR : DmaSem sig} {src dst : Memref sig .tc .vmem S256x1024 .bf16} {h1 h2 h3 h4}
    {kk : PUnit → Prog (TpuEff nD τ sig (Elt F) Λ₀ .tc) α}
    (hk : Tr m c (.live (.rs true 0 0) :: .ow (n + 1) :: fr) (kk ⟨⟩) Q)
    (hd : ∀ c, dv c = (dstD true c).val := by decide +kernel) (hs : SemLoc.dma sS = csem (.snd (.rs true 0 0)) := by rfl) (hr : SemLoc.dma sR = csem (.rcv (.rs true 0 0)) := by rfl)
    (hsrc : src = accW true 0 := by rfl) (hdst : dst = (rsW true 0 0).squeeze S256x1024 squeezes_S1x256x1024_S256x1024 := by rfl)
    (hN : dst.view.dmaCredit = cpN (.rs true 0 0) := by rfl)
    (hpay : payL.drop n = .cp (.rs true 0 0) :: payL.drop (n + 1) := by rfl) (hrcv : payItems (.rcv (.rs true 0 0)) false = [.rs true 0 0, .amP 1] := by rfl) :
    Tr m c l (.op (.enqueueDma src (.remote (Dev.tc (⟨dv c, hx⟩ : Dev nD)) dst (.dma sS) h1) (.dma sR) h2 h3 h4) kk) Q := by
  subst hsrc hdst
  refine Tr.take [.idle (.rs true 0 0), .ow n, .acc true 0 0, .rsP true 0 0, .amF] ?_
  refine Tr.start (.rs true 0 0) n (.acc true 0 0) (.rsP true 0 0) (.rs true 0 0) [.amF] [.amP 1] (X := accv m true 0 0 c) (Fin.ext (hd c)) hs hr hN hpay rfl hrcv rfl
    (by exact any_squeeze (dstD true c) (rsW true 0 0) squeezes_S1x256x1024_S256x1024) ?_ ?_ hk
  · show atW (dstD true c) ((rsW true 0 0).squeeze S256x1024 squeezes_S1x256x1024_S256x1024) fullShare (accv m true 0 0 c) ⊢ atW (dstD true c) (rsW true 0 0) fullShare (rsv m (dstD true c) true 0 0)
    unfold atW
    rw [owns_squeeze]
    unfold rsv
    rw [src_dst]
    exact Entails.rfl
  · obtain ⟨e1, e2, e3, e4, e5⟩ := am_back c
    have e6 := (by decide : ∀ c : Dev nD, rot 2 (dstD true c) = rot 1 c) c
    show iprop(anyW (rot 1 c) (amW (rot 3 c)) ∗ emp) ⊢ iprop(anyW (rot 2 (dstD true c)) (amW (dstD true c)) ∗ emp)
    rw [e6, ← e2]

end Cert.Proof
-- ==== Proof.Reduce.lean ====
/-
  The kernel up to the first barrier, and the first sweep of the reduce-scatter.
-/
module

public import proofs.«01_k».proof.Proof.Steps

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ)

variable {m} {c : Dev nD} {α : Type}

set_option maxRecDepth 65536
set_option synthInstance.maxSize 1000000
set_option synthInstance.maxHeartbeats 0
attribute [local irreducible] Tr

/-- Parts 1 and 2: the neighbours signalled, `w` and the own chunk rounded, the first rows multiplied, the barrier passed. -/
theorem s0 {Q : α → sProp 𝕄} {fr : List It} {k : Dev nD → BitVec 32 → BitVec 32 → BitVec 32 → Prog (TpuEff nD τ sig (Elt F) Λ₀ .tc) α}
    (hk : ∀ v2 v13 v25, Tr m c (.barZ :: .ow 2 :: (barItems true ++ (barItems false ++ (.acc false 0 0 :: .xb 0 :: .wb :: .w :: .x 0 :: .xsAny :: .copyZ :: fr)))) (k c v2 v13 v25) Q) :
    Tr m c (.barT true :: .ow 0 :: (handL true ++ (.barT false :: (handL false ++ (.barW :: .w :: .wbAny :: .x 0 :: .xsAny :: .copyZ :: .xbAny :: .accAny false 0 :: fr)))))
      ((at' (k0_part1_skel (F := F))) >>= fun ⟨d0, v2, v13, v25, v26, v31⟩ => (at' (k0_part2_skel (F := F))) d0 v2 v13 v26 v31 >>= fun _ => k d0 v2 v13 v25) Q := by
  refine Tr.devId ?_
  refine Tr.barSignal true 0 (handL true) (by clear hk; revert c; decide +kernel) rfl rfl rfl (Entails.of_eq (hand true)) ?_
  refine Tr.take [.barT false, .ow 1] ?_
  refine Tr.barSignal false 1 (handL false) (by clear hk; revert c; decide +kernel) rfl rfl rfl (Entails.of_eq (hand false)) ?_
  refine Tr.take [.w] ?_
  refine Tr.loadSub .w (wA m c) (Y := wA m c) rfl (by funext j; exact congrArg _ (emb_full (by decide) _ j)) ?_
  refine Tr.take [.wbAny] ?_
  refine Tr.put .wbAny .wb (hr := fun _ => rfl) (any_full c wbM (by decide) _) (Entails.of_eq (owns_full c wbM (by decide) _ fullShare _)) ?_
  refine Tr.loadX k0_off1 0 2 .xbAny Entails.rfl ?_
  refine Tr.first false 0 ?_
  refine Tr.take [.barW, .ow 2, .acc false 0 0, .xb 0, .wb, .w, .x 0, .xsAny, .copyZ] ?_
  refine Tr.barWait 2 rfl rfl (by decide +kernel) ?_
  exact hk _ _ _

/-- Parts 3 to 8: the first products stored and sent on, the next two chunks brought in. -/
theorem s1 {Q : α → sProp 𝕄} {fr : List It} {v2 v13 v25 : BitVec 32} {k : Vec F S1024x1024 .f32 → Vec F S1024x1024 .f32 → Prog (TpuEff nD τ sig (Elt F) Λ₀ .tc) α}
    (hk : Tr m c ((its fun d s => .live (.rs d 0 s)) ++ (.ow 10 :: .xb 1 :: .wb :: .x 3 :: .x 1 :: .xsAny :: .copyZ :: fr)) (k (pv m c false 0) (pv m c true 0)) Q) :
    Tr m c ((its fun d s => .idle (.rs d 0 s)) ++ ((its fun d s => .rsP d 0 s) ++ (.amF :: .ow 2 :: .xb 0 :: .wb :: .x 3 :: .x 1 :: .xsAny :: .copyZ
        :: .acc false 0 0 :: .accAny true 0 :: .accAny false 1 :: .accAny true 1 :: .accAny false 2 :: .accAny true 2 :: .accAny false 3 :: .accAny true 3 :: fr)))
      ((at' (k0_part3_skel (F := F))) c v25 >>= fun _ => (at' (k0_part4_skel (F := F))) c v13 v25 >>= fun ⟨v109, v110, cst⟩ =>
        (at' (k0_part5_skel (F := F))) c v13 v25 v109 v110 cst >>= fun _ => (at' (k0_part6_skel (F := F))) c v13 >>= fun _ =>
        (at' (k0_part7_skel (F := F))) c v2 v25 >>= fun v193 => (at' (k0_part8_skel (F := F))) c v2 v193 >>= fun ⟨v195, v218⟩ => k v195 v218) Q := by
  simp only [its, List.cons_append, List.nil_append, List.take_succ_cons, List.take_zero] at hk ⊢
  refine Tr.rs false 0 0 0 2 ?_
  refine Tr.first true 0 ?_
  refine Tr.rs0 3 ?_
  refine Tr.first false 1 ?_
  refine Tr.rs false 0 1 0 4 ?_
  refine Tr.first true 1 ?_
  refine Tr.rs true 0 1 0 5 ?_
  refine Tr.first false 2 ?_
  refine Tr.rs false 0 2 0 6 ?_
  refine Tr.first true 2 ?_
  refine Tr.rs true 0 2 0 7 ?_
  refine Tr.first false 3 ?_
  refine Tr.rs false 0 3 0 8 ?_
  refine Tr.first true 3 ?_
  refine Tr.rs true 0 3 0 9 ?_
  refine Tr.loadX (fun c => k0_off2 c 0#32) 3 10 (.xb 0) (any_of _ _ _) ?_
  refine Tr.loadP 3 false ?_
  refine Tr.loadX (fun c => k0_off3 c 0#32) 1 10 (.xb 3) (any_of _ _ _) ?_
  refine Tr.loadP 1 true ?_
  exact Tr.re (hk)

/-- Parts 9 to 17: the first hop, each sum sent on but the last. -/
theorem s2 {Q : α → sProp 𝕄} {fr : List It} {v13 v25 : BitVec 32} {v195 v218 : FVec F S1024x1024 .f32} {k : Prog (TpuEff nD τ sig (Elt F) Λ₀ .tc) α}
    (e1 : v195 = pv m c false 0) (e2 : v218 = pv m c true 0)
    (hk : Tr m c ((its fun d s => .fin (.rs d 0 s)) ++ ((its fun d s => .rs d 0 s) ++ (((its fun d s => .live (.rs d 1 s)).take 7)
      ++ (.ow 17 :: .acc true 3 1 :: .idle (.rs true 1 3) :: .rsP true 1 3 :: .amP 1 :: fr)))) k Q) :
    Tr m c ((its fun d s => .live (.rs d 0 s)) ++ ((its fun d s => .idle (.rs d 1 s)) ++ ((its fun d s => .rsP d 1 s) ++ (.ow 10 :: fr))))
      ((at' (k0_part9_skel (F := F))) c v13 v195 >>= fun _ =>
        (at' (k0_part10_skel (F := F))) v25 v218 >>= fun _ =>
        (at' (k0_part11_skel (F := F))) c v13 v195 >>= fun v299 =>
        (at' (k0_part12_skel (F := F))) c v13 v25 v299 >>= fun _ =>
        (at' (k0_part13_skel (F := F))) c v13 v25 v218 >>= fun _ =>
        (at' (k0_part14_skel (F := F))) c v13 v195 >>= fun _ =>
        (at' (k0_part15_skel (F := F))) c v25 v218 >>= fun _ =>
        (at' (k0_part16_skel (F := F))) v13 v195 >>= fun _ =>
        (at' (k0_part17_skel (F := F))) c v25 v218 >>= fun _ => k) Q := by
  subst e1 e2
  simp only [its, List.cons_append, List.nil_append, List.take_succ_cons, List.take_zero] at hk ⊢
  refine Tr.hop false 0 0 0 1 10 ?_
  refine Tr.rs false 1 0 1 10 ?_
  refine Tr.hop0 11 ?_
  refine Tr.rs true 1 0 1 11 ?_
  refine Tr.hop false 0 1 0 1 12 ?_
  refine Tr.rs false 1 1 1 12 ?_
  refine Tr.hop true 0 1 0 1 13 ?_
  refine Tr.rs true 1 1 1 13 ?_
  refine Tr.hop false 0 2 0 1 14 ?_
  refine Tr.rs false 1 2 1 14 ?_
  refine Tr.hop true 0 2 0 1 15 ?_
  refine Tr.rs true 1 2 1 15 ?_
  refine Tr.hop false 0 3 0 1 16 ?_
  refine Tr.rs false 1 3 1 16 ?_
  refine Tr.hop true 0 3 0 1 17 ?_
  exact Tr.re (hk)

/-- Parts 18 to 28: the second hop. -/
theorem s3 {Q : α → sProp 𝕄} {fr : List It} {v2 v13 v25 : BitVec 32} {k : BitVec 32 → BitVec 32 → Prog (TpuEff nD τ sig (Elt F) Λ₀ .tc) α}
    (hk : ∀ u v, Tr m c ((its fun d s => .fin (.rs d 1 s)) ++ ((its fun d s => .rs d 1 s) ++ ((its fun d s => .live (.rs d 2 s))
      ++ (.ow 26 :: .xb 2 :: .wb :: .x 2 :: .xsAny :: .copyZ :: fr)))) (k u v) Q) :
    Tr m c (((its fun d s => .live (.rs d 1 s)).take 7) ++ ((its fun d s => .idle (.rs d 2 s)) ++ ((its fun d s => .rsP d 2 s)
      ++ (.ow 17 :: .acc true 3 1 :: .idle (.rs true 1 3) :: .rsP true 1 3 :: .xb 1 :: .wb :: .x 2 :: .xsAny :: .copyZ :: fr))))
      ((at' (k0_part18_skel (F := F))) c v2 v25 >>= fun v479 =>
        (at' (k0_part19_skel (F := F))) v13 v479 >>= fun ⟨v481, v484, v505⟩ =>
        (at' (k0_part20_skel (F := F))) c v13 v25 v505 >>= fun _ =>
        (at' (k0_part21_skel (F := F))) c v13 v25 v484 >>= fun _ =>
        (at' (k0_part22_skel (F := F))) c v13 v481 >>= fun _ =>
        (at' (k0_part23_skel (F := F))) c v25 v484 >>= fun _ =>
        (at' (k0_part24_skel (F := F))) v13 v481 >>= fun _ =>
        (at' (k0_part25_skel (F := F))) c v25 v484 >>= fun _ =>
        (at' (k0_part26_skel (F := F))) c v13 v25 v481 >>= fun v681 =>
        (at' (k0_part27_skel (F := F))) c v13 v25 v681 >>= fun _ =>
        (at' (k0_part28_skel (F := F))) c v2 v25 v484 >>= fun ⟨v736, c1024_i32_828⟩ => k v736 c1024_i32_828) Q := by
  simp only [its, List.cons_append, List.nil_append, List.take_succ_cons, List.take_zero] at hk ⊢
  refine Tr.rs true 1 3 1 17 ?_
  refine Tr.loadX (fun c => k0_off2 c 1#32) 2 18 (.xb 1) (any_of _ _ _) ?_
  refine Tr.loadP 2 false ?_
  refine Tr.loadP 2 true ?_
  refine Tr.hop false 1 0 1 2 18 ?_
  refine Tr.rs false 2 0 2 18 ?_
  refine Tr.hop true 1 0 1 2 19 ?_
  refine Tr.rs true 2 0 2 19 ?_
  refine Tr.hop false 1 1 1 2 20 ?_
  refine Tr.rs false 2 1 2 20 ?_
  refine Tr.hop true 1 1 1 2 21 ?_
  refine Tr.rs true 2 1 2 21 ?_
  refine Tr.hop false 1 2 1 2 22 ?_
  refine Tr.rs false 2 2 2 22 ?_
  refine Tr.hop true 1 2 1 2 23 ?_
  refine Tr.rs true 2 2 2 23 ?_
  refine Tr.hop false 1 3 1 2 24 ?_
  refine Tr.rs false 2 3 2 24 ?_
  refine Tr.hop true 1 3 1 2 25 ?_
  refine Tr.rs true 2 3 2 25 ?_
  exact Tr.re (hk _ _)

/-! The third hop's values, as its parts compute them. -/

theorem pv2 (c : Dev nD) : k0_pay36 (xbv m c (rot (1 : Fin 4).val c)) (wcol m c false) = pv m c false 2 := rfl
theorem pv2' (c : Dev nD) : k0_pay39 (xbv m c (rot (3 : Fin 4).val c)) (wcol m c true) = pv m c true 2 := rfl
theorem mx0 (c : Dev nD) (d : Bool) : k0_pay42 (k0_pay40 (pv m c d 2) (rsv m c d 2 0)) = mxv m c d 0 := rfl
theorem mx0' (c : Dev nD) (d : Bool) : k0_pay46 (k0_pay45 (pv m c d 2) (rsv m c d 2 0)) = mxv m c d 0 := rfl
theorem mx1 (c : Dev nD) (d : Bool) : k0_pay49 (pv m c d 2) (rsv m c d 2 1) = mxv m c d 1 := rfl
theorem mx1' (c : Dev nD) (d : Bool) : k0_pay52 (pv m c d 2) (rsv m c d 2 1) = mxv m c d 1 := rfl
theorem mx2 (c : Dev nD) (d : Bool) : k0_pay55 (pv m c d 2) (rsv m c d 2 2) = mxv m c d 2 := rfl
theorem mx2' (c : Dev nD) (d : Bool) : k0_pay58 (pv m c d 2) (rsv m c d 2 2) = mxv m c d 2 := rfl
theorem mx3 (c : Dev nD) (d : Bool) : k0_pay61 (pv m c d 2) (rsv m c d 2 3) = mxv m c d 3 := rfl
theorem mx3' (c : Dev nD) (d : Bool) : k0_pay64 (pv m c d 2) (rsv m c d 2 3) = mxv m c d 3 := rfl

/-- Parts 29 to 37: the third hop, and the maxima. -/
theorem s4 {Q : α → sProp 𝕄} {fr : List It} {v2 v13 v25 v736 c1024_i32_828 : BitVec 32}
    {k : F .f32 → F .f32 → F .f32 → F .f32 → F .f32 → F .f32 → F .f32 → F .f32 → BitVec 32 → BitVec 32 → BitVec 32 → Prog (TpuEff nD τ sig (Elt F) Λ₀ .tc) α}
    (hk : ∀ u v w, Tr m c ((its fun d s => .fin (.rs d 2 s)) ++ ((its fun d s => .rs d 2 s) ++ ((its fun d s => .acc d s 3)
      ++ (.ow 26 :: .xb 3 :: .wb :: .x 1 :: .x 3 :: .xsAny :: .copyZ :: fr))))
      (k (mxv m c false 0) (mxv m c true 0) (mxv m c false 1) (mxv m c true 1) (mxv m c false 2) (mxv m c true 2) (mxv m c false 3) (mxv m c true 3) u v w) Q) :
    Tr m c ((its fun d s => .live (.rs d 2 s)) ++ (.ow 26 :: .xb 2 :: .wb :: .x 1 :: .x 3 :: .xsAny :: .copyZ :: fr))
      ((at' (k0_part29_skel (F := F))) c v2 v736 c1024_i32_828 >>= fun ⟨v747, v764, v765⟩ =>
        (at' (k0_part30_skel (F := F))) v13 v747 v764 v765 >>= fun ⟨v770, v787, v791⟩ =>
        (at' (k0_part31_skel (F := F))) v25 v770 v787 v791 >>= fun ⟨v796, v819⟩ =>
        (at' (k0_part32_skel (F := F))) v13 v747 v819 >>= fun ⟨v822, v848⟩ =>
        (at' (k0_part33_skel (F := F))) v25 v770 >>= fun v874 =>
        (at' (k0_part34_skel (F := F))) v13 v747 >>= fun v900 =>
        (at' (k0_part35_skel (F := F))) v25 v770 >>= fun v926 =>
        (at' (k0_part36_skel (F := F))) v13 v747 >>= fun v952 =>
        (at' (k0_part37_skel (F := F))) v2 v25 v770 >>= fun ⟨v978, v989, v990, c1_i32_1083⟩ => k v796 v822 v848 v874 v900 v926 v952 v978 v989 v990 c1_i32_1083) Q := by
  simp only [its, List.cons_append, List.nil_append, List.take_succ_cons, List.take_zero] at hk ⊢
  refine Tr.loadX (fun c => k0_off2 c 2#32) 1 26 (.xb 2) (any_of _ _ _) ?_
  refine Tr.loadP 1 false ?_
  refine Tr.loadXD (fun c => k0_off3 c 2#32) 3 26 (.xb 1) (any_of _ _ _) (fun _ => ?_)
  refine Tr.loadP 3 true ?_
  refine Tr.hop false 2 0 2 3 26 ?_
  refine Tr.hop true 2 0 2 3 26 ?_
  refine Tr.hop false 2 1 2 3 26 ?_
  refine Tr.hop true 2 1 2 3 26 ?_
  refine Tr.hop false 2 2 2 3 26 ?_
  refine Tr.hop true 2 2 2 3 26 ?_
  refine Tr.hop false 2 3 2 3 26 ?_
  refine Tr.hop true 2 3 2 3 26 ?_
  show Tr m c _ (k _ _ _ _ _ _ _ _ _ _ _) Q
  dsimp only
  rw [pv2, pv2', mx0, mx0', mx1, mx1', mx2, mx2', mx3, mx3']
  exact Tr.re (hk _ _ _)

end Cert.Proof
-- ==== Proof.Gather.lean ====
/-
  The gather's repeated steps as rules over lists of pieces: the table of maxima, the quantised chunks, the result's windows.
-/
module

public import proofs.«01_k».proof.Proof.Reduce
public import Idealize.ShloMosaic.Lib.MemrefSat

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ)

variable {m} {c : Dev nD} {α : Type}

set_option synthInstance.maxSize 1000000

omit [FloatOps F] in
theorem eq_of {P R : sProp 𝕄} (h : P ⊢ R) (h' : R ⊢ P) : P = R := Entails.antisymm h h'

/-! ## Rows handed in at an offset of the kernel's own -/

theorem Tr.putO {Q : α → sProp 𝕄} (i j : It) {fr : List It} {cs : CoreSpace} {s : Shape} {ty : EltTy} {M : Memref sig .tc cs s ty}
    {o o0 sz : Fin s.rank → ℕ} (ho : o = o0) {inb : ∀ a, o a + sz a ≤ s.size a} (inb0 : ∀ a, o0 a + sz a ≤ s.size a)
    {hl : M.view.LoadsAt (Rect.unit o sz inb).toLoadRect} {w : ((⟨s.rank, sz⟩ : Shape).Idx → Elt F ty) → (⟨s.rank, sz⟩ : Shape).Idx → Elt F ty}
    {hx : (M.access (Rect.unit o sz inb)).Stores Finset.univ} {hm : (Finset.univ : Finset (Rect.unit o sz inb).shape.Idx) = Finset.univ ∨ ∀ a, (Rect.unit o sz inb).stride a = 1}
    {k : ((⟨s.rank, sz⟩ : Shape).Idx → Elt F ty) → PUnit → Prog (TpuEff nD τ sig (Elt F) Λ₀ .tc) α}
    (hi : res m c i ⊢ anyW c (M.slice (Rect.unit o0 sz inb0) (fun _ => rfl))) (hj : ∀ x, atW c (M.slice (Rect.unit o0 sz inb0) (fun _ => rfl)) fullShare (w x) ⊢ res m c j)
    (hk : ∀ x, Tr m c (j :: fr) (k x ⟨⟩) Q) :
    Tr m c (i :: fr) (.op (.load M (Rect.unit o sz inb).toLoadRect hl) fun x => .op (.store M (Rect.unit o sz inb) (w x) Finset.univ hx hm) (k x)) Q := by
  subst ho
  exact Tr.putD i j (hr := fun _ => rfl) hi hj hk

theorem Tr.loadO {Q : α → sProp 𝕄} (i : It) {fr : List It} {cs : CoreSpace} {s : Shape} {ty : EltTy} {M : Memref sig .tc cs s ty}
    {o o0 sz : Fin s.rank → ℕ} (ho : o = o0) {inb : ∀ a, o a + sz a ≤ s.size a} (inb0 : ∀ a, o0 a + sz a ≤ s.size a)
    {hl : M.view.LoadsAt (Rect.unit o sz inb).toLoadRect} {k : ((⟨s.rank, sz⟩ : Shape).Idx → Elt F ty) → Prog (TpuEff nD τ sig (Elt F) Λ₀ .tc) α}
    {q : PosShare TreeShare} {X : (⟨s.rank, sz⟩ : Shape).Idx → Elt F ty} (hi : res m c i = owns (c : Thread nD τ) (M.slice (Rect.unit o0 sz inb0) (fun _ => rfl)) q X)
    (hk : Tr m c (i :: fr) (k X) Q) :
    Tr m c (i :: fr) (.op (.load M (Rect.unit o sz inb).toLoadRect hl) k) Q := by
  subst ho
  exact Tr.load i (hr := fun _ => rfl) hi hk

omit [FloatOps F] in
/-- A window of a window. -/
theorem owns_nest (c : Dev nD) {sp : Space} {s : Shape} {e : EltTy} (w : Memref sig .tc sp s e) {o1 o2 o3 z1 z2 : Fin s.rank → ℕ}
    (i1 : ∀ a, o1 a + z1 a ≤ s.size a) (i2 : ∀ a, o2 a + z2 a ≤ z1 a) (i3 : ∀ a, o3 a + z2 a ≤ s.size a) (h : ∀ a, o1 a + o2 a = o3 a)
    (q : PosShare TreeShare) (X : (⟨s.rank, z2⟩ : Shape).Idx → Elt F e) :
    (owns (c : Thread nD τ) ((w.slice (Rect.unit o1 z1 i1) (fun _ => rfl)).slice (Rect.unit (s := ⟨s.rank, z1⟩) o2 z2 i2) (fun _ => rfl)) q X : sProp 𝕄)
      = owns (c : Thread nD τ) (w.slice (Rect.unit o3 z2 i3) (fun _ => rfl)) q X := by
  have he : ∀ j : (⟨s.rank, z2⟩ : Shape).Idx, (Rect.unit o1 z1 i1).emb ((Rect.unit (s := ⟨s.rank, z1⟩) o2 z2 i2).emb j) = (Rect.unit o3 z2 i3).emb j := by
    intro j; funext a; apply Fin.ext
    rw [Rect.emb_apply, Rect.emb_apply, Rect.emb_apply]
    simp only [Rect.unit, Nat.one_mul]
    rw [← h a, Nat.add_assoc]
  have hv : ((w.slice (Rect.unit o1 z1 i1) (fun _ => rfl)).slice (Rect.unit (s := ⟨s.rank, z1⟩) o2 z2 i2) (fun _ => rfl)).view.set = (w.slice (Rect.unit o3 z2 i3) (fun _ => rfl)).view.set := by
    unfold View.set
    congr 1
    ext j : 1
    show w.view.emb _ = w.view.emb _
    exact congrArg _ (he j)
  have hr : ∀ f, ((w.slice (Rect.unit o1 z1 i1) (fun _ => rfl)).slice (Rect.unit (s := ⟨s.rank, z1⟩) o2 z2 i2) (fun _ => rfl)).view.read (Elt F) f = (w.slice (Rect.unit o3 z2 i3) (fun _ => rfl)).view.read (Elt F) f := fun f => by
    funext j
    show w.view.read (Elt F) f _ = w.view.read (Elt F) f _
    exact congrArg _ (he j)
  unfold owns
  simp only [hr, hv]

/-! ## The table of maxima -/

theorem am_split (c : Dev nD) : ctx m c [.am] ⊢ ctx m c [.amS 0, .amS 1, .amS 2] := by
  show iprop(owns (c : Thread nD τ) (amW c) fullShare (amv m c) ∗ emp) ⊢ iprop(owns (c : Thread nD τ) (amW c) fullShare.left (amv m c) ∗ owns (c : Thread nD τ) (amW c) fullShare.right.left (amv m c) ∗ owns (c : Thread nD τ) (amW c) fullShare.right.right (amv m c) ∗ emp)
  iintro ⟨H, -⟩
  ihave H := (owns_halves (c : Thread nD τ) (amW c) fullShare (amv m c)).1 $$ H
  icases H with ⟨H1, H⟩
  ihave H := (owns_halves (c : Thread nD τ) (amW c) fullShare.right (amv m c)).1 $$ H
  icases H with ⟨H2, H3⟩
  isplitl [H1]; · iexact H1
  isplitl [H2]; · iexact H2
  isplitl [H3]; · iexact H3
  iempintro

theorem bigSep_ring (c : Dev nD) (Φ : Dev nD → sProp 𝕄) : bigSep Finset.univ Φ = iprop(Φ c ∗ Φ (rot 3 c) ∗ Φ (rot 2 c) ∗ Φ (rot 1 c)) :=
  bigSep_univ_eq_bigSepL [c, rot 3 c, rot 2 c, rot 1 c] (by revert c; decide) (by revert c; decide) Φ

theorem amT_emb (m : (ℓ : Loc nD τ sig) → Buf (Elt F) ℓ) (j : Dev nD) : (fun i => amT m ((amR j).emb i)) = amv m j := by
  funext i
  exact Rect.glue_emb amR amR_cov amR_dis (fun j => amv m j) j i

theorem am_join (c : Dev nD) : ctx m c [.amS 0, .amS 1, .amS 2, .amL 0, .amL 1, .amL 2] ⊢ ctx m c [.amAll] := by
  show iprop(owns (c : Thread nD τ) (amW c) fullShare.left (amv m c) ∗ owns (c : Thread nD τ) (amW c) fullShare.right.left (amv m c) ∗ owns (c : Thread nD τ) (amW c) fullShare.right.right (amv m c)
    ∗ owns (c : Thread nD τ) (amW (rot 3 c)) fullShare (amv m (rot 3 c)) ∗ owns (c : Thread nD τ) (amW (rot 2 c)) fullShare (amv m (rot 2 c)) ∗ owns (c : Thread nD τ) (amW (rot 1 c)) fullShare (amv m (rot 1 c)) ∗ emp)
    ⊢ iprop(owns (c : Thread nD τ) amM fullShare (amT m) ∗ emp)
  iintro ⟨H1, H2, H3, H4, H5, H6, -⟩
  isplitl
  · iapply (owns_of_rects (c : Thread nD τ) amM fullShare amR (fun _ _ => rfl) amR_dis amR_cov (amT m))
    rw [bigSep_ring c]
    simp only [amT_emb]
    isplitl [H1 H2 H3]
    · iapply (owns_halves (c : Thread nD τ) (amW c) fullShare (amv m c)).2
      isplitl [H1]; · iexact H1
      iapply (owns_halves (c : Thread nD τ) (amW c) fullShare.right (amv m c)).2
      isplitl [H2]; · iexact H2
      iexact H3
    isplitl [H4]; · iexact H4
    isplitl [H5]; · iexact H5
    iexact H6
  iempintro

/-- The device's maximum stored in its row. -/
theorem Tr.amPut {Q : α → sProp 𝕄} {l fr : List It} [Takes [.amAny 0] l fr] (off : Dev nD → Fin 3 → ℕ) {M : Memref sig .tc .vmem S4x8x128 .f32} {inb : ∀ a, off c a + S1x8x128.size a ≤ S4x8x128.size a}
    {hl hx hm} {w : Vec F S1x8x128 .f32} {kk : PUnit → Prog (TpuEff nD τ sig (Elt F) Λ₀ .tc) α}
    (hk : Tr m c (.amS 0 :: .amS 1 :: .amS 2 :: fr) (kk ⟨⟩) Q) (hw : w = amv m c) (hM : M = amM := by rfl) (hoff : ∀ c, off c = ![c.val, 0, 0] := by decide +kernel) :
    Tr m c l (.op (.load M (Rect.unit (s := S4x8x128) (off c) S1x8x128.size inb).toLoadRect hl) fun _ =>
      .op (.store M (Rect.unit (s := S4x8x128) (off c) S1x8x128.size inb) w Finset.univ hx hm) kk) Q := by
  have h1 : res m c (.amAny 0) ⊢ anyW c (M.slice (amR c) (fun _ => rfl)) := by
    rw [hM]
    show anyW c (amW (rot 0 c)) ⊢ anyW c (amW c)
    rw [rot_zero]
  have h2 : atW c (M.slice (amR c) (fun _ => rfl)) fullShare w ⊢ res m c .am := by
    rw [hM, hw]; exact Entails.rfl
  clear hM hw
  refine Tr.take [.amAny 0] ?_
  refine Tr.putO (.amAny 0) .am (hoff c) (by rw [← hoff c]; exact inb) h1 (fun _ => h2) (fun _ => ?_)
  exact Tr.turn (l := [.am]) (l' := [.amS 0, .amS 1, .amS 2]) (am_split c) hk

/-- The row sent to device `c + k + 1`. -/
theorem Tr.axs {Q : α → sProp 𝕄} (k : Fin 3) (n : ℕ) {l fr : List It} [Takes [.idle (.ax k), .ow n, .amS k, .amP k] l fr] (off : Dev nD → Fin 3 → ℕ)
    {inb : ∀ a, off c a + S1x8x128.size a ≤ S4x8x128.size a} {hr1 hr2}
    {dv : Dev nD → ℕ} {hx : dv c < nD} {sS sR : DmaSem sig} {h1 h2 h3 h4}
    {kk : PUnit → Prog (TpuEff nD τ sig (Elt F) Λ₀ .tc) α}
    (hk : Tr m c (.live (.ax k) :: .ow (n + 1) :: fr) (kk ⟨⟩) Q)
    (hd : ∀ c, dv c = (rot (k.val + 1) c).val := by decide +kernel) (hs : SemLoc.dma sS = csem (.snd (.ax k)) := by rfl) (hr : SemLoc.dma sR = csem (.rcv (.ax k)) := by rfl)
    (hpay : payL.drop n = .cp (.ax k) :: payL.drop (n + 1) := by rfl) (hoff : ∀ c, off c = ![c.val, 0, 0] := by decide +kernel) :
    Tr m c l (.op (.enqueueDma (amM.slice (Rect.unit (s := S4x8x128) (off c) S1x8x128.size inb) hr1) (.remote (Dev.tc (⟨dv c, hx⟩ : Dev nD)) (amM.slice (Rect.unit (s := S4x8x128) (off c) S1x8x128.size inb) hr2) (.dma sS) h1) (.dma sR) h2 h3 h4) kk) Q := by
  refine Tr.take [.idle (.ax k), .ow n, .amS k, .amP k] ?_
  have e := Memref.slice_unit_congr amM (hoff c) inb (by rw [← hoff c]; exact inb) hr1 (fun _ => rfl)
  have e3 := (by decide : ∀ (k : Fin 3) (c : Dev nD), rot (3 - k.val) (rot (k.val + 1) c) = c) k c
  refine Tr.start (.ax k) n (.amS k) (.amP k) (.amL k) [] [] (X := amv m c) (q := amQ k) (Fin.ext (hd c)) hs hr (by rw [e]; rfl) hpay rfl rfl (by rw [e]; rfl) (by rw [e]; exact Entails.rfl) ?_ (by exact Entails.rfl) hk
  rw [e]
  show atW (rot (k.val + 1) c) (amW c) fullShare (amv m c) ⊢ atW (rot (k.val + 1) c) (amW (rot (3 - k.val) (rot (k.val + 1) c))) fullShare (amv m (rot (3 - k.val) (rot (k.val + 1) c)))
  rw [e3]

/-- A row waited for: the send, -/
theorem Tr.axw {Q : α → sProp 𝕄} (k : Fin 3) (n : ℕ) {l fr : List It} [Takes [.live (.ax k), .ow n] l fr] (off : Dev nD → Fin 3 → ℕ)
    {inb : ∀ a, off c a + S1x8x128.size a ≤ S4x8x128.size a} {hr1 hr2 hr3 hr4} {sS sR : DmaSem sig} {h1 h2 h3 h4} {kk : PUnit → Prog (TpuEff nD τ sig (Elt F) Λ₀ .tc) α}
    (hk : Tr m c (.fin (.ax k) :: .ow n :: .amS k :: .amL k :: fr) (kk ⟨⟩) Q)
    (hs : SemLoc.dma sS = csem (.snd (.ax k)) := by rfl) (hr : SemLoc.dma sR = csem (.rcv (.ax k)) := by rfl) (hoff : ∀ c, off c = ![c.val, 0, 0] := by decide +kernel)
    (hl0 : ∀ p ∈ payL.drop n, lvC (.rcv (.ax k)) < lvP p := by decide +kernel) :
    Tr m c l (.op (.waitDma2 sS (amM.slice (Rect.unit (s := S4x8x128) (off c) S1x8x128.size inb) hr1) (amM.slice (Rect.unit (s := S4x8x128) (off c) S1x8x128.size inb) hr2) h1 h2) fun _ =>
      .op (.waitDma2 sR (amM.slice (Rect.unit (s := S4x8x128) (off c) S1x8x128.size inb) hr3) (amM.slice (Rect.unit (s := S4x8x128) (off c) S1x8x128.size inb) hr4) h3 h4) kk) Q := by
  have e := Memref.slice_unit_congr amM (hoff c) inb (by rw [← hoff c]; exact inb) hr1 (fun _ => rfl)
  refine Tr.take [.live (.ax k), .ow n] ?_
  refine Tr.waitS (.ax k) n hs (by rw [e]; rfl) ?_
  rw [show payItems (.snd (.ax k)) false = [.amS k] from rfl]
  refine Tr.take [.half (.ax k), .ow n, .amS k] ?_
  refine Tr.waitR (.ax k) n hr (by rw [e]; rfl) hl0 ?_
  rw [show payItems (.rcv (.ax k)) false = [.amL k] from rfl]
  exact Tr.take [.fin (.ax k), .ow n, .amS k, .amL k] hk

/-- The whole table read. -/
theorem Tr.amLoad {Q : α → sProp 𝕄} {l fr : List It} [Takes [.amS 0, .amS 1, .amS 2, .amL 0, .amL 1, .amL 2] l fr]
    {inb : ∀ a, (![0, 0, 0] : Fin 3 → ℕ) a + S4x8x128.size a ≤ S4x8x128.size a} {hl} {kk : Vec F S4x8x128 .f32 → Prog (TpuEff nD τ sig (Elt F) Λ₀ .tc) α}
    (hk : Tr m c (.amAll :: fr) (kk (amT m)) Q) :
    Tr m c l (.op (.load amM (Rect.unit (s := S4x8x128) ![0, 0, 0] S4x8x128.size inb).toLoadRect hl) kk) Q := by
  refine Tr.take [.amS 0, .amS 1, .amS 2, .amL 0, .amL 1, .amL 2] ?_
  refine Tr.turn (l := [.amS 0, .amS 1, .amS 2, .amL 0, .amL 1, .amL 2]) (l' := [.amAll]) (am_join c) ?_
  have h0 : (![0, 0, 0] : Fin S4x8x128.rank → ℕ) = fun _ => 0 := by decide
  exact Tr.loadSub .amAll (amT m) (Y := amT m) rfl (by funext j; exact congrArg _ (emb_full h0 _ j)) hk

/-! ## The quantised chunks -/

theorem q_split (d : Bool) (n s : Fin 4) (c : Dev nD) : ctx m c [.q d n s] ⊢ ctx m c [.qL d n s, .qR d n s] := by
  show iprop(owns (c : Thread nD τ) (qW d (slotD d n c) s) fullShare (qv m d (slotD d n c) s) ∗ emp)
    ⊢ iprop(owns (c : Thread nD τ) (qW d (slotD d n c) s) fullShare.left (qv m d (slotD d n c) s) ∗ owns (c : Thread nD τ) (qW d (slotD d n c) s) fullShare.right (qv m d (slotD d n c) s) ∗ emp)
  iintro ⟨H, -⟩
  ihave H := (owns_halves (c : Thread nD τ) (qW d (slotD d n c) s) fullShare (qv m d (slotD d n c) s)).1 $$ H
  icases H with ⟨H1, H2⟩
  isplitl [H1]; · iexact H1
  isplitl [H2]; · iexact H2
  iempintro

theorem qcv_emb (m : (ℓ : Loc nD τ sig) → Buf (Elt F) ℓ) (d : Bool) (j : Dev nD) (s : Fin 4) : (fun i => qcv m d j ((chR s).emb i)) = qv m d j s := by
  funext i
  exact Rect.glue_emb chR chR_cov chR_dis (fun s => qv m d j s) s i

/-- A chunk's four rows are the chunk. -/
theorem q_chunk (d : Bool) (n : Fin 4) (c : Dev nD) : ctx m c [.qR d n 0, .qR d n 1, .qR d n 2, .qR d n 3] = ctx m c [.qC d n] := by
  have e : ∀ s : Fin 4, (owns (c : Thread nD τ) (((qM d).slice (qC (slotD d n c)) (fun _ => rfl)).slice (chR s) (fun _ => rfl)) fullShare.right (fun i => qcv m d (slotD d n c) ((chR s).emb i)) : sProp 𝕄)
      = owns (c : Thread nD τ) (qW d (slotD d n c) s) fullShare.right (qv m d (slotD d n c) s) := fun s => by
    rw [qcv_emb]
    exact owns_nest c (qM d) (o1 := ![(slotD d n c).val, 0, 0]) (o2 := ![0, 256 * s.val, 0]) (o3 := ![(slotD d n c).val, 256 * s.val, 0]) (z1 := S1x1024x1024.size) (z2 := S1x256x1024.size) _ _ _ (by intro a; fin_cases a <;> simp) _ _
  show iprop(owns (c : Thread nD τ) (qW d (slotD d n c) 0) fullShare.right (qv m d (slotD d n c) 0) ∗ owns (c : Thread nD τ) (qW d (slotD d n c) 1) fullShare.right (qv m d (slotD d n c) 1)
      ∗ owns (c : Thread nD τ) (qW d (slotD d n c) 2) fullShare.right (qv m d (slotD d n c) 2) ∗ owns (c : Thread nD τ) (qW d (slotD d n c) 3) fullShare.right (qv m d (slotD d n c) 3) ∗ emp)
    = iprop(owns (c : Thread nD τ) ((qM d).slice (qC (slotD d n c)) (fun _ => rfl)) fullShare.right (qcv m d (slotD d n c)) ∗ emp)
  have h1 := owns_rects (Val := Elt F) (Ix := Unit) (Name := ℕ) (U := UU nD τ) (Lvl := ℕ) (c : Thread nD τ) ((qM d).slice (qC (slotD d n c)) (fun _ => rfl)) fullShare.right chR (fun _ _ => rfl) chR_dis chR_cov (qcv m d (slotD d n c))
  have h2 := owns_of_rects (Val := Elt F) (Ix := Unit) (Name := ℕ) (U := UU nD τ) (Lvl := ℕ) (c : Thread nD τ) ((qM d).slice (qC (slotD d n c)) (fun _ => rfl)) fullShare.right chR (fun _ _ => rfl) chR_dis chR_cov (qcv m d (slotD d n c))
  rw [bigSep_fin4, e, e, e, e] at h1 h2
  refine eq_of ?_ ?_
  · iintro ⟨H1, H2, H3, H4, -⟩
    isplitl
    · iapply h2
      isplitl [H1]; · iexact H1
      isplitl [H2]; · iexact H2
      isplitl [H3]; · iexact H3
      iexact H4
    iempintro
  · iintro ⟨H, -⟩
    ihave H := h1 $$ H
    icases H with ⟨H1, H2, H3, H4⟩
    isplitl [H1]; · iexact H1
    isplitl [H2]; · iexact H2
    isplitl [H3]; · iexact H3
    isplitl [H4]; · iexact H4
    iempintro

theorem src_slot : ∀ (d : Bool) (c : Dev nD), srcD d (slotD d (0 : Fin 4).val c) = c := by decide
theorem slot_next : ∀ (d : Bool) (g : Fin 3) (c : Dev nD), slotD d g.succ.val (dstD d c) = slotD d g.castSucc.val c := by decide

/-- The accumulator's rows read, -/
theorem Tr.loadAcc {Q : α → sProp 𝕄} (d : Bool) (s k : Fin 4) {l fr : List It} [Takes [.acc d s k] l fr] {hl} {kk : Vec F S256x1024 .bf16 → Prog (TpuEff nD τ sig (Elt F) Λ₀ .tc) α}
    (hk : Tr m c (.acc d s k :: fr) (kk (accv m d s k c)) Q) : Tr m c l (.op (.load (accM d) (rowR s).toLoadRect hl) kk) Q :=
  Tr.take [.acc d s k] (Tr.load (.acc d s k) (hr := fun _ => rfl) rfl hk)

/-- and, quantised, stored in the device's own slot. -/
theorem Tr.quant {Q : α → sProp 𝕄} (d : Bool) (s : Fin 4) {l fr : List It} [Takes [.qAny d 0 s] l fr] (off : Dev nD → Fin 3 → ℕ)
    {inb : ∀ a, off c a + S1x256x1024.size a ≤ S4x1024x1024.size a} {hl' hx hm}
    {w : Vec F S1x256x1024 .i8} {kk : Vec F S1x256x1024 .i8 → PUnit → Prog (TpuEff nD τ sig (Elt F) Λ₀ .tc) α}
    (hw : w = k0_pay77 (k0_pay76 (scl m) (accv m d s 3 c)))
    (hk : ∀ y, Tr m c (.qL d 0 s :: .qR d 0 s :: fr) (kk y ⟨⟩) Q)
    (hoff : ∀ c, off c = ![(slotD d (0 : Fin 4).val c).val, 256 * s.val, 0] := by decide +kernel) :
    Tr m c l (.op (.load (qM d) (Rect.unit (s := S4x1024x1024) (off c) S1x256x1024.size inb).toLoadRect hl') fun y =>
      .op (.store (qM d) (Rect.unit (s := S4x1024x1024) (off c) S1x256x1024.size inb) w Finset.univ hx hm) (kk y)) Q := by
  refine Tr.take [.qAny d 0 s] ?_
  refine Tr.putO (.qAny d 0 s) (.q d 0 s) (hoff c) (by rw [← hoff c]; exact inb) Entails.rfl ?_ (fun y => ?_)
  · intro y
    rw [hw]
    show _ ⊢ atW c (qW d (slotD d (0 : Fin 4).val c) s) fullShare (k0_pay77 (k0_pay76 (scl m) (accv m d s 3 (srcD d (slotD d (0 : Fin 4).val c)))))
    rw [src_slot]
  · exact Tr.turn (l := [.q d 0 s]) (l' := [.qL d 0 s, .qR d 0 s]) (q_split d 0 s c) (hk y)

/-- Rows of a chunk sent on. -/
theorem Tr.ag {Q : α → sProp 𝕄} (d : Bool) (g : Fin 3) (s k k' : Fin 4) (n : ℕ) {l fr : List It} [Takes [.idle (.ag d g s), .ow n, .qL d k s, .qP d k' s] l fr] (off : Dev nD → Fin 3 → ℕ)
    {inb : ∀ a, off c a + S1x256x1024.size a ≤ S4x1024x1024.size a} {hr1 hr2}
    {dv : Dev nD → ℕ} {hx : dv c < nD} {sS sR : DmaSem sig} {h1 h2 h3 h4}
    {kk : PUnit → Prog (TpuEff nD τ sig (Elt F) Λ₀ .tc) α}
    (hk : Tr m c (.live (.ag d g s) :: .ow (n + 1) :: fr) (kk ⟨⟩) Q)
    (hoff : ∀ c, off c = ![(slotD d k c).val, 256 * s.val, 0] := by decide +kernel)
    (hd : ∀ c, dv c = (dstD d c).val := by decide +kernel) (hs : SemLoc.dma sS = csem (.snd (.ag d g s)) := by rfl) (hr : SemLoc.dma sR = csem (.rcv (.ag d g s)) := by rfl)
    (hpay : payL.drop n = .cp (.ag d g s) :: payL.drop (n + 1) := by rfl) (hkk : g.castSucc = k := by rfl) (hkk' : g.succ = k' := by rfl) :
    Tr m c l (.op (.enqueueDma ((qM d).slice (Rect.unit (s := S4x1024x1024) (off c) S1x256x1024.size inb) hr1) (.remote (Dev.tc (⟨dv c, hx⟩ : Dev nD)) ((qM d).slice (Rect.unit (s := S4x1024x1024) (off c) S1x256x1024.size inb) hr2) (.dma sS) h1) (.dma sR) h2 h3 h4) kk) Q := by
  subst hkk hkk'
  refine Tr.take [.idle (.ag d g s), .ow n, .qL d g.castSucc s, .qP d g.succ s] ?_
  have e := Memref.slice_unit_congr (qM d) (hoff c) inb (by rw [← hoff c]; exact inb) hr1 (fun _ => rfl)
  refine Tr.start (.ag d g s) n (.qL d g.castSucc s) (.qP d g.succ s) (.q d g.succ s) [] [] (X := qv m d (slotD d g.castSucc c) s) (q := fullShare.left) (Fin.ext (hd c)) hs hr (by rw [e]; rfl) hpay rfl rfl (by rw [e]; rfl) ?_ ?_ (by exact Entails.rfl) hk
  · rw [e]
    show anyW (dstD d c) (qW d (slotD d g.succ (dstD d c)) s) ⊢ anyW (dstD d c) (qW d (slotD d g.castSucc c) s)
    rw [slot_next]
  · rw [e]
    show atW (dstD d c) (qW d (slotD d g.castSucc c) s) fullShare (qv m d (slotD d g.castSucc c) s) ⊢ atW (dstD d c) (qW d (slotD d g.succ (dstD d c)) s) fullShare (qv m d (slotD d g.succ (dstD d c)) s)
    rw [slot_next]

/-- Rows waited for: the ones sent, and the ones landed. -/
theorem Tr.agw {Q : α → sProp 𝕄} (d : Bool) (g : Fin 3) (s k k' : Fin 4) (n : ℕ) {l fr : List It} [Takes [.live (.ag d g s), .ow n] l fr]
    {o1 o2 o3 o4 : Fin 3 → ℕ} {i1 : ∀ a, o1 a + S1x256x1024.size a ≤ S4x1024x1024.size a} {i2 : ∀ a, o2 a + S1x256x1024.size a ≤ S4x1024x1024.size a}
    {i3 : ∀ a, o3 a + S1x256x1024.size a ≤ S4x1024x1024.size a} {i4 : ∀ a, o4 a + S1x256x1024.size a ≤ S4x1024x1024.size a} {hr1 hr2 hr3 hr4}
    {sS sR : DmaSem sig} {h1 h2 h3 h4} {kk : PUnit → Prog (TpuEff nD τ sig (Elt F) Λ₀ .tc) α}
    (hk : Tr m c (.fin (.ag d g s) :: .ow n :: .qL d k s :: .q d k' s :: fr) (kk ⟨⟩) Q)
    (hs : SemLoc.dma sS = csem (.snd (.ag d g s)) := by rfl) (hr : SemLoc.dma sR = csem (.rcv (.ag d g s)) := by rfl)
    (hl0 : ∀ p ∈ payL.drop n, lvC (.rcv (.ag d g s)) < lvP p := by decide +kernel) (hkk : g.castSucc = k := by rfl) (hkk' : g.succ = k' := by rfl) :
    Tr m c l (.op (.waitDma2 sS ((qM d).slice (Rect.unit (s := S4x1024x1024) o1 S1x256x1024.size i1) hr1) ((qM d).slice (Rect.unit (s := S4x1024x1024) o2 S1x256x1024.size i2) hr2) h1 h2) fun _ =>
      .op (.waitDma2 sR ((qM d).slice (Rect.unit (s := S4x1024x1024) o3 S1x256x1024.size i3) hr3) ((qM d).slice (Rect.unit (s := S4x1024x1024) o4 S1x256x1024.size i4) hr4) h3 h4) kk) Q := by
  subst hkk hkk'
  refine Tr.take [.live (.ag d g s), .ow n] ?_
  refine Tr.waitS (.ag d g s) n hs (by rfl) ?_
  rw [show payItems (.snd (.ag d g s)) false = [.qL d g.castSucc s] from rfl]
  refine Tr.take [.half (.ag d g s), .ow n, .qL d g.castSucc s] ?_
  refine Tr.waitR (.ag d g s) n hr (by rfl) hl0 ?_
  rw [show payItems (.rcv (.ag d g s)) false = [.q d g.succ s] from rfl]
  exact Tr.take [.fin (.ag d g s), .ow n, .qL d g.castSucc s, .q d g.succ s] hk

/-- Rows waited for and sent on. -/
theorem Tr.agHop {Q : α → sProp 𝕄} (d : Bool) (g g' : Fin 3) (s k k' k'' : Fin 4) (n : ℕ) {l fr : List It} [Takes [.live (.ag d g s), .ow n, .idle (.ag d g' s), .qP d k'' s] l fr] (off : Dev nD → Fin 3 → ℕ)
    {o1 o2 o3 o4 : Fin 3 → ℕ} {i1 : ∀ a, o1 a + S1x256x1024.size a ≤ S4x1024x1024.size a} {i2 : ∀ a, o2 a + S1x256x1024.size a ≤ S4x1024x1024.size a}
    {i3 : ∀ a, o3 a + S1x256x1024.size a ≤ S4x1024x1024.size a} {i4 : ∀ a, o4 a + S1x256x1024.size a ≤ S4x1024x1024.size a} {hr1 hr2 hr3 hr4}
    {inb : ∀ a, off c a + S1x256x1024.size a ≤ S4x1024x1024.size a} {hr5 hr6} {dv : Dev nD → ℕ} {hx : dv c < nD}
    {sS sR sS' sR' : DmaSem sig} {h1 h2 h3 h4 h5 h6 h7 h8} {kk : PUnit → Prog (TpuEff nD τ sig (Elt F) Λ₀ .tc) α}
    (hk : Tr m c (.live (.ag d g' s) :: .ow (n + 1) :: .fin (.ag d g s) :: .qL d k s :: .qR d k' s :: fr) (kk ⟨⟩) Q)
    (hs : SemLoc.dma sS = csem (.snd (.ag d g s)) := by rfl) (hr : SemLoc.dma sR = csem (.rcv (.ag d g s)) := by rfl)
    (hoff : ∀ c, off c = ![(slotD d k' c).val, 256 * s.val, 0] := by decide +kernel)
    (hd : ∀ c, dv c = (dstD d c).val := by decide +kernel) (hs' : SemLoc.dma sS' = csem (.snd (.ag d g' s)) := by rfl) (hr' : SemLoc.dma sR' = csem (.rcv (.ag d g' s)) := by rfl)
    (hpay : payL.drop n = .cp (.ag d g' s) :: payL.drop (n + 1) := by rfl)
    (hl0 : ∀ p ∈ payL.drop n, lvC (.rcv (.ag d g s)) < lvP p := by decide +kernel) (hkk : g.castSucc = k := by rfl) (hkk' : g.succ = k' := by rfl) (hkk2 : g'.castSucc = k' := by rfl) (hkk3 : g'.succ = k'' := by rfl) :
    Tr m c l (.op (.waitDma2 sS ((qM d).slice (Rect.unit (s := S4x1024x1024) o1 S1x256x1024.size i1) hr1) ((qM d).slice (Rect.unit (s := S4x1024x1024) o2 S1x256x1024.size i2) hr2) h1 h2) fun _ =>
      .op (.waitDma2 sR ((qM d).slice (Rect.unit (s := S4x1024x1024) o3 S1x256x1024.size i3) hr3) ((qM d).slice (Rect.unit (s := S4x1024x1024) o4 S1x256x1024.size i4) hr4) h3 h4) fun _ =>
      .op (.enqueueDma ((qM d).slice (Rect.unit (s := S4x1024x1024) (off c) S1x256x1024.size inb) hr5) (.remote (Dev.tc (⟨dv c, hx⟩ : Dev nD)) ((qM d).slice (Rect.unit (s := S4x1024x1024) (off c) S1x256x1024.size inb) hr6) (.dma sS') h5) (.dma sR') h6 h7 h8) kk) Q := by
  refine Tr.take [.live (.ag d g s), .ow n, .idle (.ag d g' s), .qP d k'' s] ?_
  refine Tr.agw d g s k k' n ?_ hs hr hl0 hkk hkk'
  refine Tr.take [.q d k' s, .fin (.ag d g s), .ow n, .qL d k s, .idle (.ag d g' s), .qP d k'' s] ?_
  refine Tr.turn (l := [.q d k' s]) (l' := [.qL d k' s, .qR d k' s]) (q_split d k' s c) ?_
  refine Tr.take [.idle (.ag d g' s), .ow n, .qL d k' s, .qP d k'' s] ?_
  refine Tr.ag d g' s k' k'' n off ?_ hoff hd hs' hr' hpay hkk2 hkk3
  exact Tr.take [.live (.ag d g' s), .ow (n + 1), .fin (.ag d g s), .qL d k s, .qR d k' s] hk

end Cert.Proof
-- ==== Proof.Return.lean ====
/-
  The result's windows written: a chunk turned back into the result's numbers and copied out, and the last chunk's rows.
-/
module

public import proofs.«01_k».proof.Proof.Gather

public import Idealize.ShloMosaic.Lib.Pipeline.Value

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ)

variable {m} {c : Dev nD} {α : Type}

set_option synthInstance.maxSize 1000000

theorem pay85_at (a : F .f32) (V : Vec F S1x1024x1024 .i8) (v : Vec F S1x256x1024 .i8) (s : Fin 4) (i : S256x1024.Idx)
    (h : (fun i => V ((chR s).emb i)) = v) : k0_pay91 a v i = k0_pay85 a V ((rowR s).emb i) := by
  have e : shapeCast S1024x1024 V shapeCasts_S1x1024x1024_S1024x1024 ((rowR s).emb i) = shapeCast S256x1024 v shapeCasts_S1x256x1024_S256x1024 i := by
    rw [← h]
    refine (shapeCast_dropUnit_apply (![1024, 1024] : Fin 2 → ℕ) V _ _).trans ((shapeCast_dropUnit_apply (![256, 1024] : Fin 2 → ℕ) _ _ _).trans ?_).symm
    refine congrArg V ?_
    funext a
    refine Fin.cases ?_ (fun b => ?_) a
    · rfl
    · apply Fin.ext
      show (chR s).off b.succ + (chR s).stride b.succ * (i b).val = (rowR s).off b + (rowR s).stride b * (i b).val
      fin_cases b <;> rfl
  unfold k0_pay91 k0_pay85
  rw [shapeCast_self, shapeCast_self]
  simp only [mulf, sitofp, broadcast, e]

theorem st_val (m : (ℓ : Loc nD τ sig) → Buf (Elt F) ℓ) (c : Dev nD) (d : Bool) (s : Fin 4) : k0_pay91 (scl m) (qv m d (slotD d 3 c) s) = stv m c d s :=
  funext fun i => pay85_at (scl m) _ _ s i (qcv_emb m d (slotD d 3 c) s)

/-- A chunk read, turned back, staged and copied out. -/
theorem Tr.half {Q : α → sProp 𝕄} (d : Bool) (n : Fin 3) (k : Fin 4) {l fr : List It} [Takes [.qR d k 0, .qR d k 1, .qR d k 2, .qR d k 3, .stAny d, .outAny d n, .oz d] l fr]
    (off : Dev nD → Fin 3 → ℕ) (offo : Dev nD → Fin 2 → ℕ)
    {inb : ∀ a, off c a + S1x1024x1024.size a ≤ S4x1024x1024.size a} {inb0 inb1 : ∀ a, (![0, 0] : Fin 2 → ℕ) a + S1024x1024.size a ≤ S1024x1024.size a}
    {inb2 : ∀ a, offo c a + S1024x1024.size a ≤ S4096x2048.size a} {sm : DmaSem sig} {hr1 hl hl' hx hm h1 h2 h3}
    {w : Vec F S1x1024x1024 .i8 → Vec F S1024x1024 .f32} {kk : Vec F S1x1024x1024 .i8 → Vec F S1024x1024 .f32 → PUnit → Prog (TpuEff nD τ sig (Elt F) Λ₀ .tc) α}
    (hk : ∀ v y, Tr m c (.outFl d n :: .qC d k :: fr) (kk v y ⟨⟩) Q)
    (hw : ∀ v, w v = k0_pay85 (scl m) v) (hs : SemLoc.dma sm = outS d := by rfl)
    (hoff : ∀ c, off c = ![(slotD d k.val c).val, 0, 0] := by decide +kernel)
    (hoffo : ∀ c, offo c = ![1024 * (slotD d n.val c).val, if d then 1024 else 0] := by decide +kernel) (hkk : n.castSucc = k := by rfl) :
    Tr m c l (.op (.load (qM d) (Rect.unit (s := S4x1024x1024) (off c) S1x1024x1024.size inb).toLoadRect hl) fun v =>
      .op (.load (stM d) (Rect.unit (s := S1024x1024) ![0, 0] S1024x1024.size inb0).toLoadRect hl') fun y =>
      .op (.store (stM d) (Rect.unit (s := S1024x1024) ![0, 0] S1024x1024.size inb1) (w v) Finset.univ hx hm) fun _ =>
      .op (.enqueueDma (stM d) (.here (outM.slice (Rect.unit (s := S4096x2048) (offo c) S1024x1024.size inb2) hr1)) (.dma sm) h1 h2 h3) (kk v y)) Q := by
  subst hkk
  have h0 : (![0, 0] : Fin S1024x1024.rank → ℕ) = fun _ => 0 := by decide
  have e := Memref.slice_unit_congr outM (hoffo c) inb2 (by rw [← hoffo c]; exact inb2) hr1 (fun _ => rfl)
  refine Tr.take [.qR d n.castSucc 0, .qR d n.castSucc 1, .qR d n.castSucc 2, .qR d n.castSucc 3, .stAny d, .outAny d n, .oz d] ?_
  refine Tr.turn (l := [.qR d n.castSucc 0, .qR d n.castSucc 1, .qR d n.castSucc 2, .qR d n.castSucc 3]) (l' := [.qC d n.castSucc]) (Entails.of_eq (q_chunk d n.castSucc c)) ?_
  refine Tr.loadO (.qC d n.castSucc) (hoff c) (by rw [← hoff c]; exact inb) rfl ?_
  refine Tr.take [.stAny d, .outAny d n, .oz d, .qC d n.castSucc] ?_
  rw [hw]
  refine Tr.putD (.stAny d) (.stC d n) (hr := fun _ => rfl) (any_full c (stM d) h0 _) (fun y => Entails.of_eq (owns_full c (stM d) h0 _ fullShare _)) (fun y => ?_)
  refine Tr.copy (.stC d n) (.outAny d n) (.oz d) (.outFl d n) (X := outv m d (slotD d n.val c)) (by decide) rfl (by rw [e]; exact Entails.rfl) (by rw [hs]; rfl) (by rw [e, hs]; exact Entails.rfl) ?_
  exact hk _ _

/-- Landed rows sent on. -/
theorem Tr.ag2 {Q : α → sProp 𝕄} (d : Bool) (g : Fin 3) (s k k' : Fin 4) (n : ℕ) {l fr : List It} [Takes [.q d k s, .idle (.ag d g s), .ow n, .qP d k' s] l fr] (off : Dev nD → Fin 3 → ℕ)
    {inb : ∀ a, off c a + S1x256x1024.size a ≤ S4x1024x1024.size a} {hr1 hr2}
    {dv : Dev nD → ℕ} {hx : dv c < nD} {sS sR : DmaSem sig} {h1 h2 h3 h4}
    {kk : PUnit → Prog (TpuEff nD τ sig (Elt F) Λ₀ .tc) α}
    (hk : Tr m c (.live (.ag d g s) :: .ow (n + 1) :: .qR d k s :: fr) (kk ⟨⟩) Q)
    (hoff : ∀ c, off c = ![(slotD d k c).val, 256 * s.val, 0] := by decide +kernel)
    (hd : ∀ c, dv c = (dstD d c).val := by decide +kernel) (hs : SemLoc.dma sS = csem (.snd (.ag d g s)) := by rfl) (hr : SemLoc.dma sR = csem (.rcv (.ag d g s)) := by rfl)
    (hpay : payL.drop n = .cp (.ag d g s) :: payL.drop (n + 1) := by rfl) (hkk : g.castSucc = k := by rfl) (hkk' : g.succ = k' := by rfl) :
    Tr m c l (.op (.enqueueDma ((qM d).slice (Rect.unit (s := S4x1024x1024) (off c) S1x256x1024.size inb) hr1) (.remote (Dev.tc (⟨dv c, hx⟩ : Dev nD)) ((qM d).slice (Rect.unit (s := S4x1024x1024) (off c) S1x256x1024.size inb) hr2) (.dma sS) h1) (.dma sR) h2 h3 h4) kk) Q := by
  refine Tr.take [.q d k s, .idle (.ag d g s), .ow n, .qP d k' s] ?_
  refine Tr.turn (l := [.q d k s]) (l' := [.qL d k s, .qR d k s]) (q_split d k s c) ?_
  refine Tr.take [.idle (.ag d g s), .ow n, .qL d k s, .qP d k' s] ?_
  exact Tr.ag d g s k k' n off hk hoff hd hs hr hpay hkk hkk'

/-- Its copy waited for. -/
theorem Tr.outw {Q : α → sProp 𝕄} (d : Bool) (n : Fin 3) (u : ℕ) {l fr : List It} [Takes [.outFl d n, .ow u] l fr] {o : Fin 2 → ℕ} {inb : ∀ a, o a + S1024x1024.size a ≤ S4096x2048.size a}
    {spv : Space} {sv : Shape} {tyv : EltTy} {srcw : Memref sig .tc spv sv tyv} {hr h1 h2} {sm : DmaSem sig} {kk : PUnit → Prog (TpuEff nD τ sig (Elt F) Λ₀ .tc) α}
    (hk : Tr m c (.out d n :: .stAny d :: .oz d :: .ow u :: fr) (kk ⟨⟩) Q) (hs : SemLoc.dma sm = outS d := by rfl) :
    Tr m c l (.op (.waitDma2 sm srcw (outM.slice (Rect.unit (s := S4096x2048) o S1024x1024.size inb) hr) h1 h2) kk) Q := by
  refine Tr.take [.outFl d n, .ow u] ?_
  refine Tr.copyWait (.outFl d n) u (.out d n) (.stAny d) (.oz d) (src := stM d) (dst := outWC d (slotD d n c)) (X := outv m d (slotD d n c)) (by rw [hs]; rfl) (by rfl) (by rw [hs]; exact lvS_out d) Entails.rfl (any_of c (stM d) _) (by rw [hs]; rfl) hk

/-- The staging buffer as its rows. -/
theorem st_rows (d : Bool) (c : Dev nD) : ctx m c [.stAny d] ⊢ ctx m c [.stRAny d 0, .stRAny d 1, .stRAny d 2, .stRAny d 3] := by
  show iprop(anyW c (stM d) ∗ emp) ⊢ iprop(anyW c (stW d 0) ∗ anyW c (stW d 1) ∗ anyW c (stW d 2) ∗ anyW c (stW d 3) ∗ emp)
  unfold anyW
  iintro ⟨⟨%X, H⟩, -⟩
  have h1 := owns_rects (Val := Elt F) (Ix := Unit) (Name := ℕ) (U := UU nD τ) (Lvl := ℕ) (c : Thread nD τ) (stM d) fullShare rowR (fun _ _ => rfl) rowR_dis rowR_cov X
  rw [bigSep_fin4] at h1
  ihave H := h1 $$ H
  icases H with ⟨H1, H2, H3, H4⟩
  isplitl [H1]; · iexists _; iexact H1
  isplitl [H2]; · iexists _; iexact H2
  isplitl [H3]; · iexists _; iexact H3
  isplitl [H4]; · iexists _; iexact H4
  iempintro

/-- Rows of the last chunk read, -/
theorem Tr.qLoad {Q : α → sProp 𝕄} (d : Bool) (s : Fin 4) {l fr : List It} [Takes [.q d 3 s] l fr] (off : Dev nD → Fin 3 → ℕ)
    {inb : ∀ a, off c a + S1x256x1024.size a ≤ S4x1024x1024.size a} {hl} {kk : Vec F S1x256x1024 .i8 → Prog (TpuEff nD τ sig (Elt F) Λ₀ .tc) α}
    (hk : Tr m c (.q d 3 s :: fr) (kk (qv m d (slotD d 3 c) s)) Q)
    (hoff : ∀ c, off c = ![(slotD d (3 : Fin 4).val c).val, 256 * s.val, 0] := by decide +kernel) :
    Tr m c l (.op (.load (qM d) (Rect.unit (s := S4x1024x1024) (off c) S1x256x1024.size inb).toLoadRect hl) kk) Q :=
  Tr.take [.q d 3 s] (Tr.loadO (.q d 3 s) (hoff c) (by rw [← hoff c]; exact inb) rfl hk)

/-- staged and their copy started. -/
theorem Tr.last {Q : α → sProp 𝕄} (d : Bool) (s : Fin 4) (u u' : ℕ) {l fr : List It} [Takes [.stRAny d s, .bat d u 0, .outRAny d s] l fr] (offo : Dev nD → Fin 2 → ℕ)
    {inb2 : ∀ a, offo c a + S256x1024.size a ≤ S4096x2048.size a} {sm : DmaSem sig} {hl hx hm hr hr1 h1 h2 h3}
    {w : Vec F S256x1024 .f32} {kk : PUnit → Prog (TpuEff nD τ sig (Elt F) Λ₀ .tc) α}
    (hw : w = k0_pay91 (scl m) (qv m d (slotD d 3 c) s)) (hk : Tr m c (.bat d u' 0 :: fr) (kk ⟨⟩) Q)
    (hs : SemLoc.dma sm = outS d := by rfl)
    (hoffo : ∀ c, offo c = ![1024 * (slotD d 3 c).val + 256 * s.val, if d then 1024 else 0] := by decide +kernel) (hu : s.val = u := by rfl) (hu' : u + 1 = u' := by rfl) :
    Tr m c l (.op (.load (stM d) (rowR s).toLoadRect hl) fun _ =>
      .op (.store (stM d) (rowR s) w Finset.univ hx hm) fun _ =>
      .op (.enqueueDma ((stM d).slice (rowR s) hr) (.here (outM.slice (Rect.unit (s := S4096x2048) (offo c) S256x1024.size inb2) hr1)) (.dma sm) h1 h2 h3) kk) Q := by
  subst hu hu'
  rw [st_val] at hw
  have e := Memref.slice_unit_congr outM (hoffo c) inb2 (by rw [← hoffo c]; exact inb2) hr1 (fun _ => rfl)
  refine Tr.take [.stRAny d s, .bat d s.val 0, .outRAny d s] ?_
  refine Tr.put (.stRAny d s) (.stR d s) (hr := fun _ => rfl) Entails.rfl (by rw [hw]; exact Entails.rfl) ?_
  refine Tr.take [.bat d s.val 0, .stR d s, .outRAny d s] ?_
  refine Tr.batchStart d s.val s.isLt (.stR d s) (.outRAny d s) (X := stv m c d s) hs (by rw [e]; rfl) rfl (by rw [e]; exact Entails.rfl) (by rw [e]; exact Entails.rfl) hk

/-- The copies waited for, one by one, -/
theorem Tr.batw {Q : α → sProp 𝕄} (d : Bool) (u u' n : ℕ) {l fr : List It} [Takes [.bat d 4 u, .ow n] l fr] {o : Fin 2 → ℕ} {inb : ∀ a, o a + S256x1024.size a ≤ S4096x2048.size a}
    {spv : Space} {sv : Shape} {tyv : EltTy} {srcw : Memref sig .tc spv sv tyv} {hr h1 h2} {sm : DmaSem sig} {kk : PUnit → Prog (TpuEff nD τ sig (Elt F) Λ₀ .tc) α}
    (hk : Tr m c (.bat d 4 u' :: .ow n :: fr) (kk ⟨⟩) Q) (hs : SemLoc.dma sm = outS d := by rfl) (hu : u < 3 := by decide) (hu' : u + 1 = u' := by rfl) :
    Tr m c l (.op (.waitDma2 sm srcw (outM.slice (Rect.unit (s := S4096x2048) o S256x1024.size inb) hr) h1 h2) kk) Q := by
  subst hu'
  exact Tr.take [.bat d 4 u, .ow n] (Tr.batchWait d u n hu hs (by rfl) hk)

/-- and the last, which hands everything back. -/
theorem Tr.batl {Q : α → sProp 𝕄} (d : Bool) (n : ℕ) {l fr : List It} [Takes [.bat d 4 3, .ow n] l fr] {o : Fin 2 → ℕ} {inb : ∀ a, o a + S256x1024.size a ≤ S4096x2048.size a}
    {spv : Space} {sv : Shape} {tyv : EltTy} {srcw : Memref sig .tc spv sv tyv} {hr h1 h2} {sm : DmaSem sig} {kk : PUnit → Prog (TpuEff nD τ sig (Elt F) Λ₀ .tc) α}
    (hk : Tr m c (.oz d :: .outR d 0 :: .stR d 0 :: .outR d 1 :: .stR d 1 :: .outR d 2 :: .stR d 2 :: .outR d 3 :: .stR d 3 :: .ow n :: fr) (kk ⟨⟩) Q) (hs : SemLoc.dma sm = outS d := by rfl) :
    Tr m c l (.op (.waitDma2 sm srcw (outM.slice (Rect.unit (s := S4096x2048) o S256x1024.size inb) hr) h1 h2) kk) Q :=
  Tr.take [.bat d 4 3, .ow n] (Tr.batchLast d n hs (by rfl) hk)

end Cert.Proof
-- ==== Proof.Finish.lean ====
/-
  The later sweeps of the gather, the result's windows written between them, and the closing barrier.
-/
module

public import proofs.«01_k».proof.Proof.Return

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ)

variable {m} {c : Dev nD} {α : Type}

set_option maxRecDepth 65536
set_option synthInstance.maxSize 1000000
set_option synthInstance.maxHeartbeats 0
attribute [local irreducible] Tr

/-- Parts 50 to 55: the own chunk written; rows received and sent on. -/
theorem t1 {Q : α → sProp 𝕄} {fr : List It} {v2 v13 v25 v989 v1001 : BitVec 32} {v1106 : F .f32}
    {k : BitVec 32 → BitVec 32 → BitVec 1 → BitVec 32 → Prog (TpuEff nD τ sig (Elt F) Λ₀ .tc) α}
    (e1 : v1106 = scl m) (hk : ∀ u v w x, Tr m c (.fin (.ag false 0 2) :: .ow 41 :: .qL false 0 2 :: .q false 1 2 :: .live (.ag true 1 1) :: .qR true 1 1 :: .fin (.ag true 0 1) :: .qL true 0 1 :: .live (.ag false 1 1) :: .qR false 1 1 :: .fin (.ag false 0 1) :: .qL false 0 1 :: .live (.ag true 1 0) :: .qR true 1 0 :: .fin (.ag true 0 0) :: .qL true 0 0 :: .live (.ag false 1 0) :: .qR false 1 0 :: .fin (.ag false 0 0) :: .qL false 0 0 :: .out true 0 :: .stAny true :: .oz true :: .out false 0 :: .stAny false :: .oz false :: .qC true 0 :: .qC false 0 :: fr) (k u v w x) Q) :
    Tr m c (.qR false 0 0 :: .qR false 0 1 :: .qR false 0 2 :: .qR false 0 3 :: .stAny false :: .outAny false 0 :: .oz false :: .qR true 0 0 :: .qR true 0 1 :: .qR true 0 2 :: .qR true 0 3 :: .stAny true :: .outAny true 0 :: .oz true :: .ow 37 :: .live (.ag false 0 0) :: .idle (.ag false 1 0) :: .qP false 2 0 :: .live (.ag true 0 0) :: .idle (.ag true 1 0) :: .qP true 2 0 :: .live (.ag false 0 1) :: .idle (.ag false 1 1) :: .qP false 2 1 :: .live (.ag true 0 1) :: .idle (.ag true 1 1) :: .qP true 2 1 :: .live (.ag false 0 2) :: fr)
      ((at' (k0_part50_skel (F := F))) c v989 v1001 v1106 >>= fun c1_i32_1406 =>
        (at' (k0_part51_skel (F := F))) c v2 v13 c1_i32_1406 >>= fun _ =>
        (at' (k0_part52_skel (F := F))) c v2 v25 >>= fun _ =>
        (at' (k0_part53_skel (F := F))) c v2 v13 >>= fun _ =>
        (at' (k0_part54_skel (F := F))) c v2 v25 >>= fun ⟨v1514, v1515, v1520⟩ =>
        (at' (k0_part55_skel (F := F))) c v2 v13 v25 v1514 v1515 v1520 >>= fun ⟨v1542, c4_i32_1562, v1543, c1_i32_1564⟩ => k v1542 c4_i32_1562 v1543 c1_i32_1564) Q := by
  subst e1
  refine Tr.half false 0 0 k0_off22 k0_off23 (fun _ _ => ?_) (fun _ => rfl)
  refine Tr.half true 0 0 (fun c => k0_off24 c 4#32) (fun c => k0_off25 c 4#32) (fun _ _ => ?_) (fun _ => rfl)
  refine Tr.outw false 0 37 ?_
  refine Tr.outw true 0 37 ?_
  refine Tr.agw false 0 0 0 1 37 ?_
  refine Tr.ag2 false 1 0 1 2 37 (fun c => k0_off7 c 1#32) ?_
  refine Tr.agw true 0 0 0 1 38 ?_
  refine Tr.ag2 true 1 0 1 2 38 (fun c => k0_off9 c 1#32) ?_
  refine Tr.agw false 0 1 0 1 39 ?_
  refine Tr.ag2 false 1 1 1 2 39 (fun c => k0_off11 c 1#32) ?_
  refine Tr.agw true 0 1 0 1 40 ?_
  refine Tr.ag2 true 1 1 1 2 40 (fun c => k0_off13 c 1#32) ?_
  refine Tr.agw false 0 2 0 1 41 ?_
  exact Tr.re (hk _ _ _ _)

/-- Parts 56 to 59. -/
theorem t2 {Q : α → sProp 𝕄} {fr : List It} {v2 v13 v25 v1542 c4_i32_1562 c1_i32_1564 : BitVec 32} {v1543 : BitVec 1}
    {k : Prog (TpuEff nD τ sig (Elt F) Λ₀ .tc) α}
    (hk : Tr m c (.fin (.ag true 0 3) :: .ow 44 :: .qL true 0 3 :: .q true 1 3 :: .live (.ag false 1 3) :: .qR false 1 3 :: .fin (.ag false 0 3) :: .qL false 0 3 :: .live (.ag true 1 2) :: .qR true 1 2 :: .fin (.ag true 0 2) :: .qL true 0 2 :: .live (.ag false 1 2) :: .qR false 1 2 :: fr) (k) Q) :
    Tr m c (.q false 1 2 :: .idle (.ag false 1 2) :: .ow 41 :: .qP false 2 2 :: .live (.ag true 0 2) :: .idle (.ag true 1 2) :: .qP true 2 2 :: .live (.ag false 0 3) :: .idle (.ag false 1 3) :: .qP false 2 3 :: .live (.ag true 0 3) :: fr)
      ((at' (k0_part56_skel (F := F))) c v13 v25 v1542 c4_i32_1562 v1543 c1_i32_1564 >>= fun _ =>
        (at' (k0_part57_skel (F := F))) c v2 v25 >>= fun c1_i32_1628 =>
        (at' (k0_part58_skel (F := F))) c v2 v13 c1_i32_1628 >>= fun _ =>
        (at' (k0_part59_skel (F := F))) c v2 v25 >>= fun _ => k) Q := by
  refine Tr.ag2 false 1 2 1 2 41 (fun c => k0_off15 c 1#32) ?_
  refine Tr.agw true 0 2 0 1 42 ?_
  refine Tr.ag2 true 1 2 1 2 42 (fun c => k0_off17 c 1#32) ?_
  refine Tr.agw false 0 3 0 1 43 ?_
  refine Tr.ag2 false 1 3 1 2 43 (fun c => k0_off19 c 1#32) ?_
  refine Tr.agw true 0 3 0 1 44 ?_
  exact Tr.re (hk)

/-- Parts 60 and 61: the second chunk written. -/
theorem t3 {Q : α → sProp 𝕄} {fr : List It} {v2 v13 : BitVec 32} {v1106 : F .f32}
    {k : BitVec 32 → Prog (TpuEff nD τ sig (Elt F) Λ₀ .tc) α}
    (e1 : v1106 = scl m) (hk : ∀ u, Tr m c (.fin (.ag false 1 0) :: .ow 45 :: .qL false 1 0 :: .q false 2 0 :: .out true 1 :: .stAny true :: .oz true :: .out false 1 :: .stAny false :: .oz false :: .qC true 1 :: .qC false 1 :: .live (.ag true 1 3) :: fr) (k u) Q) :
    Tr m c (.q true 1 3 :: .idle (.ag true 1 3) :: .ow 44 :: .qP true 2 3 :: .qR false 1 0 :: .qR false 1 1 :: .qR false 1 2 :: .qR false 1 3 :: .stAny false :: .outAny false 1 :: .oz false :: .qR true 1 0 :: .qR true 1 1 :: .qR true 1 2 :: .stAny true :: .outAny true 1 :: .oz true :: .live (.ag false 1 0) :: fr)
      ((at' (k0_part60_skel (F := F))) c v2 v1106 >>= fun v1685 =>
        (at' (k0_part61_skel (F := F))) c v2 v13 v1106 v1685 >>= fun v1710 => k v1710) Q := by
  subst e1
  refine Tr.ag2 true 1 3 1 2 44 (fun c => k0_off21 c 1#32) ?_
  refine Tr.half false 1 1 (fun c => k0_off26 c 1#32) (fun c => k0_off27 c 1#32) (fun _ _ => ?_) (fun _ => rfl)
  refine Tr.half true 1 1 (fun c => k0_off24 c 1#32) (fun c => k0_off25 c 1#32) (fun _ _ => ?_) (fun _ => rfl)
  refine Tr.outw false 1 45 ?_
  refine Tr.outw true 1 45 ?_
  refine Tr.agw false 1 0 1 2 45 ?_
  exact Tr.re (hk _)

/-- Parts 62 to 66. -/
theorem t4 {Q : α → sProp 𝕄} {fr : List It} {v2 v13 v25 v1710 : BitVec 32}
    {k : Prog (TpuEff nD τ sig (Elt F) Λ₀ .tc) α}
    (hk : Tr m c (.fin (.ag false 1 2) :: .ow 49 :: .qL false 1 2 :: .q false 2 2 :: .live (.ag true 2 1) :: .qR true 2 1 :: .fin (.ag true 1 1) :: .qL true 1 1 :: .live (.ag false 2 1) :: .qR false 2 1 :: .fin (.ag false 1 1) :: .qL false 1 1 :: .live (.ag true 2 0) :: .qR true 2 0 :: .fin (.ag true 1 0) :: .qL true 1 0 :: .live (.ag false 2 0) :: .qR false 2 0 :: fr) (k) Q) :
    Tr m c (.q false 2 0 :: .idle (.ag false 2 0) :: .ow 45 :: .qP false 3 0 :: .live (.ag true 1 0) :: .idle (.ag true 2 0) :: .qP true 3 0 :: .live (.ag false 1 1) :: .idle (.ag false 2 1) :: .qP false 3 1 :: .live (.ag true 1 1) :: .idle (.ag true 2 1) :: .qP true 3 1 :: .live (.ag false 1 2) :: fr)
      ((at' (k0_part62_skel (F := F))) c v13 v25 v1710 >>= fun _ =>
        (at' (k0_part63_skel (F := F))) c v2 v25 >>= fun _ =>
        (at' (k0_part64_skel (F := F))) c v2 v13 >>= fun _ =>
        (at' (k0_part65_skel (F := F))) c v2 v25 >>= fun _ =>
        (at' (k0_part66_skel (F := F))) c v2 v13 >>= fun _ => k) Q := by
  refine Tr.ag2 false 2 0 2 3 45 (fun c => k0_off7 c 2#32) ?_
  refine Tr.agw true 1 0 1 2 46 ?_
  refine Tr.ag2 true 2 0 2 3 46 (fun c => k0_off9 c 2#32) ?_
  refine Tr.agw false 1 1 1 2 47 ?_
  refine Tr.ag2 false 2 1 2 3 47 (fun c => k0_off11 c 2#32) ?_
  refine Tr.agw true 1 1 1 2 48 ?_
  refine Tr.ag2 true 2 1 2 3 48 (fun c => k0_off13 c 2#32) ?_
  refine Tr.agw false 1 2 1 2 49 ?_
  exact Tr.re (hk)

/-- Parts 67 to 70. -/
theorem t5 {Q : α → sProp 𝕄} {fr : List It} {v2 v13 v25 : BitVec 32}
    {k : BitVec 32 → BitVec 32 → BitVec 1 → BitVec 1 → BitVec 32 → Prog (TpuEff nD τ sig (Elt F) Λ₀ .tc) α}
    (hk : ∀ u v w x y, Tr m c (.live (.ag true 2 3) :: .ow 53 :: .qR true 2 3 :: .fin (.ag true 1 3) :: .qL true 1 3 :: .live (.ag false 2 3) :: .qR false 2 3 :: .fin (.ag false 1 3) :: .qL false 1 3 :: .live (.ag true 2 2) :: .qR true 2 2 :: .fin (.ag true 1 2) :: .qL true 1 2 :: .live (.ag false 2 2) :: .qR false 2 2 :: fr) (k u v w x y) Q) :
    Tr m c (.q false 2 2 :: .idle (.ag false 2 2) :: .ow 49 :: .qP false 3 2 :: .live (.ag true 1 2) :: .idle (.ag true 2 2) :: .qP true 3 2 :: .live (.ag false 1 3) :: .idle (.ag false 2 3) :: .qP false 3 3 :: .live (.ag true 1 3) :: .idle (.ag true 2 3) :: .qP true 3 3 :: fr)
      ((at' (k0_part67_skel (F := F))) c v2 v13 v25 >>= fun ⟨v1862, v1863, v1864, v1865⟩ =>
        (at' (k0_part68_skel (F := F))) c v2 v13 v25 v1862 v1863 v1864 v1865 >>= fun v1890 =>
        (at' (k0_part69_skel (F := F))) c v13 v25 v1890 >>= fun _ =>
        (at' (k0_part70_skel (F := F))) c v2 v25 >>= fun ⟨v1942, v1943, v1944, v1945, c0_i32_2022⟩ => k v1942 v1943 v1944 v1945 c0_i32_2022) Q := by
  refine Tr.ag2 false 2 2 2 3 49 (fun c => k0_off15 c 2#32) ?_
  refine Tr.agw true 1 2 1 2 50 ?_
  refine Tr.ag2 true 2 2 2 3 50 (fun c => k0_off17 c 2#32) ?_
  refine Tr.agw false 1 3 1 2 51 ?_
  refine Tr.ag2 false 2 3 2 3 51 (fun c => k0_off19 c 2#32) ?_
  refine Tr.agw true 1 3 1 2 52 ?_
  refine Tr.ag2 true 2 3 2 3 52 (fun c => k0_off21 c 2#32) ?_
  exact Tr.re (hk _ _ _ _ _)

/-- Parts 71 to 76: the third chunk written, and the first rows of the last. -/
theorem t6 {Q : α → sProp 𝕄} {fr : List It} {v2 v13 v25 v1942 v1943 c0_i32_2022 : BitVec 32} {v1106 : F .f32} {v1944 v1945 : BitVec 1}
    {k : BitVec 32 → BitVec 32 → Vec F S1x256x1024 .i8 → Prog (TpuEff nD τ sig (Elt F) Λ₀ .tc) α}
    (e1 : v1106 = scl m) (hk : ∀ u v, Tr m c (.q false 3 2 :: .fin (.ag false 2 2) :: .ow 53 :: .qL false 2 2 :: .bat true 2 0 :: .q true 3 1 :: .fin (.ag true 2 1) :: .qL true 2 1 :: .bat false 2 0 :: .q false 3 1 :: .fin (.ag false 2 1) :: .qL false 2 1 :: .q true 3 0 :: .fin (.ag true 2 0) :: .qL true 2 0 :: .q false 3 0 :: .fin (.ag false 2 0) :: .qL false 2 0 :: .stRAny true 2 :: .stRAny true 3 :: .stRAny false 2 :: .stRAny false 3 :: .out true 2 :: .out false 2 :: .qC true 2 :: .qC false 2 :: fr) (k u v (qv m false (slotD false 3 c) 2)) Q) :
    Tr m c (.qR false 2 0 :: .qR false 2 1 :: .qR false 2 2 :: .qR false 2 3 :: .stAny false :: .outAny false 2 :: .oz false :: .qR true 2 0 :: .qR true 2 1 :: .qR true 2 2 :: .qR true 2 3 :: .stAny true :: .outAny true 2 :: .oz true :: .ow 53 :: .live (.ag false 2 0) :: .outRAny false 0 :: .live (.ag true 2 0) :: .outRAny true 0 :: .live (.ag false 2 1) :: .outRAny false 1 :: .live (.ag true 2 1) :: .outRAny true 1 :: .live (.ag false 2 2) :: fr)
      ((at' (k0_part71_skel (F := F))) c v2 v1106 v1942 v1943 v1944 v1945 c0_i32_2022 >>= fun _ =>
        (at' (k0_part72_skel (F := F))) c v2 >>= fun ⟨v1997, v2008⟩ =>
        (at' (k0_part73_skel (F := F))) c v13 v25 v1106 v1997 >>= fun v2036 =>
        (at' (k0_part74_skel (F := F))) c v13 v1106 v2008 v2036 >>= fun _ =>
        (at' (k0_part75_skel (F := F))) c v25 v1106 v1997 >>= fun _ =>
        (at' (k0_part76_skel (F := F))) c v13 v1106 v1997 v2008 >>= fun v2112 => k v1997 v2008 v2112) Q := by
  subst e1
  refine Tr.half false 2 2 (fun c => k0_off26 c 2#32) (fun c => k0_off27 c 2#32) (fun _ _ => ?_) (fun _ => rfl)
  refine Tr.half true 2 2 (fun c => k0_off24 c 2#32) (fun c => k0_off25 c 2#32) (fun _ _ => ?_) (fun _ => rfl)
  refine Tr.outw false 2 53 ?_
  refine Tr.outw true 2 53 ?_
  refine Tr.take [.oz false] ?_
  refine Tr.batch false ?_
  refine Tr.take [.oz true] ?_
  refine Tr.batch true ?_
  refine Tr.take [.stAny false] ?_
  refine Tr.turn (l := [.stAny false]) (l' := [.stRAny false 0, .stRAny false 1, .stRAny false 2, .stRAny false 3]) (st_rows false c) ?_
  refine Tr.take [.stAny true] ?_
  refine Tr.turn (l := [.stAny true]) (l' := [.stRAny true 0, .stRAny true 1, .stRAny true 2, .stRAny true 3]) (st_rows true c) ?_
  refine Tr.agw false 2 0 2 3 53 ?_
  refine Tr.qLoad false 0 k0_off28 ?_
  refine Tr.last false 0 0 1 (fun c => k0_off29 c 0#32) rfl ?_
  refine Tr.agw true 2 0 2 3 53 ?_
  refine Tr.qLoad true 0 (fun c => k0_off6 c 2#32) ?_
  refine Tr.last true 0 0 1 (fun c => k0_off30 c 0#32) rfl ?_
  refine Tr.agw false 2 1 2 3 53 ?_
  refine Tr.qLoad false 1 k0_off31 ?_
  refine Tr.last false 1 1 2 (fun c => k0_off29 c 256#32) rfl ?_
  refine Tr.agw true 2 1 2 3 53 ?_
  refine Tr.qLoad true 1 (fun c => k0_off10 c 2#32) ?_
  refine Tr.last true 1 1 2 (fun c => k0_off30 c 256#32) rfl ?_
  refine Tr.agw false 2 2 2 3 53 ?_
  refine Tr.qLoad false 2 k0_off32 ?_
  exact Tr.re (hk _ _)

/-- Parts 77 to 80 and the end: the other rows, the copies waited for, the closing barrier. -/
theorem t7 {Q : α → sProp 𝕄} {fr : List It} {v13 v25 v1997 v2008 : BitVec 32} {v1106 : F .f32} {v2112 : Vec F S1x256x1024 .i8}
    {k : Prog (TpuEff nD τ sig (Elt F) Λ₀ .tc) α}
    (e1 : v1106 = scl m) (e2 : v2112 = qv m false (slotD false 3 c) 2) (hk : Tr m c (.secZ :: .ow 55 :: .oz true :: .outR true 0 :: .stR true 0 :: .outR true 1 :: .stR true 1 :: .outR true 2 :: .stR true 2 :: .outR true 3 :: .stR true 3 :: .oz false :: .outR false 0 :: .stR false 0 :: .outR false 1 :: .stR false 1 :: .outR false 2 :: .stR false 2 :: .outR false 3 :: .stR false 3 :: .q true 3 3 :: .fin (.ag true 2 3) :: .qL true 2 3 :: .q false 3 3 :: .fin (.ag false 2 3) :: .qL false 2 3 :: .q true 3 2 :: .fin (.ag true 2 2) :: .qL true 2 2 :: fr) (k) Q) :
    Tr m c (.stRAny false 2 :: .bat false 2 0 :: .outRAny false 2 :: .live (.ag true 2 2) :: .ow 53 :: .stRAny true 2 :: .bat true 2 0 :: .outRAny true 2 :: .live (.ag false 2 3) :: .stRAny false 3 :: .outRAny false 3 :: .live (.ag true 2 3) :: .stRAny true 3 :: .outRAny true 3 :: .secT true :: .secT false :: .secW :: fr)
      ((at' (k0_part77_skel (F := F))) c v25 v1106 v1997 v2008 v2112 >>= fun v2139 =>
        (at' (k0_part78_skel (F := F))) c v13 v1106 v1997 v2008 v2139 >>= fun _ =>
        (at' (k0_part79_skel (F := F))) c v25 v1106 v1997 v2008 >>= fun _ =>
        (at' (k0_part80_skel (F := F))) c v25 >>= fun _ => semSignalWord (⟨k0_dev55 c, k0_dev55_lt c⟩ : Dev nD) cc0_scoped0.sem 1#32 >>= fun _ => semWaitWord cc0_scoped0.sem 2#32 >>= fun _ => k) Q := by
  subst e1 e2
  refine Tr.last false 2 2 3 (fun c => k0_off29 c 512#32) rfl ?_
  refine Tr.agw true 2 2 2 3 53 ?_
  refine Tr.qLoad true 2 (fun c => k0_off14 c 2#32) ?_
  refine Tr.last true 2 2 3 (fun c => k0_off30 c 512#32) rfl ?_
  refine Tr.agw false 2 3 2 3 53 ?_
  refine Tr.qLoad false 3 k0_off33 ?_
  refine Tr.last false 3 3 4 (fun c => k0_off29 c 768#32) rfl ?_
  refine Tr.agw true 2 3 2 3 53 ?_
  refine Tr.qLoad true 3 (fun c => k0_off18 c 2#32) ?_
  refine Tr.last true 3 3 4 (fun c => k0_off30 c 768#32) rfl ?_
  refine Tr.batw false 0 1 53 ?_
  refine Tr.batw true 0 1 53 ?_
  refine Tr.batw false 1 2 53 ?_
  refine Tr.batw true 1 2 53 ?_
  refine Tr.batw false 2 3 53 ?_
  refine Tr.batw true 2 3 53 ?_
  refine Tr.batl false 53 ?_
  refine Tr.batl true 53 ?_
  refine Tr.take [.secT true, .ow 53] ?_
  refine Tr.secSignal true 53 (by clear hk; revert c; decide +kernel) rfl rfl rfl ?_
  refine Tr.take [.secT false, .ow 54] ?_
  refine Tr.secSignal false 54 (by clear hk; revert c; decide +kernel) rfl rfl rfl ?_
  refine Tr.take [.secW, .ow 55] ?_
  refine Tr.secWait 55 rfl rfl (by decide +kernel) ?_
  exact Tr.re (hk)

end Cert.Proof
-- ==== Proof.Spread.lean ====
/-
  The exchange of the maxima, and the first sweep of the gather.
-/
module

public import proofs.«01_k».proof.Proof.Gather

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ)

variable {m} {c : Dev nD} {α : Type}

set_option maxRecDepth 65536
set_option synthInstance.maxSize 1000000
set_option synthInstance.maxHeartbeats 0
attribute [local irreducible] Tr

/-! The quantised rows, as the parts compute them. -/

theorem qz1 (v : Vec F S256x1024 .bf16) : k0_pay68 (Scalar.ofBits .f32 0x42FE0000#32) (k0_pay67 (amT m) v) = k0_pay77 (k0_pay76 (scl m) v) := rfl
theorem qz2 (v : Vec F S256x1024 .bf16) : k0_pay71 (k0_pay69 (scl m) v) (Scalar.ofBits .f32 0x42FE0000#32) (k0_pay70 (F := F)) = k0_pay77 (k0_pay76 (scl m) v) := rfl
theorem qz3 (v : Vec F S256x1024 .bf16) : k0_pay73 (k0_pay72 (scl m) v) (Scalar.ofBits .f32 0xC2FE0000#32) (Scalar.ofBits .f32 0x42FE0000#32) = k0_pay77 (k0_pay76 (scl m) v) := rfl
theorem qz4 (v : Vec F S256x1024 .bf16) : k0_pay75 (k0_pay74 (scl m) v) (Scalar.ofBits .f32 0xC2FE0000#32) = k0_pay77 (k0_pay76 (scl m) v) := rfl
theorem qz5 (v : Vec F S256x1024 .bf16) : k0_pay79 (k0_pay78 (scl m) v) = k0_pay77 (k0_pay76 (scl m) v) := rfl
theorem qz6 (v : Vec F S256x1024 .bf16) : k0_pay82 (k0_pay80 v) (k0_pay81 (scl m)) = k0_pay77 (k0_pay76 (scl m) v) := rfl
theorem qz7 (v : Vec F S256x1024 .bf16) : k0_pay84 (scl m) (k0_pay83 v) = k0_pay77 (k0_pay76 (scl m) v) := rfl

/-- Part 38: the device's maximum put in its row; -/
theorem s5a {Q : α → sProp 𝕄} {fr : List It} {v2 v990 c1_i32_1083 : BitVec 32}
    {k : BitVec 32 → BitVec 32 → Prog (TpuEff nD τ sig (Elt F) Λ₀ .tc) α}
    (hk : ∀ u v, Tr m c (.amS 0 :: .amS 1 :: .amS 2 :: fr) (k u v) Q) :
    Tr m c (.amAny 0 :: fr)
      ((at' (k0_part38_skel (F := F))) c v2 (mxv m c false 0) (mxv m c true 0) (mxv m c false 1) (mxv m c true 1) (mxv m c false 2) (mxv m c true 2) (mxv m c false 3) (mxv m c true 3) v990 c1_i32_1083 >>= fun ⟨v1001, v1024⟩ => k v1001 v1024) Q := by
  refine Tr.amPut k0_off4 ?_ rfl
  exact hk _ _

/-- parts 39 to 41: the rows exchanged. -/
theorem s5b {Q : α → sProp 𝕄} {fr : List It} {v2 v1024 : BitVec 32}
    {k : F .f32 → F .f32 → FVec F S256x1024 .f32 → Prog (TpuEff nD τ sig (Elt F) Λ₀ .tc) α}
    (hk : Tr m c (.amAll :: .fin (.ax 0) :: .fin (.ax 1) :: .fin (.ax 2) :: .ow 29 :: .acc false 0 3 :: fr) (k (scl m) (Scalar.ofBits .f32 0x42FE0000#32) (k0_pay67 (amT m) (accv m false 0 3 c))) Q) :
    Tr m c (.amS 0 :: .amS 1 :: .amS 2 :: .ow 26 :: .idle (.ax 0) :: .idle (.ax 1) :: .idle (.ax 2) :: .amP 0 :: .amP 1 :: .amP 2 :: .acc false 0 3 :: fr)
      ((at' (k0_part39_skel (F := F))) c v2 >>= fun ⟨v1043, v1062⟩ =>
        (at' (k0_part40_skel (F := F))) c v1024 v1043 v1062 >>= fun v1085 =>
        (at' (k0_part41_skel (F := F))) c v1062 v1085 >>= fun ⟨v1106, cst_1190, v1113⟩ => k v1106 cst_1190 v1113) Q := by
  refine Tr.axs 0 26 k0_off5 ?_
  refine Tr.axs 1 27 k0_off5 ?_
  refine Tr.axs 2 28 k0_off5 ?_
  refine Tr.axw 0 29 k0_off5 ?_
  refine Tr.axw 1 29 k0_off5 ?_
  refine Tr.axw 2 29 k0_off5 ?_
  refine Tr.amLoad ?_
  refine Tr.loadAcc false 0 3 ?_
  exact Tr.re hk

/-- Parts 42 to 45: the first four of the quantised rows, stored and sent on; -/
theorem s6 {Q : α → sProp 𝕄} {fr : List It} {v2 v13 v25 v989 v1001 : BitVec 32} {v1106 cst_1190 : F .f32} {v1113 : FVec F S256x1024 .f32}
    {k : FVec F S256x1024 .f32 → Prog (TpuEff nD τ sig (Elt F) Λ₀ .tc) α}
    (e1 : v1106 = scl m) (e2 : cst_1190 = Scalar.ofBits .f32 0x42FE0000#32) (e3 : v1113 = k0_pay67 (amT m) (accv m false 0 3 c))
    (hk : Tr m c ((its fun d s => .live (.ag d 0 s)).take 4 ++ ((its fun d s => .qR d 0 s).take 4 ++ (.ow 33 :: .acc true 0 3 :: .acc false 1 3 :: .acc true 1 3 :: .acc false 2 3 :: fr)))
      (k (k0_pay76 (scl m) (accv m false 2 3 c))) Q) :
    Tr m c ((its fun d s => .qAny d 0 s).take 4 ++ ((its fun d s => .idle (.ag d 0 s)).take 4 ++ ((its fun d s => .qP d 1 s).take 4 ++ (.ow 29 :: .acc true 0 3 :: .acc false 1 3 :: .acc true 1 3 :: .acc false 2 3 :: fr))))
      ((at' (k0_part42_skel (F := F))) c v2 v13 v989 v1106 cst_1190 v1113 >>= fun ⟨v1146, cst_1214, v1147⟩ =>
        (at' (k0_part43_skel (F := F))) c v2 v25 v1001 v1106 v1146 cst_1214 v1147 >>= fun ⟨v1181, cst_1237, cst_1238⟩ =>
        (at' (k0_part44_skel (F := F))) c v2 v13 v989 v1106 v1181 cst_1237 cst_1238 >>= fun ⟨v1216, cst_1261⟩ =>
        (at' (k0_part45_skel (F := F))) c v2 v25 v1001 v1106 v1216 cst_1261 >>= fun v1251 => k v1251) Q := by
  subst e1 e2 e3
  simp only [its, List.cons_append, List.nil_append, List.take_succ_cons, List.take_zero] at hk ⊢
  refine Tr.quant false 0 (fun c => k0_off6 c 1#32) (qz1 _) (fun _ => ?_)
  refine Tr.ag false 0 0 0 1 29 (fun c => k0_off7 c 0#32) ?_
  refine Tr.loadAcc true 0 3 ?_
  refine Tr.quant true 0 k0_off8 (qz2 _) (fun _ => ?_)
  refine Tr.ag true 0 0 0 1 30 (fun c => k0_off9 c 0#32) ?_
  refine Tr.loadAcc false 1 3 ?_
  refine Tr.quant false 1 (fun c => k0_off10 c 1#32) (qz3 _) (fun _ => ?_)
  refine Tr.ag false 0 1 0 1 31 (fun c => k0_off11 c 0#32) ?_
  refine Tr.loadAcc true 1 3 ?_
  refine Tr.quant true 1 k0_off12 (qz4 _) (fun _ => ?_)
  refine Tr.ag true 0 1 0 1 32 (fun c => k0_off13 c 0#32) ?_
  refine Tr.loadAcc false 2 3 ?_
  exact Tr.re hk

/-- parts 46 to 49: the other four. -/
theorem s7 {Q : α → sProp 𝕄} {fr : List It} {v2 v13 v25 v989 v1001 : BitVec 32} {v1106 : F .f32} {v1251 : FVec F S256x1024 .f32}
    {k : Prog (TpuEff nD τ sig (Elt F) Λ₀ .tc) α}
    (e1 : v1106 = scl m) (e3 : v1251 = k0_pay76 (scl m) (accv m false 2 3 c))
    (hk : Tr m c ((its fun d s => .live (.ag d 0 s)).drop 4 ++ ((its fun d s => .qR d 0 s).drop 4 ++ (.ow 37 :: .acc true 2 3 :: .acc false 3 3 :: .acc true 3 3 :: fr))) k Q) :
    Tr m c ((its fun d s => .qAny d 0 s).drop 4 ++ ((its fun d s => .idle (.ag d 0 s)).drop 4 ++ ((its fun d s => .qP d 1 s).drop 4 ++ (.ow 33 :: .acc true 2 3 :: .acc false 3 3 :: .acc true 3 3 :: fr))))
      ((at' (k0_part46_skel (F := F))) c v2 v13 v989 v1106 v1251 >>= fun v1285 =>
        (at' (k0_part47_skel (F := F))) c v2 v25 v1001 v1106 v1285 >>= fun ⟨v1318, v1319⟩ =>
        (at' (k0_part48_skel (F := F))) c v2 v13 v989 v1318 v1319 >>= fun v1353 =>
        (at' (k0_part49_skel (F := F))) c v2 v25 v989 v1001 v1106 v1353 >>= fun _ => k) Q := by
  subst e1 e3
  simp only [its, List.cons_append, List.nil_append, List.drop_succ_cons, List.drop_zero] at hk ⊢
  refine Tr.quant false 2 (fun c => k0_off14 c 1#32) rfl (fun _ => ?_)
  refine Tr.ag false 0 2 0 1 33 (fun c => k0_off15 c 0#32) ?_
  refine Tr.loadAcc true 2 3 ?_
  refine Tr.quant true 2 k0_off16 (qz5 _) (fun _ => ?_)
  refine Tr.ag true 0 2 0 1 34 (fun c => k0_off17 c 0#32) ?_
  refine Tr.loadAcc false 3 3 ?_
  refine Tr.quant false 3 (fun c => k0_off18 c 1#32) (qz6 _) (fun _ => ?_)
  refine Tr.ag false 0 3 0 1 35 (fun c => k0_off19 c 0#32) ?_
  refine Tr.loadAcc true 3 3 ?_
  refine Tr.quant true 3 k0_off20 (qz7 _) (fun _ => ?_)
  refine Tr.ag true 0 3 0 1 36 (fun c => k0_off21 c 0#32) ?_
  exact Tr.re hk

end Cert.Proof
-- ==== Proof.Frames.lean ====
/-
  The pieces each stage of the kernel takes, leaves, and leaves alone.
-/
module

public import proofs.«01_k».proof.Proof.Finish
public import proofs.«01_k».proof.Proof.Spread

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ)

variable {m} {c : Dev nD} {α : Type}

/-- All the remote copies a device starts. -/
def cps : List Cp :=
  (sweep.flatMap fun p => [.rs p.1 0 p.2, .rs p.1 1 p.2, .rs p.1 2 p.2]) ++ [.ax 0, .ax 1, .ax 2] ++ (sweep.flatMap fun p => [.ag p.1 0 p.2, .ag p.1 1 p.2, .ag p.1 2 p.2])

/-- What a device starts with, -/
def startL : List It :=
  [.w, .wbAny, .xsAny, .xbAny, .copyZ] ++ [.x 0, .x 3, .x 2, .x 1] ++ [.amAny 0, .amAny 3, .amAny 2, .amAny 1] ++ (sweep.map fun p => .accAny p.1 p.2)
    ++ (sweep.flatMap fun p => [.rsAny p.1 0 p.2, .rsAny p.1 1 p.2, .rsAny p.1 2 p.2]) ++ (sweep.flatMap fun p => [.qAny p.1 0 p.2, .qAny p.1 1 p.2, .qAny p.1 2 p.2, .qAny p.1 3 p.2])
    ++ [.stAny false, .stAny true] ++ [.outAny false 0, .outAny false 1, .outAny false 2, .outAny true 0, .outAny true 1, .outAny true 2] ++ (sweep.map fun p => .outRAny p.1 p.2)
    ++ [.oz false, .oz true] ++ (cps.map fun e => .idle e) ++ [.barT true, .barT false, .barW, .secT true, .secT false, .secW, .ow 0]
/-- and ends with. -/
def endL : List It :=
  [.w, .wb, .xsAny, .xb 3, .copyZ] ++ [.x 0, .x 3, .x 2, .x 1] ++ [.amAll] ++ (sweep.map fun p => .acc p.1 p.2 3)
    ++ (sweep.flatMap fun p => [.rs p.1 0 p.2, .rs p.1 1 p.2, .rs p.1 2 p.2]) ++ (sweep.flatMap fun p => [.qL p.1 0 p.2, .qL p.1 1 p.2, .qL p.1 2 p.2, .q p.1 3 p.2])
    ++ [.qC false 0, .qC false 1, .qC false 2, .qC true 0, .qC true 1, .qC true 2] ++ (sweep.map fun p => .stR p.1 p.2)
    ++ [.out false 0, .out false 1, .out false 2, .out true 0, .out true 1, .out true 2] ++ (sweep.map fun p => .outR p.1 p.2)
    ++ [.oz false, .oz true] ++ (cps.map fun e => .fin e) ++ [.barZ, .secZ, .ow 55]

/-! Each stage's pieces before and after, and the pieces it leaves alone. -/

def pre_s0 (fr : List It) : List It := (.barT true :: .ow 0 :: (handL true ++ (.barT false :: (handL false ++ (.barW :: .w :: .wbAny :: .x 0 :: .xsAny :: .copyZ :: .xbAny :: .accAny false 0 :: fr)))))
def post_s0 (fr : List It) : List It := (.barZ :: .ow 2 :: (barItems true ++ (barItems false ++ (.acc false 0 0 :: .xb 0 :: .wb :: .w :: .x 0 :: .xsAny :: .copyZ :: fr))))
def fr_s0 : List It := List.diff startL (pre_s0 [])
def pre_s1 (fr : List It) : List It := ((its fun d s => .idle (.rs d 0 s)) ++ ((its fun d s => .rsP d 0 s) ++ (.amF :: .ow 2 :: .xb 0 :: .wb :: .x 3 :: .x 1 :: .xsAny :: .copyZ :: .acc false 0 0 :: .accAny true 0 :: .accAny false 1 :: .accAny true 1 :: .accAny false 2 :: .accAny true 2 :: .accAny false 3 :: .accAny true 3 :: fr)))
def post_s1 (fr : List It) : List It := ((its fun d s => .live (.rs d 0 s)) ++ (.ow 10 :: .xb 1 :: .wb :: .x 3 :: .x 1 :: .xsAny :: .copyZ :: fr))
def fr_s1 : List It := List.diff (post_s0 fr_s0) (pre_s1 [])
def pre_s2 (fr : List It) : List It := ((its fun d s => .live (.rs d 0 s)) ++ ((its fun d s => .idle (.rs d 1 s)) ++ ((its fun d s => .rsP d 1 s) ++ (.ow 10 :: fr))))
def post_s2 (fr : List It) : List It := ((its fun d s => .fin (.rs d 0 s)) ++ ((its fun d s => .rs d 0 s) ++ (((its fun d s => .live (.rs d 1 s)).take 7) ++ (.ow 17 :: .acc true 3 1 :: .idle (.rs true 1 3) :: .rsP true 1 3 :: .amP 1 :: fr))))
def fr_s2 : List It := List.diff (post_s1 fr_s1) (pre_s2 [])
def pre_s3 (fr : List It) : List It := (((its fun d s => .live (.rs d 1 s)).take 7) ++ ((its fun d s => .idle (.rs d 2 s)) ++ ((its fun d s => .rsP d 2 s) ++ (.ow 17 :: .acc true 3 1 :: .idle (.rs true 1 3) :: .rsP true 1 3 :: .xb 1 :: .wb :: .x 2 :: .xsAny :: .copyZ :: fr))))
def post_s3 (fr : List It) : List It := ((its fun d s => .fin (.rs d 1 s)) ++ ((its fun d s => .rs d 1 s) ++ ((its fun d s => .live (.rs d 2 s)) ++ (.ow 26 :: .xb 2 :: .wb :: .x 2 :: .xsAny :: .copyZ :: fr))))
def fr_s3 : List It := List.diff (post_s2 fr_s2) (pre_s3 [])
def pre_s4 (fr : List It) : List It := ((its fun d s => .live (.rs d 2 s)) ++ (.ow 26 :: .xb 2 :: .wb :: .x 1 :: .x 3 :: .xsAny :: .copyZ :: fr))
def post_s4 (fr : List It) : List It := ((its fun d s => .fin (.rs d 2 s)) ++ ((its fun d s => .rs d 2 s) ++ ((its fun d s => .acc d s 3) ++ (.ow 26 :: .xb 3 :: .wb :: .x 1 :: .x 3 :: .xsAny :: .copyZ :: fr))))
def fr_s4 : List It := List.diff (post_s3 fr_s3) (pre_s4 [])
def pre_s5a (fr : List It) : List It := (.amAny 0 :: fr)
def post_s5a (fr : List It) : List It := (.amS 0 :: .amS 1 :: .amS 2 :: fr)
def fr_s5a : List It := List.diff (post_s4 fr_s4) (pre_s5a [])
def pre_s5b (fr : List It) : List It := (.amS 0 :: .amS 1 :: .amS 2 :: .ow 26 :: .idle (.ax 0) :: .idle (.ax 1) :: .idle (.ax 2) :: .amP 0 :: .amP 1 :: .amP 2 :: .acc false 0 3 :: fr)
def post_s5b (fr : List It) : List It := (.amAll :: .fin (.ax 0) :: .fin (.ax 1) :: .fin (.ax 2) :: .ow 29 :: .acc false 0 3 :: fr)
def fr_s5b : List It := List.diff (post_s5a fr_s5a) (pre_s5b [])
def pre_s6 (fr : List It) : List It := ((its fun d s => .qAny d 0 s).take 4 ++ ((its fun d s => .idle (.ag d 0 s)).take 4 ++ ((its fun d s => .qP d 1 s).take 4 ++ (.ow 29 :: .acc true 0 3 :: .acc false 1 3 :: .acc true 1 3 :: .acc false 2 3 :: fr))))
def post_s6 (fr : List It) : List It := ((its fun d s => .live (.ag d 0 s)).take 4 ++ ((its fun d s => .qR d 0 s).take 4 ++ (.ow 33 :: .acc true 0 3 :: .acc false 1 3 :: .acc true 1 3 :: .acc false 2 3 :: fr)))
def fr_s6 : List It := List.diff (post_s5b fr_s5b) (pre_s6 [])
def pre_s7 (fr : List It) : List It := ((its fun d s => .qAny d 0 s).drop 4 ++ ((its fun d s => .idle (.ag d 0 s)).drop 4 ++ ((its fun d s => .qP d 1 s).drop 4 ++ (.ow 33 :: .acc true 2 3 :: .acc false 3 3 :: .acc true 3 3 :: fr))))
def post_s7 (fr : List It) : List It := ((its fun d s => .live (.ag d 0 s)).drop 4 ++ ((its fun d s => .qR d 0 s).drop 4 ++ (.ow 37 :: .acc true 2 3 :: .acc false 3 3 :: .acc true 3 3 :: fr)))
def fr_s7 : List It := List.diff (post_s6 fr_s6) (pre_s7 [])
def pre_t1 (fr : List It) : List It := (.qR false 0 0 :: .qR false 0 1 :: .qR false 0 2 :: .qR false 0 3 :: .stAny false :: .outAny false 0 :: .oz false :: .qR true 0 0 :: .qR true 0 1 :: .qR true 0 2 :: .qR true 0 3 :: .stAny true :: .outAny true 0 :: .oz true :: .ow 37 :: .live (.ag false 0 0) :: .idle (.ag false 1 0) :: .qP false 2 0 :: .live (.ag true 0 0) :: .idle (.ag true 1 0) :: .qP true 2 0 :: .live (.ag false 0 1) :: .idle (.ag false 1 1) :: .qP false 2 1 :: .live (.ag true 0 1) :: .idle (.ag true 1 1) :: .qP true 2 1 :: .live (.ag false 0 2) :: fr)
def post_t1 (fr : List It) : List It := (.fin (.ag false 0 2) :: .ow 41 :: .qL false 0 2 :: .q false 1 2 :: .live (.ag true 1 1) :: .qR true 1 1 :: .fin (.ag true 0 1) :: .qL true 0 1 :: .live (.ag false 1 1) :: .qR false 1 1 :: .fin (.ag false 0 1) :: .qL false 0 1 :: .live (.ag true 1 0) :: .qR true 1 0 :: .fin (.ag true 0 0) :: .qL true 0 0 :: .live (.ag false 1 0) :: .qR false 1 0 :: .fin (.ag false 0 0) :: .qL false 0 0 :: .out true 0 :: .stAny true :: .oz true :: .out false 0 :: .stAny false :: .oz false :: .qC true 0 :: .qC false 0 :: fr)
def fr_t1 : List It := List.diff (post_s7 fr_s7) (pre_t1 [])
def pre_t2 (fr : List It) : List It := (.q false 1 2 :: .idle (.ag false 1 2) :: .ow 41 :: .qP false 2 2 :: .live (.ag true 0 2) :: .idle (.ag true 1 2) :: .qP true 2 2 :: .live (.ag false 0 3) :: .idle (.ag false 1 3) :: .qP false 2 3 :: .live (.ag true 0 3) :: fr)
def post_t2 (fr : List It) : List It := (.fin (.ag true 0 3) :: .ow 44 :: .qL true 0 3 :: .q true 1 3 :: .live (.ag false 1 3) :: .qR false 1 3 :: .fin (.ag false 0 3) :: .qL false 0 3 :: .live (.ag true 1 2) :: .qR true 1 2 :: .fin (.ag true 0 2) :: .qL true 0 2 :: .live (.ag false 1 2) :: .qR false 1 2 :: fr)
def fr_t2 : List It := List.diff (post_t1 fr_t1) (pre_t2 [])
def pre_t3 (fr : List It) : List It := (.q true 1 3 :: .idle (.ag true 1 3) :: .ow 44 :: .qP true 2 3 :: .qR false 1 0 :: .qR false 1 1 :: .qR false 1 2 :: .qR false 1 3 :: .stAny false :: .outAny false 1 :: .oz false :: .qR true 1 0 :: .qR true 1 1 :: .qR true 1 2 :: .stAny true :: .outAny true 1 :: .oz true :: .live (.ag false 1 0) :: fr)
def post_t3 (fr : List It) : List It := (.fin (.ag false 1 0) :: .ow 45 :: .qL false 1 0 :: .q false 2 0 :: .out true 1 :: .stAny true :: .oz true :: .out false 1 :: .stAny false :: .oz false :: .qC true 1 :: .qC false 1 :: .live (.ag true 1 3) :: fr)
def fr_t3 : List It := List.diff (post_t2 fr_t2) (pre_t3 [])
def pre_t4 (fr : List It) : List It := (.q false 2 0 :: .idle (.ag false 2 0) :: .ow 45 :: .qP false 3 0 :: .live (.ag true 1 0) :: .idle (.ag true 2 0) :: .qP true 3 0 :: .live (.ag false 1 1) :: .idle (.ag false 2 1) :: .qP false 3 1 :: .live (.ag true 1 1) :: .idle (.ag true 2 1) :: .qP true 3 1 :: .live (.ag false 1 2) :: fr)
def post_t4 (fr : List It) : List It := (.fin (.ag false 1 2) :: .ow 49 :: .qL false 1 2 :: .q false 2 2 :: .live (.ag true 2 1) :: .qR true 2 1 :: .fin (.ag true 1 1) :: .qL true 1 1 :: .live (.ag false 2 1) :: .qR false 2 1 :: .fin (.ag false 1 1) :: .qL false 1 1 :: .live (.ag true 2 0) :: .qR true 2 0 :: .fin (.ag true 1 0) :: .qL true 1 0 :: .live (.ag false 2 0) :: .qR false 2 0 :: fr)
def fr_t4 : List It := List.diff (post_t3 fr_t3) (pre_t4 [])
def pre_t5 (fr : List It) : List It := (.q false 2 2 :: .idle (.ag false 2 2) :: .ow 49 :: .qP false 3 2 :: .live (.ag true 1 2) :: .idle (.ag true 2 2) :: .qP true 3 2 :: .live (.ag false 1 3) :: .idle (.ag false 2 3) :: .qP false 3 3 :: .live (.ag true 1 3) :: .idle (.ag true 2 3) :: .qP true 3 3 :: fr)
def post_t5 (fr : List It) : List It := (.live (.ag true 2 3) :: .ow 53 :: .qR true 2 3 :: .fin (.ag true 1 3) :: .qL true 1 3 :: .live (.ag false 2 3) :: .qR false 2 3 :: .fin (.ag false 1 3) :: .qL false 1 3 :: .live (.ag true 2 2) :: .qR true 2 2 :: .fin (.ag true 1 2) :: .qL true 1 2 :: .live (.ag false 2 2) :: .qR false 2 2 :: fr)
def fr_t5 : List It := List.diff (post_t4 fr_t4) (pre_t5 [])
def pre_t6 (fr : List It) : List It := (.qR false 2 0 :: .qR false 2 1 :: .qR false 2 2 :: .qR false 2 3 :: .stAny false :: .outAny false 2 :: .oz false :: .qR true 2 0 :: .qR true 2 1 :: .qR true 2 2 :: .qR true 2 3 :: .stAny true :: .outAny true 2 :: .oz true :: .ow 53 :: .live (.ag false 2 0) :: .outRAny false 0 :: .live (.ag true 2 0) :: .outRAny true 0 :: .live (.ag false 2 1) :: .outRAny false 1 :: .live (.ag true 2 1) :: .outRAny true 1 :: .live (.ag false 2 2) :: fr)
def post_t6 (fr : List It) : List It := (.q false 3 2 :: .fin (.ag false 2 2) :: .ow 53 :: .qL false 2 2 :: .bat true 2 0 :: .q true 3 1 :: .fin (.ag true 2 1) :: .qL true 2 1 :: .bat false 2 0 :: .q false 3 1 :: .fin (.ag false 2 1) :: .qL false 2 1 :: .q true 3 0 :: .fin (.ag true 2 0) :: .qL true 2 0 :: .q false 3 0 :: .fin (.ag false 2 0) :: .qL false 2 0 :: .stRAny true 2 :: .stRAny true 3 :: .stRAny false 2 :: .stRAny false 3 :: .out true 2 :: .out false 2 :: .qC true 2 :: .qC false 2 :: fr)
def fr_t6 : List It := List.diff (post_t5 fr_t5) (pre_t6 [])
def pre_t7 (fr : List It) : List It := (.stRAny false 2 :: .bat false 2 0 :: .outRAny false 2 :: .live (.ag true 2 2) :: .ow 53 :: .stRAny true 2 :: .bat true 2 0 :: .outRAny true 2 :: .live (.ag false 2 3) :: .stRAny false 3 :: .outRAny false 3 :: .live (.ag true 2 3) :: .stRAny true 3 :: .outRAny true 3 :: .secT true :: .secT false :: .secW :: fr)
def post_t7 (fr : List It) : List It := (.secZ :: .ow 55 :: .oz true :: .outR true 0 :: .stR true 0 :: .outR true 1 :: .stR true 1 :: .outR true 2 :: .stR true 2 :: .outR true 3 :: .stR true 3 :: .oz false :: .outR false 0 :: .stR false 0 :: .outR false 1 :: .stR false 1 :: .outR false 2 :: .stR false 2 :: .outR false 3 :: .stR false 3 :: .q true 3 3 :: .fin (.ag true 2 3) :: .qL true 2 3 :: .q false 3 3 :: .fin (.ag false 2 3) :: .qL false 2 3 :: .q true 3 2 :: .fin (.ag true 2 2) :: .qL true 2 2 :: fr)
def fr_t7 : List It := List.diff (post_t6 fr_t6) (pre_t7 [])

theorem perm_s0 : (pre_s0 fr_s0).isPerm startL = true := by decide +kernel
theorem perm_s1 : (pre_s1 fr_s1).isPerm (post_s0 fr_s0) = true := by decide +kernel
theorem perm_s2 : (pre_s2 fr_s2).isPerm (post_s1 fr_s1) = true := by decide +kernel
theorem perm_s3 : (pre_s3 fr_s3).isPerm (post_s2 fr_s2) = true := by decide +kernel
theorem perm_s4 : (pre_s4 fr_s4).isPerm (post_s3 fr_s3) = true := by decide +kernel
theorem perm_s5a : (pre_s5a fr_s5a).isPerm (post_s4 fr_s4) = true := by decide +kernel
theorem perm_s5b : (pre_s5b fr_s5b).isPerm (post_s5a fr_s5a) = true := by decide +kernel
theorem perm_s6 : (pre_s6 fr_s6).isPerm (post_s5b fr_s5b) = true := by decide +kernel
theorem perm_s7 : (pre_s7 fr_s7).isPerm (post_s6 fr_s6) = true := by decide +kernel
theorem perm_t1 : (pre_t1 fr_t1).isPerm (post_s7 fr_s7) = true := by decide +kernel
theorem perm_t2 : (pre_t2 fr_t2).isPerm (post_t1 fr_t1) = true := by decide +kernel
theorem perm_t3 : (pre_t3 fr_t3).isPerm (post_t2 fr_t2) = true := by decide +kernel
theorem perm_t4 : (pre_t4 fr_t4).isPerm (post_t3 fr_t3) = true := by decide +kernel
theorem perm_t5 : (pre_t5 fr_t5).isPerm (post_t4 fr_t4) = true := by decide +kernel
theorem perm_t6 : (pre_t6 fr_t6).isPerm (post_t5 fr_t5) = true := by decide +kernel
theorem perm_t7 : (pre_t7 fr_t7).isPerm (post_t6 fr_t6) = true := by decide +kernel
theorem perm_end : endL.isPerm (post_t7 fr_t7) = true := by decide +kernel

end Cert.Proof
-- ==== Proof.Ghost.lean ====
module

public import proofs.«01_k».proof.Proof.Frames

public import Idealize.ShloMosaic.Lib.Pipeline.Kit

/-! How the launch deals out the cells: their tokens, their places, the credits, and the semaphores at rest. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ)

omit [FloatOps F] in
theorem bool_sep (Φ : Bool → sProp 𝕄) : bigSep Finset.univ Φ = iprop(Φ false ∗ Φ true) := bigSep_univ_eq_bigSepL [false, true] (by decide) (by decide) Φ

omit [FloatOps F] in
/-- All cells: the barriers', then the copies'. -/
theorem cix_sep (Φ : CIx → sProp 𝕄) : bigSep Finset.univ Φ
    = iprop(((bigSep Finset.univ fun e : Cp => Φ (.snd e)) ∗ (bigSep Finset.univ fun e : Cp => Φ (.rcv e))) ∗ Φ .bar ∗ Φ .sec) := by
  rw [bigSep_univ_equiv cixEquiv.symm, bigSep_univ_sum, bigSep_univ_prod, bool_sep, bool_sep]
  rfl

/-! ## The semaphores -/

/-- The kernel's own semaphores: the second barrier, then the copies'. -/
def osem (i : Fin 106) : SemLoc sig := if i = 0 then .reg (1 : Fin 2) else .dma i

theorem osem_inj : Function.Injective osem := by
  have h : ∀ a b : Fin 106, osem a = osem b → a = b := by decide +kernel
  exact fun a b => h a b

/-- The three semaphores of the copies within a device. -/
def lsem (i : Fin 3) : SemLoc sig := if i = 0 then copyS else outS (i = 2)

theorem lsem_inj : Function.Injective lsem := by
  have h : ∀ a b : Fin 3, lsem a = lsem b → a = b := by decide +kernel
  exact fun a b => h a b

theorem sems_split : (Finset.univ : Finset (Fin 106)).map ⟨osem, osem_inj⟩ ∪ (Finset.univ.filter fun sm : SemLoc sig => ¬ sm.isScoped .tc)
    = (Finset.univ : Finset CIx).map ⟨csem, csem_inj⟩ ∪ (Finset.univ : Finset (Fin 3)).map ⟨lsem, lsem_inj⟩ := by decide +kernel
theorem sems_dis : Disjoint ((Finset.univ : Finset (Fin 106)).map ⟨osem, osem_inj⟩) (Finset.univ.filter fun sm : SemLoc sig => ¬ sm.isScoped .tc) := by decide +kernel
theorem sems_dis' : Disjoint ((Finset.univ : Finset CIx).map ⟨csem, csem_inj⟩) ((Finset.univ : Finset (Fin 3)).map ⟨lsem, lsem_inj⟩) := by decide +kernel

omit [FloatOps F] in
theorem sems_eq (c : Dev nD) :
    (iprop(Pipeline.ownSems0 (Ix := Unit) (Name := ℕ) (U := UU nD τ) (Lvl := ℕ) (Val := Elt F) (τ := τ) osem c ∗ unscopedSems0 c) : sProp 𝕄)
      = iprop((bigSep Finset.univ fun k : CIx => semVal (cellOf' c k) 0) ∗ semVal ((c : Thread nD τ), copyS) 0 ∗ semVal ((c : Thread nD τ), outS false) 0 ∗ semVal ((c : Thread nD τ), outS true) 0) := by
  have e1 := bigSep_map (s := Finset.univ) ⟨osem, osem_inj⟩ (Φ := fun sm => (semVal ((c : Thread nD τ), sm) 0 : sProp 𝕄))
  have e2 := bigSep_map (s := Finset.univ) ⟨csem, csem_inj⟩ (Φ := fun sm => (semVal ((c : Thread nD τ), sm) 0 : sProp 𝕄))
  have e3 := bigSep_map (s := Finset.univ) ⟨lsem, lsem_inj⟩ (Φ := fun sm => (semVal ((c : Thread nD τ), sm) 0 : sProp 𝕄))
  unfold Pipeline.ownSems0 unscopedSems0
  refine Eq.trans (congrArg (fun P : sProp 𝕄 => iprop(P ∗ _)) e1.symm) ?_
  refine Eq.trans (BI.bigSep_union sems_dis).symm ?_
  rw [sems_split, BI.bigSep_union sems_dis']
  exact congrArg₂ (fun P Q : sProp 𝕄 => iprop(P ∗ Q)) e2 (e3.trans (bigSep_univ_eq_bigSepL (I := Fin 3) [0, 1, 2] (by decide) (by decide) (fun i => (semVal ((c : Thread nD τ), lsem i) 0 : sProp 𝕄))))

/-! ## The cells and their tokens -/

theorem cellOf'_inj {c c' : Dev nD} {k k' : CIx} (h : cellOf' c k = cellOf' c' k') : c = c' ∧ k = k' :=
  ⟨congrArg (fun g : GSem nD τ sig => g.1.1) h, csem_inj (congrArg Prod.snd h)⟩

def ringCells : Finset (GSem nD τ sig) :=
  Finset.univ.map ⟨fun ck : Dev nD × CIx => cellOf' ck.1 ck.2, fun _ _ h => Prod.ext (cellOf'_inj h).1 (cellOf'_inj h).2⟩

def barOf : Bool → CIx
  | false => .bar
  | true => .sec

/-- Every cell's duty `false`, and the barriers' second one. -/
def tokOf (x : Dev nD × (CIx ⊕ Bool)) : GSem nD τ sig × ℕ × Bool :=
  match x.2 with
  | .inl k => (cellOf' x.1 k, 0, false)
  | .inr b => (cellOf' x.1 (barOf b), 0, true)

theorem tokOf_inj : Function.Injective tokOf := by
  rintro ⟨c, k | b⟩ ⟨c', k' | b'⟩ h
  · have := cellOf'_inj (congrArg Prod.fst h)
    exact Prod.ext this.1 (congrArg Sum.inl this.2)
  · exact absurd (congrArg (fun x : GSem nD τ sig × ℕ × Bool => x.2.2) h) Bool.false_ne_true
  · exact absurd (congrArg (fun x : GSem nD τ sig × ℕ × Bool => x.2.2) h) Bool.false_ne_true.symm
  · have := cellOf'_inj (congrArg Prod.fst h)
    have hb : b = b' := by revert this; cases b <;> cases b' <;> simp [barOf]
    exact Prod.ext this.1 (congrArg Sum.inr hb)

def ringToks : Finset (GSem nD τ sig × ℕ × Bool) := Finset.univ.map ⟨tokOf, tokOf_inj⟩

/-- The tokens of device `c`'s own cells. -/
def toks (c : Dev nD) : sProp 𝕄 :=
  iprop((bigSep Finset.univ fun k : CIx => dutyTok ER (cellOf' c k) 0 false) ∗ dutyTok ER (cellOf' c .bar) 0 true ∗ dutyTok ER (cellOf' c .sec) 0 true)

/-- What a device is dealt first. -/
def G (c : Dev nD) : sProp 𝕄 :=
  iprop((bigSep Finset.univ fun k : CIx => roundState ER (Rd m) (cellOf' c k) 0)
    ∗ ((bigSep Finset.univ fun k : CIx => atPos ER (cellOf' c k) 0 ∅ 0) ∗ (bigSep Finset.univ fun k : CIx => reached ER (cellOf' c k) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CIx => Φ (cellOf' c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bool_sep]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem core_alloc (c : Dev nD) :
    iprop(Pipeline.ownSems0 (Ix := Unit) (Name := ℕ) (U := UU nD τ) (Lvl := ℕ) (Val := Elt F) (τ := τ) osem c ∗ unscopedSems0 c ∗ G m c)
      ⊢ |={Set.univ}=> iprop((bigSep Finset.univ fun k => iprop(∃ κ : ℕ, cellInv ER (Rd m) κ (cellOf' c k)))
          ∗ (bigSep Finset.univ fun k : CIx => reached ER (cellOf' c k) 0)
          ∗ ((bigSep Finset.univ fun k : CIx => atPos ER (cellOf' c k) 0 ∅ 0)
            ∗ semVal ((c : Thread nD τ), copyS) 0 ∗ semVal ((c : Thread nD τ), outS false) 0 ∗ semVal ((c : Thread nD τ), outS true) 0) ∗ toks c) := by
  unfold G
  iintro ⟨Hos, Hus, Hst, ⟨Hat, Hr⟩, Htok⟩
  ihave Hv := (Entails.of_eq (sems_eq (F := F) c)) $$ [Hos Hus]
  · isplitl [Hos] <;> iassumption
  icases Hv with ⟨Hv, Hl⟩
  imod (show iprop((bigSep Finset.univ fun k : CIx => semVal (cellOf' c k) 0) ∗ bigSep Finset.univ fun k : CIx => roundState ER (Rd m) (cellOf' c k) 0)
      ⊢ (|={Set.univ}=> bigSep Finset.univ fun k => iprop(∃ κ : ℕ, cellInv ER (Rd m) κ (cellOf' c k)) : sProp 𝕄) from by
        rw [← bigSep_sep']
        exact (bigSep_mono fun k _ => (Rounds.body_intro ER (Rd m) (cellOf' c k)).trans inv_alloc).trans (bigSep_fupd _ _)) $$ [Hv Hst] with Hinv
  · isplitl [Hv] <;> iassumption
  imodintro
  isplitl [Hinv]; · iexact Hinv
  isplitl [Hr]; · iexact Hr
  isplitl [Hat Hl]
  · isplitl [Hat] <;> iassumption
  iexact Htok

/-! ## Each token to the device that pays with it -/

/-- Whom device `c` pays at each cell. -/
def tgt : CIx → Dev nD ≃ Dev nD
  | .bar => ⟨dstD false, srcD false, src_dst false, dst_src false⟩
  | .sec => ⟨dstD false, srcD false, src_dst false, dst_src false⟩
  | .snd _ => Equiv.refl _
  | .rcv e => ⟨cpDst e, cpSrc e, cpSrc_dst e, cpDst_src e⟩
def tgt' : Dev nD ≃ Dev nD := ⟨dstD true, srcD true, src_dst true, dst_src true⟩

def payToks (c : Dev nD) : sProp 𝕄 :=
  iprop((bigSep Finset.univ fun k : CIx => dutyTok ER (cellOf' (tgt k c) k) 0 false) ∗ dutyTok ER (cellOf' (tgt' c) .bar) 0 true ∗ dutyTok ER (cellOf' (tgt' c) .sec) 0 true)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_univ_comm (fun (c : Dev nD) (k : CIx) => (dutyTok ER (cellOf' c k) 0 false : sProp 𝕄)),
    bigSep_univ_comm (fun (c : Dev nD) (k : CIx) => (dutyTok ER (cellOf' (tgt k c) k) 0 false : sProp 𝕄)),
    bigSep_congr (s := Finset.univ) (fun (k : CIx) _ => bigSep_univ_equiv (tgt k) (fun c : Dev nD => (dutyTok ER (cellOf' c k) 0 false : sProp 𝕄))),
    bigSep_univ_equiv tgt' (fun c : Dev nD => (dutyTok ER (cellOf' c .bar) 0 true : sProp 𝕄)),
    bigSep_univ_equiv tgt' (fun c : Dev nD => (dutyTok ER (cellOf' c .sec) 0 true : sProp 𝕄))]

/-- What stays with device `c`. -/
def lin (c : Dev nD) : sProp 𝕄 :=
  iprop(((bigSep Finset.univ fun k : CIx => atPos ER (cellOf' c k) 0 ∅ 0)
      ∗ semVal ((c : Thread nD τ), copyS) 0 ∗ semVal ((c : Thread nD τ), outS false) 0 ∗ semVal ((c : Thread nD τ), outS true) 0) ∗ payToks c)

def G' (c : Dev nD) : sProp 𝕄 := iprop(∃ K, recs m K ∗ lin c)

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (cellOf' c k)))
          ∗ (bigSep Finset.univ fun k : CIx => reached ER (cellOf' c k) 0)
          ∗ ((bigSep Finset.univ fun k : CIx => atPos ER (cellOf' c k) 0 ∅ 0)
            ∗ semVal ((c : Thread nD τ), copyS) 0 ∗ semVal ((c : Thread nD τ), outS false) 0 ∗ semVal ((c : Thread nD τ), outS true) 0) ∗ toks c) : sProp 𝕄)
      ⊢ bigSep Finset.univ (G' m) := by
  rw [bigSep_sep', bigSep_sep', bigSep_sep', ← bigSep_univ_prod (fun ck : Dev nD × CIx => iprop(∃ κ : ℕ, cellInv ER (Rd m) κ (cellOf' ck.1 ck.2))),
    ← bigSep_univ_prod (fun ck : Dev nD × CIx => (reached ER (cellOf' ck.1 ck.2) 0 : sProp 𝕄))]
  iintro ⟨HI, #HR, Hat, Htok⟩
  ihave HK := (BI.bigSep_exists_pi Finset.univ (fun (ck : Dev nD × CIx) (κ : ℕ) => (cellInv ER (Rd m) κ (cellOf' ck.1 ck.2) : sProp 𝕄))) $$ HI
  icases HK with ⟨%K, #HI⟩
  ihave Htk := (toks_around (F := F)) $$ Htok
  have h (c : Dev nD) : iprop(recs m K ∗ lin c) ⊢ G' m c := by
    unfold G'
    iintro H
    iexists K
    iexact H
  iapply (with_persistent (R := recs m K) fun c _ => h c)
  isplitr
  · unfold recs; isplitl; · iexact HI
    iexact HR
  · iapply (Entails.of_eq (bigSep_sep' (Finset.univ : Finset (Dev nD)) (fun c => iprop((bigSep Finset.univ fun k : CIx => (atPos ER (cellOf' c k) 0 ∅ 0 : sProp 𝕄))
      ∗ semVal ((c : Thread nD τ), copyS) 0 ∗ semVal ((c : Thread nD τ), outS false) 0 ∗ semVal ((c : Thread nD τ), outS true) 0)) payToks).symm)
    isplitl [Hat] <;> iassumption

/-- The step all devices take together. -/
theorem glob : (bigSep Finset.univ fun c => iprop(Pipeline.ownSems0 (Ix := Unit) (Name := ℕ) (U := UU nD τ) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What a device owes at the start. -/
def O₀ (c : Dev nD) : CellTallies nD τ sig Unit := owedL c payL

def payIx : Pay → CIx
  | .bar _ => .bar
  | .cp e => .rcv e
  | .sec _ => .sec

/-- The device whose payment `p` goes to `c`. -/
def paySrc : Pay → Dev nD → Dev nD
  | .bar d => srcD d
  | .cp e => cpSrc e
  | .sec d => srcD d

theorem payCell_iff (p : Pay) (d c : Dev nD) (k : CIx) : cellOf' c k = payCell d p ↔ (d = paySrc p c ∧ payIx p = k) := by
  have h : payCell d p = cellOf' (match p with | .bar b => dstD b d | .cp e => cpDst e d | .sec b => dstD b d) (payIx p) := by cases p <;> rfl
  rw [h]
  constructor
  · intro he
    obtain ⟨h1, h2⟩ := cellOf'_inj he
    refine ⟨?_, h2.symm⟩
    rw [h1]
    cases p with
    | bar b => exact (src_dst b d).symm
    | cp e => exact (cpSrc_dst e d).symm
    | sec b => exact (src_dst b d).symm
  · rintro ⟨h1, h2⟩
    rw [h1, h2]
    cases p with
    | bar b => show _ = cellOf' (dstD b (srcD b c)) _; rw [dst_src]
    | cp e => show _ = cellOf' (cpDst e (cpSrc e c)) _; rw [cpDst_src]
    | sec b => show _ = cellOf' (dstD b (srcD b c)) _; rw [dst_src]

theorem owed_sum (c : Dev nD) (k : CIx) (N : ℕ) (hN : ∀ p, payIx p = k → payN p = N) (l : List Pay) :
    ∑ d : Dev nD, owedL d l (cellOf' c k) () = l.countP (fun p => payIx p = k) * N := by
  induction l with
  | nil => simp [owedL]
  | cons p l ih =>
    have e : ∀ d : Dev nD, owedL d (p :: l) (cellOf' c k) () = owedL d l (cellOf' c k) () + (if d = paySrc p c then (if payIx p = k then N else 0) else 0) := fun d => by
      show (owedL d l (cellOf' c k) + tallyAt (payCell d p) () (payN p) (cellOf' c k)) () = _
      rw [Finsupp.add_apply, tallyAt_apply]
      congr 1
      by_cases h : cellOf' c k = payCell d p
      · obtain ⟨h1, h2⟩ := (payCell_iff p d c k).mp h
        rw [if_pos ⟨h, rfl⟩, if_pos h1, if_pos h2, hN p h2]
      · rw [if_neg fun h' => h h'.1]
        by_cases h1 : d = paySrc p c
        · rw [if_pos h1, if_neg fun h2 => h ((payCell_iff p d c k).mpr ⟨h1, h2⟩)]
        · rw [if_neg h1]
    rw [Finset.sum_congr rfl fun d _ => e d, Finset.sum_add_distrib, ih, Finset.sum_ite_eq' Finset.univ (paySrc p c), if_pos (Finset.mem_univ _), List.countP_cons, Nat.add_mul]
    congr 1
    by_cases h : payIx p = k <;> simp [h]

theorem count_bar : payL.countP (fun p => payIx p = .bar) = 2 := by decide +kernel
theorem count_sec : payL.countP (fun p => payIx p = .sec) = 2 := by decide +kernel
theorem count_rcv : ∀ e : Cp, payL.countP (fun p => payIx p = .rcv e) = 1 := by decide +kernel

theorem launch_at (c : Dev nD) (k : CIx) (N n : ℕ) (hN : ∀ p, payIx p = k → payN p = N) (hn : payL.countP (fun p => payIx p = k) = n) :
    tallyOn (cellOf' c k) (launchCredit (Pipeline.owing O₀) 0 (cellOf' c k)) = (tallyAt (cellOf' c k) () (n * N) : CellTallies nD τ sig Unit) := by
  unfold tallyAt; refine congrArg _ (Finsupp.ext fun u => ?_); cases u
  rw [Pipeline.launchCredit_owing, Finsupp.single_eq_same]
  exact (owed_sum c k N hN payL).trans (by rw [hn])

omit [FloatOps F] in
theorem creds (c : Dev nD) : (Pipeline.launchCred O₀ c : sProp 𝕄)
    ⊢ iprop((bigSep Finset.univ fun e : Cp => cred (tallyAt (cellOf' c (.rcv e)) () (cpN e))) ∗ cred (tallyAt (cellOf' c .bar) () 2) ∗ cred (tallyAt (cellOf' c .sec) () 2)) := by
  have hb : tallyOn (cellOf' c .bar) (launchCredit (Pipeline.owing O₀) 0 (cellOf' c .bar)) = (tallyAt (cellOf' c .bar) () 2 : CellTallies nD τ sig Unit) :=
    launch_at c .bar 1 2 (fun p h => by cases p <;> first | rfl | cases h) count_bar
  have hs : tallyOn (cellOf' c .sec) (launchCredit (Pipeline.owing O₀) 0 (cellOf' c .sec)) = (tallyAt (cellOf' c .sec) () 2 : CellTallies nD τ sig Unit) :=
    launch_at c .sec 1 2 (fun p h => by cases p <;> first | rfl | cases h) count_sec
  have hr (e : Cp) : tallyOn (cellOf' c (.rcv e)) (launchCredit (Pipeline.owing O₀) 0 (cellOf' c (.rcv e))) = (tallyAt (cellOf' c (.rcv e)) () (cpN e) : CellTallies nD τ sig Unit) :=
    (launch_at c (.rcv e) (cpN e) 1 (fun p h => by cases p <;> first | (injection h with h; subst h; rfl) | cases h) (count_rcv e)).trans (by rw [Nat.one_mul])
  have h : (Pipeline.launchCred O₀ c : sProp 𝕄) ⊢ bigSep Finset.univ fun k : CIx => cred (tallyOn (cellOf' c k) (launchCredit (Pipeline.owing O₀) 0 (cellOf' c k))) := by
    unfold Pipeline.launchCred
    refine (BI.bigSep_subset (t := (Finset.univ : Finset CIx).map ⟨csem, csem_inj⟩) (Finset.subset_univ _)).trans (Entails.of_eq (bigSep_map _))
  iintro H
  ihave H := (h.trans (Entails.of_eq (cix_sep _))) $$ H
  icases H with ⟨⟨-, Hr⟩, Hb, Hs⟩
  isplitl [Hr]
  · iapply (Entails.of_eq (bigSep_congr (s := Finset.univ) (fun (e : Cp) _ => congrArg (fun t => (cred t : sProp 𝕄)) (hr e))))
    iexact Hr
  isplitl [Hb]
  · iapply (Entails.of_eq (congrArg (fun t => (cred t : sProp 𝕄)) hb))
    iexact Hb
  · iapply (Entails.of_eq (congrArg (fun t => (cred t : sProp 𝕄)) hs))
    iexact Hs

end Cert.Proof
-- ==== Proof.Pieces.lean ====
module

public import proofs.«01_k».proof.Proof.Frames

/-! A device's buffers cut into the pieces the kernel starts with, and put together again from the pieces it ends with. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ)

/-! ## Lists of pieces over all of an index -/

theorem ctx_list {I : Type} (f : I → It) (c : Dev nD) : ∀ l : List I, ctx m c (l.map f) = bigSepL l (fun i => res m c (f i))
  | [] => rfl
  | i :: l => by rw [List.map_cons, ctx_cons, ctx_list f c l]; exact (bigSepL_cons i l (fun i => res m c (f i))).symm

theorem ctx_univ {I : Type} [Fintype I] [DecidableEq I] (l : List I) (h : Finset.univ = l.toFinset) (hl : l.Nodup) (f : I → It) (c : Dev nD) :
    ctx m c (l.map f) = bigSep Finset.univ (fun i => res m c (f i)) := by
  rw [ctx_list, bigSep_univ_eq_bigSepL l h hl]

omit [FloatOps F] in
theorem bigSep_bool (Φ : Bool → sProp 𝕄) : bigSep Finset.univ Φ = iprop(Φ false ∗ Φ true) := bigSep_univ_eq_bigSepL [false, true] (by decide) (by decide) Φ

/-- The sub-blocks of the landing buffers, and of the quantised chunks, in the order the lists name them. -/
def rsX : List (Bool × Fin 3 × Fin 4) := sweep.flatMap fun p => [(p.1, 0, p.2), (p.1, 1, p.2), (p.1, 2, p.2)]
def qX : List (Bool × Fin 4 × Fin 4) := sweep.flatMap fun p => [(p.1, 0, p.2), (p.1, 1, p.2), (p.1, 2, p.2), (p.1, 3, p.2)]

/-! ## A buffer at anything, in windows and back -/

section Split
omit [FloatOps F]

variable {sp : Space} {sh : Shape} {e : EltTy} (w : Memref sig .tc sp sh e) {T : Type} [Fintype T] [DecidableEq T] (r : T → Rect sh)
  (hr : ∀ t a, (r t).stride a = 1) (hd : ∀ t t', t ≠ t' → Disjoint (r t).set (r t').set)
  (hcov : (Finset.univ : Finset T).biUnion (fun t => (r t).set) = Finset.univ)
include hd hcov

theorem any_rects (c : Dev nD) : (anyW (F := F) c w : sProp 𝕄) ⊢ bigSep Finset.univ fun t => anyW c (w.slice (r t) (hr t)) := by
  unfold anyW
  iintro ⟨%X, H⟩
  ihave H' := (owns_rects (c : Thread nD τ) w fullShare r hr hd hcov X) $$ H
  have h : (bigSep Finset.univ fun t => (owns (c : Thread nD τ) (w.slice (r t) (hr t)) fullShare (fun j => X ((r t).emb j)) : sProp 𝕄))
      ⊢ bigSep Finset.univ fun t => iprop(∃ Y, owns (c : Thread nD τ) (w.slice (r t) (hr t)) fullShare Y) :=
    bigSep_mono fun t _ => any_of c (w.slice (r t) (hr t)) (fun j => X ((r t).emb j))
  iapply h
  iexact H'

theorem rects_full [FloatOps F] (q : PosShare TreeShare) (Y : (t : T) → (r t).shape.Idx → Elt F e) (X : sh.Idx → Elt F e) (hX : ∀ t j, X ((r t).emb j) = Y t j) (c : Dev nD) :
    (bigSep Finset.univ fun t => (owns (c : Thread nD τ) (w.slice (r t) (hr t)) q (Y t) : sProp 𝕄)) ⊢ owns (c : Thread nD τ) w q X := by
  rw [show Y = fun t j => X ((r t).emb j) from funext fun t => funext fun j => (hX t j).symm]
  exact owns_of_rects (c : Thread nD τ) w q r hr hd hcov X

theorem rects_any [FloatOps F] (Y : (t : T) → (r t).shape.Idx → Elt F e) (c : Dev nD) :
    (bigSep Finset.univ fun t => (owns (c : Thread nD τ) (w.slice (r t) (hr t)) fullShare (Y t) : sProp 𝕄)) ⊢ anyW c w := by
  refine (rects_full w r hr hd hcov fullShare Y (Rect.glue r hcov Y) (fun t j => Rect.glue_emb r hcov hd Y t j) c).trans ?_
  unfold anyW
  iintro H; iexists _; iexact H

end Split

variable {m}

/-! ## The chunks around the ring -/

def rotE (c : Dev nD) : Fin 4 ≃ Dev nD where
  toFun k := rot k c
  invFun j := ⟨(j.val + 4 - c.val) % 4, Nat.mod_lt _ (by decide)⟩
  left_inv := by revert c; decide
  right_inv := by revert c; decide

def slotE (d : Bool) (c : Dev nD) : Fin 4 ≃ Dev nD where
  toFun n := slotD d n c
  invFun j := ⟨(if d then j.val + 5 - c.val else c.val + 9 - j.val) % 4, Nat.mod_lt _ (by decide)⟩
  left_inv := by revert c d; decide
  right_inv := by revert c d; decide

/-! ## At the start -/

theorem x_eq (c : Dev nD) : (atW c xM fullShare (xA m c) : sProp 𝕄) = ctx m c [.x 0, .x 3, .x 2, .x 1] := by
  rw [show ([.x 0, .x 3, .x 2, .x 1] : List It) = ([0, 3, 2, 1] : List (Fin 4)).map .x from rfl, ctx_univ m [0, 3, 2, 1] (by decide) (by decide)]
  have e := bigSep_univ_equiv (rotE c) (fun j : Dev nD => (atW c (xW j) fullShare (xch m c j) : sProp 𝕄))
  refine Eq.trans ?_ e
  exact (owns_rects (c : Thread nD τ) xM fullShare xR (fun _ _ => rfl) xR_dis xR_cov (xA m c)).antisymm
    (owns_of_rects (c : Thread nD τ) xM fullShare xR (fun _ _ => rfl) xR_dis xR_cov (xA m c))

theorem am_start (c : Dev nD) : (anyW c amM : sProp 𝕄) ⊢ ctx m c [.amAny 0, .amAny 3, .amAny 2, .amAny 1] := by
  rw [show ([.amAny 0, .amAny 3, .amAny 2, .amAny 1] : List It) = ([0, 3, 2, 1] : List (Fin 4)).map .amAny from rfl, ctx_univ m [0, 3, 2, 1] (by decide) (by decide)]
  exact (any_rects amM amR (fun _ _ => rfl) amR_dis amR_cov c).trans (Entails.of_eq (bigSep_univ_equiv (rotE c) (fun j : Dev nD => (anyW c (amW j) : sProp 𝕄))))

theorem acc_start (c : Dev nD) : (iprop(anyW c (accM false) ∗ anyW c (accM true)) : sProp 𝕄) ⊢ ctx m c (sweep.map fun p => .accAny p.1 p.2) := by
  rw [ctx_univ m sweep (by decide) (by decide), bigSep_univ_prod, bigSep_bool]
  exact BIClass.sep_mono (any_rects (accM false) rowR (fun _ _ => rfl) rowR_dis rowR_cov c) (any_rects (accM true) rowR (fun _ _ => rfl) rowR_dis rowR_cov c)

theorem rs_start (c : Dev nD) : (iprop(anyW c (rsM false) ∗ anyW c (rsM true)) : sProp 𝕄) ⊢ ctx m c (rsX.map fun p => .rsAny p.1 p.2.1 p.2.2) := by
  rw [ctx_univ m rsX (by decide) (by decide), bigSep_univ_prod, bigSep_bool]
  exact BIClass.sep_mono (any_rects (rsM false) (fun t : Fin 3 × Fin 4 => rsR t.1 t.2) (fun _ _ => rfl) rsR_dis rsR_cov c)
    (any_rects (rsM true) (fun t : Fin 3 × Fin 4 => rsR t.1 t.2) (fun _ _ => rfl) rsR_dis rsR_cov c)

theorem q_start (c : Dev nD) : (iprop(anyW c (qM false) ∗ anyW c (qM true)) : sProp 𝕄) ⊢ ctx m c (qX.map fun p => .qAny p.1 p.2.1 p.2.2) := by
  have h (d : Bool) : (anyW c (qM d) : sProp 𝕄) ⊢ bigSep Finset.univ fun t : Fin 4 × Fin 4 => res m c (.qAny d t.1 t.2) :=
    (any_rects (qM d) (fun t : Dev nD × Fin 4 => qR t.1 t.2) (fun _ _ => rfl) qR_dis qR_cov c).trans
      (Entails.of_eq (bigSep_univ_equiv ((slotE d c).prodCongr (Equiv.refl (Fin 4))) (fun t : Dev nD × Fin 4 => (anyW c (qW d t.1 t.2) : sProp 𝕄))))
  rw [ctx_univ m qX (by decide) (by decide), bigSep_univ_prod, bigSep_bool]
  exact BIClass.sep_mono (h false) (h true)

/-- Rows of a chunk of the result. -/
theorem out_nest (c : Dev nD) (d : Bool) (j : Dev nD) (s : Fin 4) (X : S256x1024.Idx → Elt F .f32) :
    (owns (c : Thread nD τ) ((outWC d j).slice (rowR s) (fun _ => rfl)) fullShare X : sProp 𝕄) = owns (c : Thread nD τ) (outWR d j s) fullShare X :=
  owns_nest c outM (o1 := ![1024 * j.val, if d then 1024 else 0]) (o2 := ![256 * s.val, 0]) (o3 := ![1024 * j.val + 256 * s.val, if d then 1024 else 0])
    (z1 := S1024x1024.size) (z2 := S256x1024.size) _ _ _ (by intro a; fin_cases a <;> simp) _ _

theorem row_start (c : Dev nD) (d : Bool) : anyW c (outWC d (slotD d 3 c)) ⊢ bigSep Finset.univ fun s : Fin 4 => res m c (.outRAny d s) := by
  refine (any_rects (outWC d (slotD d 3 c)) rowR (fun _ _ => rfl) rowR_dis rowR_cov c).trans (bigSep_mono fun s _ => ?_)
  show _ ⊢ anyW c (outWR d (slotD d 3 c) s)
  unfold anyW
  simp only [out_nest]
  exact .rfl

theorem out_start (c : Dev nD) : (anyW c outM : sProp 𝕄)
    ⊢ iprop(ctx m c [.outAny false 0, .outAny false 1, .outAny false 2, .outAny true 0, .outAny true 1, .outAny true 2] ∗ ctx m c (sweep.map fun p => .outRAny p.1 p.2)) := by
  have e (d : Bool) : (bigSep Finset.univ fun j : Dev nD => (anyW c (outWC d j) : sProp 𝕄))
      = iprop(anyW c (outWC d (slotD d 0 c)) ∗ anyW c (outWC d (slotD d 1 c)) ∗ anyW c (outWC d (slotD d 2 c)) ∗ anyW c (outWC d (slotD d 3 c))) :=
    (bigSep_univ_equiv (slotE d c) (fun j : Dev nD => (anyW c (outWC d j) : sProp 𝕄))).trans
      (bigSep_univ_eq_bigSepL [0, 1, 2, 3] (by decide) (by decide) _)
  rw [ctx_univ m sweep (by decide) (by decide), bigSep_univ_prod, bigSep_bool]
  refine (any_rects outM (fun t : Bool × Dev nD => outC t.1 t.2) (fun _ _ => rfl) outC_dis outC_cov c).trans ?_
  rw [bigSep_univ_prod, bigSep_bool, e, e]
  rw [show ctx m c [.outAny false 0, .outAny false 1, .outAny false 2, .outAny true 0, .outAny true 1, .outAny true 2] = iprop(anyW c (outWC false (slotD false 0 c)) ∗ anyW c (outWC false (slotD false 1 c)) ∗ anyW c (outWC false (slotD false 2 c)) ∗ anyW c (outWC true (slotD true 0 c)) ∗ anyW c (outWC true (slotD true 1 c)) ∗ anyW c (outWC true (slotD true 2 c)) ∗ emp) from rfl]
  iintro ⟨⟨A0, A1, A2, A3⟩, B0, B1, B2, B3⟩
  ihave A3 := (row_start (m := m) c false) $$ A3
  ihave B3 := (row_start (m := m) c true) $$ B3
  isplitr [A3 B3]
  · isplitl [A0]; · iexact A0
    isplitl [A1]; · iexact A1
    isplitl [A2]; · iexact A2
    isplitl [B0]; · iexact B0
    isplitl [B1]; · iexact B1
    isplitl [B2]; · iexact B2
    iempintro
  · isplitl [A3]; · iexact A3
    iexact B3

/-- The kernel's own buffers. -/
def scr (c : Dev nD) : sProp 𝕄 :=
  iprop(anyW c xsM ∗ anyW c xbM ∗ anyW c wbM ∗ (anyW c (accM false) ∗ anyW c (accM true)) ∗ (anyW c (rsM false) ∗ anyW c (rsM true))
    ∗ (anyW c (qM false) ∗ anyW c (qM true)) ∗ (anyW c (stM false) ∗ anyW c (stM true)) ∗ anyW c amM)

/-- What is no buffer, at the start, -/
def startG : List It :=
  [.oz false, .oz true] ++ (cps.map fun e => .idle e) ++ [.barT true, .barT false, .barW, .secT true, .secT false, .secW, .ow 0]
/-- and at the end. -/
def endG : List It := [.oz false, .oz true] ++ (cps.map fun e => .fin e) ++ [.barZ, .secZ, .ow 55]

theorem startL_eq : startL = [.w, .wbAny, .xsAny, .xbAny, .copyZ] ++ ([.x 0, .x 3, .x 2, .x 1] ++ ([.amAny 0, .amAny 3, .amAny 2, .amAny 1] ++ ((sweep.map fun p => .accAny p.1 p.2)
    ++ ((rsX.map fun p => .rsAny p.1 p.2.1 p.2.2) ++ ((qX.map fun p => .qAny p.1 p.2.1 p.2.2)
    ++ ([.stAny false, .stAny true] ++ ([.outAny false 0, .outAny false 1, .outAny false 2, .outAny true 0, .outAny true 1, .outAny true 2] ++ ((sweep.map fun p => .outRAny p.1 p.2)
    ++ startG)))))))) := by decide +kernel

theorem mem_start (c : Dev nD) :
    iprop(atW c wM fullShare (wA m c) ∗ atW c xM fullShare (xA m c) ∗ anyW c outM ∗ scr c ∗ semVal ((c : Thread nD τ), copyS) 0 ∗ ctx m c startG) ⊢ ctx m c startL := by
  rw [startL_eq]
  rw [ctx_append, ctx_append, ctx_append, ctx_append, ctx_append, ctx_append, ctx_append, ctx_append, ctx_append, x_eq]
  rw [show ctx m c [.w, .wbAny, .xsAny, .xbAny, .copyZ] = iprop(atW c wM fullShare (wA m c) ∗ anyW c wbM ∗ anyW c xsM ∗ anyW c xbM ∗ semVal ((c : Thread nD τ), copyS) 0 ∗ emp) from rfl,
    show ctx m c [.stAny false, .stAny true] = iprop(anyW c (stM false) ∗ anyW c (stM true) ∗ emp) from rfl]
  unfold scr
  iintro ⟨Hw, Hx, Ho, ⟨Hxs, Hxb, Hwb, Hacc, Hrs, Hq, ⟨Hst, Hst'⟩, Ham⟩, Hz, Hg⟩
  ihave Hacc := (acc_start (m := m) c) $$ Hacc
  ihave Hrs := (rs_start (m := m) c) $$ Hrs
  ihave Hq := (q_start (m := m) c) $$ Hq
  ihave Ham := (am_start (m := m) c) $$ Ham
  ihave Ho := (out_start (m := m) c) $$ Ho
  icases Ho with ⟨Ho, Ho'⟩
  isplitl [Hw Hwb Hxs Hxb Hz]
  · isplitl [Hw]; · iexact Hw
    isplitl [Hwb]; · iexact Hwb
    isplitl [Hxs]; · iexact Hxs
    isplitl [Hxb]; · iexact Hxb
    isplitl [Hz]; · iexact Hz
    iempintro
  isplitl [Hx]; · iexact Hx
  isplitl [Ham]; · iexact Ham
  isplitl [Hacc]; · iexact Hacc
  isplitl [Hrs]; · iexact Hrs
  isplitl [Hq]; · iexact Hq
  isplitl [Hst Hst']
  · isplitl [Hst]; · iexact Hst
    isplitl [Hst']; · iexact Hst'
    iempintro
  isplitl [Ho]; · iexact Ho
  isplitl [Ho']; · iexact Ho'
  iexact Hg

/-! ## At the end -/

theorem acc_end (c : Dev nD) : ctx m c (sweep.map fun p => .acc p.1 p.2 3) ⊢ (iprop(anyW c (accM false) ∗ anyW c (accM true)) : sProp 𝕄) := by
  rw [ctx_univ m sweep (by decide) (by decide), bigSep_univ_prod, bigSep_bool]
  exact BIClass.sep_mono (rects_any (accM false) rowR (fun _ _ => rfl) rowR_dis rowR_cov (fun s => accv m false s 3 c) c)
    (rects_any (accM true) rowR (fun _ _ => rfl) rowR_dis rowR_cov (fun s => accv m true s 3 c) c)

theorem rs_end (c : Dev nD) : ctx m c (rsX.map fun p => .rs p.1 p.2.1 p.2.2) ⊢ (iprop(anyW c (rsM false) ∗ anyW c (rsM true)) : sProp 𝕄) := by
  rw [ctx_univ m rsX (by decide) (by decide), bigSep_univ_prod, bigSep_bool]
  exact BIClass.sep_mono (rects_any (rsM false) (fun t : Fin 3 × Fin 4 => rsR t.1 t.2) (fun _ _ => rfl) rsR_dis rsR_cov (fun t => rsv m c false t.1 t.2) c)
    (rects_any (rsM true) (fun t : Fin 3 × Fin 4 => rsR t.1 t.2) (fun _ _ => rfl) rsR_dis rsR_cov (fun t => rsv m c true t.1 t.2) c)

theorem st_end (c : Dev nD) : ctx m c (sweep.map fun p => .stR p.1 p.2) ⊢ (iprop(anyW c (stM false) ∗ anyW c (stM true)) : sProp 𝕄) := by
  rw [ctx_univ m sweep (by decide) (by decide), bigSep_univ_prod, bigSep_bool]
  exact BIClass.sep_mono (rects_any (stM false) rowR (fun _ _ => rfl) rowR_dis rowR_cov (fun s => stv m c false s) c)
    (rects_any (stM true) rowR (fun _ _ => rfl) rowR_dis rowR_cov (fun s => stv m c true s) c)

/-- What the first three slots keep of their chunks while these are sent on, the last all. -/
def qIt (d : Bool) (n s : Fin 4) : It := if n = 3 then .q d n s else .qL d n s

/-- A chunk's two halves. -/
theorem chunk_join (c : Dev nD) (d : Bool) (n : Fin 4) :
    (iprop((bigSep Finset.univ fun s : Fin 4 => res m c (.qL d n s)) ∗ res m c (.qC d n)) : sProp 𝕄) ⊢ bigSep Finset.univ fun s : Fin 4 => res m c (.q d n s) := by
  have e : res m c (.qC d n) ⊢ bigSep Finset.univ fun s : Fin 4 => res m c (.qR d n s) := by
    refine BIBase.Entails.trans (Q := ctx m c [.qC d n]) (Entails.of_eq (by rw [ctx_cons, ctx_nil]; exact (equiv_iff.mp sep_emp).symm)) ?_
    rw [← q_chunk, show ([.qR d n 0, .qR d n 1, .qR d n 2, .qR d n 3] : List It) = ([0, 1, 2, 3] : List (Fin 4)).map (.qR d n ·) from rfl, ctx_univ m [0, 1, 2, 3] (by decide) (by decide)]
  refine (BIClass.sep_mono .rfl e).trans ?_
  rw [← bigSep_sep']
  exact bigSep_mono fun s _ => (owns_halves (c : Thread nD τ) (qW d (slotD d n c) s) fullShare (qv m d (slotD d n c) s)).2

theorem q_end (c : Dev nD) :
    (iprop(ctx m c (qX.map fun p => qIt p.1 p.2.1 p.2.2) ∗ ctx m c [.qC false 0, .qC false 1, .qC false 2, .qC true 0, .qC true 1, .qC true 2]) : sProp 𝕄)
      ⊢ iprop(anyW c (qM false) ∗ anyW c (qM true)) := by
  have e (d : Bool) : (bigSep Finset.univ fun t : Fin 4 × Fin 4 => res m c (qIt d t.1 t.2) : sProp 𝕄)
      = iprop((bigSep Finset.univ fun s : Fin 4 => res m c (.qL d 0 s)) ∗ (bigSep Finset.univ fun s : Fin 4 => res m c (.qL d 1 s))
          ∗ (bigSep Finset.univ fun s : Fin 4 => res m c (.qL d 2 s)) ∗ (bigSep Finset.univ fun s : Fin 4 => res m c (.q d 3 s))) := by
    rw [bigSep_univ_prod, bigSep_univ_eq_bigSepL [0, 1, 2, 3] (by decide) (by decide)]; rfl
  have j (d : Bool) : (iprop((bigSep Finset.univ fun s : Fin 4 => res m c (.q d 0 s)) ∗ (bigSep Finset.univ fun s : Fin 4 => res m c (.q d 1 s))
          ∗ (bigSep Finset.univ fun s : Fin 4 => res m c (.q d 2 s)) ∗ (bigSep Finset.univ fun s : Fin 4 => res m c (.q d 3 s))) : sProp 𝕄) ⊢ anyW c (qM d) := by
    refine (Entails.of_eq ?_).trans (rects_any (qM d) (fun t : Dev nD × Fin 4 => qR t.1 t.2) (fun _ _ => rfl) qR_dis qR_cov (fun t => qv m d t.1 t.2) c)
    refine Eq.trans ?_ (bigSep_univ_equiv ((slotE d c).prodCongr (Equiv.refl (Fin 4))) (fun t : Dev nD × Fin 4 => (owns (c : Thread nD τ) (qW d t.1 t.2) fullShare (qv m d t.1 t.2) : sProp 𝕄))).symm
    rw [bigSep_univ_prod, bigSep_univ_eq_bigSepL (I := Fin 4) [0, 1, 2, 3] (by decide) (by decide) (fun a => bigSep Finset.univ fun b : Fin 4 => _)]; rfl
  rw [ctx_univ m qX (by decide) (by decide), bigSep_univ_prod, bigSep_bool, e, e]
  simp only [ctx_cons, ctx_nil]
  iintro ⟨⟨⟨A0, A1, A2, A3⟩, B0, B1, B2, B3⟩, C0, C1, C2, D0, D1, D2, -⟩
  ihave A0 := (chunk_join c false 0) $$ [A0 C0]; · isplitl [A0] <;> iassumption
  ihave A1 := (chunk_join c false 1) $$ [A1 C1]; · isplitl [A1] <;> iassumption
  ihave A2 := (chunk_join c false 2) $$ [A2 C2]; · isplitl [A2] <;> iassumption
  ihave B0 := (chunk_join c true 0) $$ [B0 D0]; · isplitl [B0] <;> iassumption
  ihave B1 := (chunk_join c true 1) $$ [B1 D1]; · isplitl [B1] <;> iassumption
  ihave B2 := (chunk_join c true 2) $$ [B2 D2]; · isplitl [B2] <;> iassumption
  isplitl [A0 A1 A2 A3]
  · iapply (j false)
    isplitl [A0]; · iexact A0
    isplitl [A1]; · iexact A1
    isplitl [A2]; · iexact A2
    iexact A3
  · iapply (j true)
    isplitl [B0]; · iexact B0
    isplitl [B1]; · iexact B1
    isplitl [B2]; · iexact B2
    iexact B3

theorem row_end (c : Dev nD) (d : Bool) :
    (bigSep Finset.univ fun s : Fin 4 => res m c (.outR d s)) ⊢ (atW c (outWC d (slotD d 3 c)) fullShare (outv m d (slotD d 3 c)) : sProp 𝕄) := by
  refine (Entails.of_eq ?_).trans (rects_full (outWC d (slotD d 3 c)) rowR (fun _ _ => rfl) rowR_dis rowR_cov fullShare (fun s => stv m c d s) (outv m d (slotD d 3 c)) (fun _ _ => rfl) c)
  exact bigSep_congr fun s _ => (out_nest c d (slotD d 3 c) s (stv m c d s)).symm

theorem out_end (c : Dev nD) :
    (iprop(ctx m c [.out false 0, .out false 1, .out false 2, .out true 0, .out true 1, .out true 2] ∗ ctx m c (sweep.map fun p => .outR p.1 p.2)) : sProp 𝕄)
      ⊢ atW c outM fullShare (OUT m) := by
  have e (d : Bool) : (bigSep Finset.univ fun j : Dev nD => (atW c (outWC d j) fullShare (outv m d j) : sProp 𝕄))
      = iprop(atW c (outWC d (slotD d 0 c)) fullShare (outv m d (slotD d 0 c)) ∗ atW c (outWC d (slotD d 1 c)) fullShare (outv m d (slotD d 1 c))
          ∗ atW c (outWC d (slotD d 2 c)) fullShare (outv m d (slotD d 2 c)) ∗ atW c (outWC d (slotD d 3 c)) fullShare (outv m d (slotD d 3 c))) :=
    (bigSep_univ_equiv (slotE d c) (fun j : Dev nD => (atW c (outWC d j) fullShare (outv m d j) : sProp 𝕄))).trans
      (bigSep_univ_eq_bigSepL [0, 1, 2, 3] (by decide) (by decide) _)
  rw [ctx_univ m sweep (by decide) (by decide), bigSep_univ_prod, bigSep_bool]
  refine BIBase.Entails.trans ?_ (rects_full outM (fun t : Bool × Dev nD => outC t.1 t.2) (fun _ _ => rfl) outC_dis outC_cov fullShare (fun t => outv m t.1 t.2) (OUT m)
    (fun t i => Rect.glue_emb (fun s : Bool × Dev nD => outC s.1 s.2) outC_cov outC_dis (fun s => outv m s.1 s.2) t i) c)
  rw [bigSep_univ_prod, bigSep_bool, e, e]
  rw [show ctx m c [.out false 0, .out false 1, .out false 2, .out true 0, .out true 1, .out true 2] = iprop(atW c (outWC false (slotD false 0 c)) fullShare (outv m false (slotD false 0 c)) ∗ atW c (outWC false (slotD false 1 c)) fullShare (outv m false (slotD false 1 c)) ∗ atW c (outWC false (slotD false 2 c)) fullShare (outv m false (slotD false 2 c)) ∗ atW c (outWC true (slotD true 0 c)) fullShare (outv m true (slotD true 0 c)) ∗ atW c (outWC true (slotD true 1 c)) fullShare (outv m true (slotD true 1 c)) ∗ atW c (outWC true (slotD true 2 c)) fullShare (outv m true (slotD true 2 c)) ∗ emp) from rfl]
  iintro ⟨⟨A0, A1, A2, B0, B1, B2, -⟩, A3, B3⟩
  ihave A3 := (row_end (m := m) c false) $$ A3
  ihave B3 := (row_end (m := m) c true) $$ B3
  isplitr [B0 B1 B2 B3]
  · isplitl [A0]; · iexact A0
    isplitl [A1]; · iexact A1
    isplitl [A2]; · iexact A2
    iexact A3
  · isplitl [B0]; · iexact B0
    isplitl [B1]; · iexact B1
    isplitl [B2]; · iexact B2
    iexact B3

theorem endL_eq : endL = [.w, .wb, .xsAny, .xb 3, .copyZ] ++ ([.x 0, .x 3, .x 2, .x 1] ++ ([.amAll] ++ ((sweep.map fun p => .acc p.1 p.2 3)
    ++ ((rsX.map fun p => .rs p.1 p.2.1 p.2.2) ++ ((qX.map fun p => qIt p.1 p.2.1 p.2.2)
    ++ ([.qC false 0, .qC false 1, .qC false 2, .qC true 0, .qC true 1, .qC true 2] ++ ((sweep.map fun p => .stR p.1 p.2)
    ++ ([.out false 0, .out false 1, .out false 2, .out true 0, .out true 1, .out true 2] ++ ((sweep.map fun p => .outR p.1 p.2) ++ endG))))))))) := by decide +kernel

theorem mem_end (c : Dev nD) :
    ctx m c endL ⊢ iprop(atW c wM fullShare (wA m c) ∗ atW c xM fullShare (xA m c) ∗ atW c outM fullShare (OUT m) ∗ scr c ∗ semVal ((c : Thread nD τ), copyS) 0 ∗ ctx m c endG) := by
  rw [endL_eq]
  rw [ctx_append, ctx_append, ctx_append, ctx_append, ctx_append, ctx_append, ctx_append, ctx_append, ctx_append, ctx_append, x_eq]
  rw [show ctx m c [.w, .wb, .xsAny, .xb 3, .copyZ] = iprop(atW c wM fullShare (wA m c) ∗ atW c wbM fullShare (wbv m c) ∗ anyW c xsM ∗ atW c xbM fullShare (xbv m c (rot 3 c)) ∗ semVal ((c : Thread nD τ), copyS) 0 ∗ emp) from rfl,
    show ctx m c [.amAll] = iprop(atW c amM fullShare (amT m) ∗ emp) from rfl]
  unfold scr
  iintro ⟨⟨Hw, Hwb, Hxs, Hxb, Hz, -⟩, Hx, ⟨Ham, -⟩, Hacc, Hrs, Hq, HqC, Hst, Ho, Ho', Hg⟩
  ihave Hacc := (acc_end (m := m) c) $$ Hacc
  ihave Hrs := (rs_end (m := m) c) $$ Hrs
  ihave Hst := (st_end (m := m) c) $$ Hst
  ihave Hq := (q_end (m := m) c) $$ [Hq HqC]; · isplitl [Hq] <;> iassumption
  ihave Ho := (out_end (m := m) c) $$ [Ho Ho']; · isplitl [Ho] <;> iassumption
  ihave Ham := (any_of c amM (amT m)) $$ Ham
  ihave Hxb := (any_of c xbM (xbv m c (rot 3 c))) $$ Hxb
  ihave Hwb := (any_of c wbM (wbv m c)) $$ Hwb
  isplitl [Hw]; · iexact Hw
  isplitl [Hx]; · iexact Hx
  isplitl [Ho]; · iexact Ho
  isplitr [Hz Hg]
  · isplitl [Hxs]; · iexact Hxs
    isplitl [Hxb]; · iexact Hxb
    isplitl [Hwb]; · iexact Hwb
    isplitl [Hacc]; · iexact Hacc
    isplitl [Hrs]; · iexact Hrs
    isplitl [Hq]; · iexact Hq
    isplitl [Hst]; · iexact Hst
    iexact Ham
  isplitl [Hz]; · iexact Hz
  iexact Hg

end Cert.Proof
-- ==== Proof.Body.lean ====
module

public import proofs.«01_k».proof.Proof.Finish
public import proofs.«01_k».proof.Proof.Spread
public import proofs.«01_k».proof.Proof.Frames

/-! The whole kernel on one device: from the pieces it starts with to the pieces it ends with. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (m : (ℓ : Loc nD τ sig) → Buf (Elt F) ℓ)

variable {m} {c : Dev nD} {α : Type}

/-- One program after another. -/
theorem Tr.seq {β : Type} {Q : β → sProp 𝕄} {l : List It} {p : Prog (TpuEff nD τ sig (Elt F) Λ₀ .tc) α} {f : α → Prog (TpuEff nD τ sig (Elt F) Λ₀ .tc) β}
    (h : Tr m c l p (fun a => 𝓦 c (f a) Q)) : Tr m c l (p >>= f) Q := fun K => by
  rw [𝓦, wp_bind]
  exact h K

/-- The last of the first of two programs. -/
theorem Tr.unassoc {β γ : Type} {Q : β → sProp 𝕄} {l : List It} {p : Prog (TpuEff nD τ sig (Elt F) Λ₀ .tc) γ} {g : γ → α}
    {f : α → Prog (TpuEff nD τ sig (Elt F) Λ₀ .tc) β} (h : Tr m c l (p >>= fun x => f (g x)) Q) :
    Tr m c l (p >>= fun x => pure (g x)) (fun a => 𝓦 c (f a) Q) := fun K => by
  have e : (p >>= fun x => pure (g x)) >>= f = p >>= fun x => f (g x) := by simp only [bind_assoc, pure_bind]
  rw [𝓦, ← wp_bind, e]
  exact h K

set_option maxRecDepth 65536

/-- A program equal to another. -/
theorem Tr.of {Q : α → sProp 𝕄} {l : List It} {p q : Prog (TpuEff nD τ sig (Elt F) Λ₀ .tc) α} (hq : Tr m c l q Q) (h : p = q) : Tr m c l p Q := h ▸ hq

/-! Programs that start alike. -/

section
variable {A B C D E G : Type}

omit [FloatOps F] in
theorem cong1 {p : Prog (TpuEff nD τ sig (Elt F) Λ₀ .tc) A} {f g : A → Prog (TpuEff nD τ sig (Elt F) Λ₀ .tc) α} (h : ∀ a, f a = g a) : (p >>= f) = p >>= g :=
  congrArg (p >>= ·) (funext h)

omit [FloatOps F] in
theorem cong2 {p : Prog (TpuEff nD τ sig (Elt F) Λ₀ .tc) (Σ' (_ : A), B)} {f g : (Σ' (_ : A), B) → Prog (TpuEff nD τ sig (Elt F) Λ₀ .tc) α}
    (h : ∀ a b, f ⟨a, b⟩ = g ⟨a, b⟩) : (p >>= f) = p >>= g := cong1 fun ⟨a, b⟩ => h a b

omit [FloatOps F] in
theorem cong3 {p : Prog (TpuEff nD τ sig (Elt F) Λ₀ .tc) (Σ' (_ : A) (_ : B), C)} {f g : (Σ' (_ : A) (_ : B), C) → Prog (TpuEff nD τ sig (Elt F) Λ₀ .tc) α}
    (h : ∀ a b c, f ⟨a, b, c⟩ = g ⟨a, b, c⟩) : (p >>= f) = p >>= g := cong1 fun ⟨a, b, c⟩ => h a b c

omit [FloatOps F] in
theorem cong4 {p : Prog (TpuEff nD τ sig (Elt F) Λ₀ .tc) (Σ' (_ : A) (_ : B) (_ : C), D)} {f g : (Σ' (_ : A) (_ : B) (_ : C), D) → Prog (TpuEff nD τ sig (Elt F) Λ₀ .tc) α}
    (h : ∀ a b c d, f ⟨a, b, c, d⟩ = g ⟨a, b, c, d⟩) : (p >>= f) = p >>= g := cong1 fun ⟨a, b, c, d⟩ => h a b c d

omit [FloatOps F] in
theorem cong5 {p : Prog (TpuEff nD τ sig (Elt F) Λ₀ .tc) (Σ' (_ : A) (_ : B) (_ : C) (_ : D), E)} {f g : (Σ' (_ : A) (_ : B) (_ : C) (_ : D), E) → Prog (TpuEff nD τ sig (Elt F) Λ₀ .tc) α}
    (h : ∀ a b c d e, f ⟨a, b, c, d, e⟩ = g ⟨a, b, c, d, e⟩) : (p >>= f) = p >>= g := cong1 fun ⟨a, b, c, d, e⟩ => h a b c d e

omit [FloatOps F] in
theorem cong6 {p : Prog (TpuEff nD τ sig (Elt F) Λ₀ .tc) (Σ' (_ : A) (_ : B) (_ : C) (_ : D) (_ : E), G)} {f g : (Σ' (_ : A) (_ : B) (_ : C) (_ : D) (_ : E), G) → Prog (TpuEff nD τ sig (Elt F) Λ₀ .tc) α}
    (h : ∀ a b c d e j, f ⟨a, b, c, d, e, j⟩ = g ⟨a, b, c, d, e, j⟩) : (p >>= f) = p >>= g := cong1 fun ⟨a, b, c, d, e, j⟩ => h a b c d e j

end

set_option pp.maxSteps 100
attribute [local irreducible] fr_s0 fr_s1 fr_s2 fr_s3 fr_s4 fr_s5a fr_s5b fr_s6 fr_s7 fr_t1 fr_t2 fr_t3 fr_t4 fr_t5 fr_t6 fr_t7
attribute [local irreducible] Tr

/-- The sums, the largest magnitude, and the first of the chunks sent round. -/
theorem front {Q : (Σ' (d0 : Dev nD) (v2 : BitVec 32) (v13 : BitVec 32) (v25 : BitVec 32) (v1106 : F .f32), BitVec 32) → sProp 𝕄}
    (hk : ∀ v2 v13 v25, Tr m c (post_t2 fr_t2) (at' (k0_part60_skel (F := F)) c v2 (scl m) >>= fun x => pure ⟨c, v2, v13, v25, scl m, x⟩) Q) :
    Tr m c startL (at' (k0_part81_skel (F := F))) Q := by
  unfold at' k0_part81_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  refine Tr.perm perm_s0 (Tr.of (s0 (fr := fr_s0) (fun v2 v13 v25 => ?_))
    (cong6 fun _ _ _ _ _ _ => cong1 fun _ => rfl))
  refine Tr.perm perm_s1 (Tr.of (s1 (fr := fr_s1) ?_)
    (cong1 fun _ => cong3 fun _ _ _ => cong1 fun _ => cong1 fun _ => cong1 fun _ => cong2 fun _ _ => rfl))
  refine Tr.perm perm_s2 (Tr.of (s2 (fr := fr_s2) rfl rfl ?_)
    (cong1 fun _ => cong1 fun _ => cong1 fun _ => cong1 fun _ => cong1 fun _ => cong1 fun _ => cong1 fun _ => cong1 fun _ => cong1 fun _ => rfl))
  refine Tr.perm perm_s3 (Tr.of (s3 (fr := fr_s3) (fun _ _ => ?_))
    (cong1 fun _ => cong3 fun _ _ _ => cong1 fun _ => cong1 fun _ => cong1 fun _ => cong1 fun _ => cong1 fun _ => cong1 fun _ => cong1 fun _ =>
      cong1 fun _ => cong2 fun _ _ => rfl))
  refine Tr.perm perm_s4 (Tr.of (s4 (fr := fr_s4) (fun _ _ _ => ?_))
    (cong3 fun _ _ _ => cong3 fun _ _ _ => cong2 fun _ _ => cong2 fun _ _ => cong1 fun _ => cong1 fun _ => cong1 fun _ => cong1 fun _ =>
      cong4 fun _ _ _ _ => rfl))
  refine Tr.perm perm_s5a (Tr.of (s5a (fr := fr_s5a) (fun _ _ => ?_))
    (cong2 fun _ _ => rfl))
  refine Tr.perm perm_s5b (Tr.of (s5b (fr := fr_s5b) ?_)
    (cong2 fun _ _ => cong1 fun _ => cong3 fun _ _ _ => rfl))
  refine Tr.perm perm_s6 (Tr.of (s6 (fr := fr_s6) rfl rfl rfl ?_)
    (cong3 fun _ _ _ => cong3 fun _ _ _ => cong2 fun _ _ => cong1 fun _ => rfl))
  refine Tr.perm perm_s7 (Tr.of (s7 (fr := fr_s7) rfl rfl ?_)
    (cong1 fun _ => cong2 fun _ _ => cong1 fun _ => cong1 fun _ => rfl))
  refine Tr.perm perm_t1 (Tr.of (t1 (fr := fr_t1) rfl (fun _ _ _ _ => ?_))
    (cong1 fun _ => cong1 fun _ => cong1 fun _ => cong1 fun _ => cong3 fun _ _ _ => cong4 fun _ _ _ _ => rfl))
  refine Tr.perm perm_t2 (Tr.of (t2 (fr := fr_t2) ?_)
    (cong1 fun _ => cong1 fun _ => cong1 fun _ => cong1 fun _ => rfl))
  exact hk v2 v13 v25

/-- The whole kernel. -/
theorem body {Q : PUnit → sProp 𝕄} (hk : Tr m c endL (pure ⟨⟩) Q) : Tr m c startL (at' (cc0_body (F := F))) Q := by
  rw [cc0_body_eq_skeleton]
  unfold at' cc0_body_skel
  rw [k0_part81_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton]
  refine Tr.seq (front (fun v2 v13 v25 => Tr.unassoc ?_))
  beta_reduce
  refine Tr.perm perm_t3 (Tr.of (t3 (fr := fr_t3) rfl (fun _ => ?_))
    (cong1 fun _ => cong1 fun _ => rfl))
  refine Tr.perm perm_t4 (Tr.of (t4 (fr := fr_t4) ?_)
    (cong1 fun _ => cong1 fun _ => cong1 fun _ => cong1 fun _ => cong1 fun _ => rfl))
  refine Tr.perm perm_t5 (Tr.of (t5 (fr := fr_t5) (fun _ _ _ _ _ => ?_))
    (cong4 fun _ _ _ _ => cong1 fun _ => cong1 fun _ => cong5 fun _ _ _ _ _ => rfl))
  refine Tr.perm perm_t6 (Tr.of (t6 (fr := fr_t6) rfl (fun _ _ => ?_))
    (cong1 fun _ => cong2 fun _ _ => cong1 fun _ => cong1 fun _ => cong1 fun _ => cong1 fun _ => rfl))
  refine Tr.perm perm_t7 (Tr.of (t7 (fr := fr_t7) rfl rfl ?_)
    (cong1 fun _ => cong1 fun _ => cong1 fun _ => cong1 fun _ => rfl))
  exact Tr.perm perm_end hk

end Cert.Proof
-- ==== Proof.Launch.lean ====
module

public import proofs.«01_k».proof.Proof.Ghost

public import proofs.«01_k».proof.Proof.Pieces
public import proofs.«01_k».proof.Proof.Body
public import proofs.«01_k».proof.Proof.Gen.KernelIdeal.Frame
public import Idealize.ShloMosaic.Lib.Pipeline.CollectiveSegs

/-! The launch, and the run of the whole program. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ)
variable (ρ : Dev nD → PrngReg)

theorem idle_eq (c : Dev nD) : ctx m c (cps.map fun e => .idle e)
    = iprop((bigSep Finset.univ fun e : Cp => dutyTok ER (cellOf' c (.snd e)) 0 false) ∗ (bigSep Finset.univ fun e : Cp => dutyTok ER (cellOf' (cpDst e c) (.rcv e)) 0 false)
      ∗ (bigSep Finset.univ fun e : Cp => atPos ER (cellOf' c (.snd e)) 0 ∅ 0) ∗ (bigSep Finset.univ fun e : Cp => atPos ER (cellOf' c (.rcv e)) 0 ∅ 0)
      ∗ bigSep Finset.univ fun e : Cp => cred (tallyAt (cellOf' c (.rcv e)) () (cpN e))) := by
  rw [ctx_univ m cps (by decide +kernel) (by decide +kernel), ← bigSep_sep', ← bigSep_sep', ← bigSep_sep', ← bigSep_sep']
  rfl

theorem fin_eq (c : Dev nD) : ctx m c (cps.map fun e => .fin e)
    = iprop((bigSep Finset.univ fun e : Cp => semVal (cellOf' c (.snd e)) 0) ∗ bigSep Finset.univ fun e : Cp => semVal (cellOf' c (.rcv e)) 0) := by
  rw [ctx_univ m cps (by decide +kernel) (by decide +kernel), ← bigSep_sep']
  rfl

theorem startG_intro (c : Dev nD) : iprop(lin c ∗ Pipeline.launchCred O₀ c ∗ ∃ W, owes (c : Thread nD τ) (O₀ c) W)
    ⊢ (iprop(semVal ((c : Thread nD τ), copyS) 0 ∗ ctx m c startG) : sProp 𝕄) := by
  unfold startG lin payToks
  rw [ctx_append, ctx_append, idle_eq, cix_sep, cix_sep,
    show ctx m c [.oz false, .oz true] = iprop(semVal ((c : Thread nD τ), outS false) 0 ∗ semVal ((c : Thread nD τ), outS true) 0 ∗ emp) from rfl,
    show ctx m c [.barT true, .barT false, .barW, .secT true, .secT false, .secW, .ow 0] = iprop(dutyTok ER (cellOf' (dstD true c) .bar) 0 true ∗ dutyTok ER (cellOf' (dstD false c) .bar) 0 false
      ∗ (atPos ER (cellOf' c .bar) 0 ∅ 0 ∗ cred (tallyAt (cellOf' c .bar) () 2))
      ∗ dutyTok ER (cellOf' (dstD true c) .sec) 0 true ∗ dutyTok ER (cellOf' (dstD false c) .sec) 0 false
      ∗ (atPos ER (cellOf' c .sec) 0 ∅ 0 ∗ cred (tallyAt (cellOf' c .sec) () 2)) ∗ (∃ W, owes (c : Thread nD τ) (O₀ c) W) ∗ emp) from rfl]
  iintro ⟨⟨⟨⟨⟨As, Ar⟩, Ab, Ac⟩, Hz, Hf, Ht⟩, ⟨⟨⟨Ts, Tr⟩, Tb, Tc⟩, Ub, Uc⟩⟩, Hc, Ho⟩
  ihave Hc := (creds (F := F) c) $$ Hc
  icases Hc with ⟨Cr, Cb, Cs⟩
  isplitl [Hz]; · iexact Hz
  isplitl [Hf Ht Ts Tr As Ar Cr]
  · isplitl [Hf Ht]
    · isplitl [Hf]; · iexact Hf
      isplitl [Ht]; · iexact Ht
      iempintro
    · isplitl [Ts]; · iexact Ts
      isplitl [Tr]; · iexact Tr
      isplitl [As]; · iexact As
      isplitl [Ar]; · iexact Ar
      iexact Cr
  · isplitl [Ub]; · iexact Ub
    isplitl [Tb]; · iexact Tb
    isplitl [Ab Cb]
    · isplitl [Ab] <;> iassumption
    isplitl [Uc]; · iexact Uc
    isplitl [Tc]; · iexact Tc
    isplitl [Ac Cs]
    · isplitl [Ac] <;> iassumption
    isplitl [Ho]; · iexact Ho
    iempintro

theorem endG_elim (c : Dev nD) : (iprop(semVal ((c : Thread nD τ), copyS) 0 ∗ ctx m c endG) : sProp 𝕄)
    ⊢ iprop((Pipeline.ownSems0 (Ix := Unit) (Name := ℕ) (U := UU nD τ) (Lvl := ℕ) (Val := Elt F) (τ := τ) osem c ∗ unscopedSems0 c) ∗ ∃ W, owes (c : Thread nD τ) 0 W) := by
  rw [sems_eq, cix_sep]
  unfold endG
  rw [ctx_append, ctx_append, fin_eq,
    show ctx m c [.oz false, .oz true] = iprop(semVal ((c : Thread nD τ), outS false) 0 ∗ semVal ((c : Thread nD τ), outS true) 0 ∗ emp) from rfl,
    show ctx m c [.barZ, .secZ, .ow 55] = iprop(semVal (cellOf' c .bar) 0 ∗ semVal (cellOf' c .sec) 0 ∗ (∃ W, owes (c : Thread nD τ) (owedL c (payL.drop 55)) W) ∗ emp) from rfl,
    show owedL c (payL.drop 55) = 0 from by rw [show payL.drop 55 = [] from by decide +kernel]; rfl]
  iintro ⟨Hz, ⟨⟨Hf, Ht, -⟩, Hs, Hr⟩, Hb, Hc, Ho, -⟩
  isplitr [Ho]
  · isplitl [Hs Hr Hb Hc]
    · isplitl [Hs Hr]
      · isplitl [Hs] <;> iassumption
      · isplitl [Hb] <;> iassumption
    · isplitl [Hz]; · iexact Hz
      isplitl [Hf] <;> iassumption
  iexact Ho

omit [FloatOps F] in
theorem owns_whole (c : Dev nD) (b : Ref sig .tc) (X : b.ty.Contents (Elt F)) :
    (owns (Ix := Unit) (Name := ℕ) (U := UU nD τ) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem owns_whole' (c : Dev nD) (b : Ref sig .tc) (X : b.ty.Contents (Elt F)) :
    (owns (Ix := Unit) (Name := ℕ) (U := UU nD τ) (Lvl := ℕ) (c : Thread nD τ) (Memref.whole b) fullShare X : sProp 𝕄)
      = iprop(((c : Thread nD τ).loc b) ↦{fullShare} X) := by
  rw [owns_whole]
  have h1 : (iprop(∃ f : Buf (Elt F) (((c : Dev nD) : Thread nD τ).loc b), ⌜f = X⌝ ∗ (((c : Thread nD τ).loc b) ↦{fullShare} f)) : sProp 𝕄)
      ⊢ iprop(((c : Thread nD τ).loc b) ↦{fullShare} X) := by
    iintro ⟨%f, %h, H⟩
    subst h
    iexact H
  have h2 : (iprop(((c : Thread nD τ).loc b) ↦{fullShare} X) : sProp 𝕄)
      ⊢ iprop(∃ f : Buf (Elt F) (((c : Dev nD) : Thread nD τ).loc b), ⌜f = X⌝ ∗ (((c : Thread nD τ).loc b) ↦{fullShare} f)) := by
    iintro H
    iexists _; isplitr; · (ipureintro; rfl)
    iexact H
  exact h1.antisymm h2

omit [FloatOps F] in
theorem any_whole (c : Dev nD) (b : Ref sig .tc) :
    (anyW c (Memref.whole b) : sProp 𝕄) = iprop(∃ f : Buf (Elt F) ((c : Thread nD τ).loc b), ((c : Thread nD τ).loc b) ↦{fullShare} f) := by
  unfold anyW
  exact congrArg BIBase.«exists» (funext fun X => owns_whole' c b X)

omit [FloatOps F] in
theorem scr_eq (c : Dev nD) : (scr c : sProp 𝕄) ⊣⊢ Pipeline.scopedRest cfg0.spec c := by
  rw [scopedRest0_eq]
  simp only [← any_whole]
  unfold scr
  constructor
  · iintro ⟨H0, H1, H2, ⟨H3, H4⟩, ⟨H5, H6⟩, ⟨H7, H8⟩, ⟨H9, H10⟩, H11⟩
    iframe
  · iintro ⟨H0, H1, H2, H3, H4, H5, H6, H7, H8, H9, H10, H11⟩
    iframe

/-! ## The region -/

/-- What a device takes into the region, -/
def start (c : Dev nD) : sProp 𝕄 :=
  iprop((∃ K, recs m K ∗ lin c) ∗ levAts L lv ∗ Pipeline.launchCred O₀ c ∗ atW c xM fullShare (xA m c) ∗ anyW c outM)
def Φ₀ (c : Dev nD) : sProp 𝕄 := iprop(start m c ∗ scr c)
/-- and what it brings out. -/
def Y (c : Dev nD) : sProp 𝕄 := iprop(unscopedSems0 c ∗ atW c xM fullShare (xA m c) ∗ atW c outM fullShare (OUT m))
def Φ₁ (c : Dev nD) : sProp 𝕄 :=
  iprop(Y m c ∗ Pipeline.ownSems0 (Ix := Unit) (Name := ℕ) (U := UU nD τ) (Lvl := ℕ) (Val := Elt F) (τ := τ) osem c ∗ scr c)

def dats (_ : Fin 1) (c : Dev nD) : Dat τ (Elt F) Unit ℕ (UU nD τ) ℕ cfg0 c where
  A w := m ((cfg0.win w).arr.view.loc (c : Thread nD τ))
  after w _ := match w with
    | ⟨0, _⟩ => wA m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem before_eq (c : Dev nD) (d) : (dats m 0 c).before (0 : Fin 1) t0_0 d = wA m c := by
  unfold Dat.before
  rw [if_pos (by rfl)]
  refine funext fun y => congrArg (m ((c : Thread nD τ).loc main_arg1)) (funext fun a => Fin.ext ?_)
  show 0 * _ + 1 * (y a).val = (y a).val
  omega

def bodyPre' (c : Dev nD) : sProp 𝕄 :=
  iprop(Φ₀ m c ∗ (dats m 0 c).owesAt () t0_0.castSucc ∗ (∃ d, atW c wM fullShare ((dats m 0 c).before (0 : Fin 1) t0_0 d)))
def bodyPost (c : Dev nD) : sProp 𝕄 :=
  iprop(Φ₁ m c ∗ (dats m 0 c).owesAt () t0_0.succ ∗ atW c wM fullShare (wA m c))

theorem post_intro (c : Dev nD) : ctx m c endL ⊢ bodyPost m c := by
  refine (mem_end c).trans ?_
  unfold bodyPost Φ₁ Y Dat.owesAt Pipeline.owesWithin
  rw [show (dats m 0 c).owed t0_0.succ = 0 from rfl]
  iintro ⟨Hw, Hx, Ho, Hs, Hz, Hg⟩
  ihave H := (endG_elim m c) $$ [Hz Hg]
  · isplitl [Hz] <;> iassumption
  icases H with ⟨⟨Hos, Hus⟩, ⟨%W, HO⟩⟩
  isplitl [Hx Ho Hs Hos Hus]
  · isplitl [Hx Ho Hus]
    · isplitl [Hus]; · iexact Hus
      isplitl [Hx] <;> iassumption
    isplitl [Hos] <;> iassumption
  isplitl [HO]
  · iexists W
    isplitr; · ipureintro; exact fun _ _ => Or.inl trivial
    iexact HO
  iexact Hw

theorem sound_body (c : Dev nD) : bodyPre' m c ⊢ 𝓦 c (at' (cc0_body (F := F))) (fun _ => bodyPost m c) := by
  have hb := body (m := m) (c := c) (Q := fun _ => bodyPost m c) (Tr.done (post_intro m c))
  unfold bodyPre' Φ₀ start Dat.owesAt Pipeline.owesWithin
  rw [show (dats m 0 c).owed t0_0.castSucc = O₀ c from rfl]
  simp only [before_eq]
  iintro ⟨⟨⟨⟨%K, #HR, Hl⟩, #Hlev, Hcr, Hx, Ho⟩, Hs⟩, ⟨%W, -, HO⟩, ⟨%d, Hw⟩⟩
  ihave H := (startG_intro m c) $$ [Hl Hcr HO]
  · isplitl [Hl]; · iexact Hl
    isplitl [Hcr]; · iexact Hcr
    iexists W; iexact HO
  icases H with ⟨Hz, Hg⟩
  ihave H := (mem_start (m := m) c) $$ [Hw Hx Ho Hs Hz Hg]
  · isplitl [Hw]; · iexact Hw
    isplitl [Hx]; · iexact Hx
    isplitl [Ho]; · iexact Ho
    isplitl [Hs]; · iexact Hs
    isplitl [Hz] <;> iassumption
  iapply (hb K)
  isplitr
  · unfold env
    isplitl; · iexact HR
    iexact Hlev
  iexact H

set_option maxRecDepth 65536 in
theorem body_obligation (c : Dev nD) : BodyObligation (dats (F := F) m 0 c) (defs₀ (F := F)) 𝒱₀ () Set.univ := fun t => by
  rw [fin_N0 t]
  rw [bigSep_W0, bigSep_W0]
  exact sound_body m c

/-! ## The launch -/

theorem ownSemFacts : Pipeline.OwnSemFacts cfg0.spec osem := by decide +kernel

theorem share_eq (c : Dev nD) (w : Fin cfg0.W) : (dats m 0 c).share w = fullShare := by unfold Dat.share; split <;> rfl

def u₀ : UU nD τ :=
  (initOf (Pipeline.cells cfgs cellOf_inj) (Pipeline.launchToks cfgs cellOf_inj), (initOf ringCells ringToks, 1))

omit [FloatOps F] in
theorem own_ring : BI.own (embR (nD := nD) (τ := τ) (sig := sig) (Ix := Unit) (Val := Elt F) (Name := ℕ) (Lvl := ℕ) (A := UR nD τ) (B := RR nD τ × Counters) (initOf ringCells ringToks, 1))
    ⊢ (BI.own (ER (initOf ringCells ringToks)) : sProp 𝕄) := Entails.of_eq rfl

omit [FloatOps F] in
theorem own_pipe (a : UR nD τ) : BI.own (embL (nD := nD) (τ := τ) (sig := sig) (Ix := Unit) (Val := Elt F) (Name := ℕ) (Lvl := ℕ) (A := UR nD τ) (B := RR nD τ × Counters) a)
    ⊢ (BI.own (EP a) : sProp 𝕄) := Entails.of_eq rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  imodintro
  unfold start G'
  isplitl
  · isplitl [HG]; · iexact HG
    isplitl [Hlev]; · iexact Hlev
    isplitl [Hcr]; · iexact Hcr
    isplitl [Hx]
    · iapply (Entails.of_eq (owns_whole' c main_arg0 (m ((c : Thread nD τ).loc main_arg0))).symm)
      iexact Hx
    · iapply (Entails.of_eq (any_whole c main_v1).symm)
      iexists _
      iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scr_eq (F := F) c).2
  iexact Hr

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl]
  unfold Φ₁
  iintro ⟨HY, Ho, Hr⟩
  isplitl [HY]; · iexact HY
  isplitl [Ho]; · iexact Ho
  iapply (scr_eq (F := F) c).1
  iexact Hr

theorem all_above : ∀ p ∈ payL.drop 0, lvS (.dma (0 : Fin 106)) < lvP p := by decide +kernel

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · refine mayWait c _ 0 ?_
      fin_cases w <;> fin_cases s <;> exact all_above
    · show (levAts L lv : sProp 𝕄) ⊢ MayWait (c : Thread nD τ) _ () 0
      rw [MayWait_zero]; iintro -; iempintro

/-- The result, the arguments unchanged, and the semaphores at rest. -/
def QC : PUnit × MemSt nD τ sig (Elt F) → Prop := fun r =>
  ∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = OUT m

theorem read_end (c : Dev nD) (s' : Phys nD τ sig (Elt F)) : iprop(Y m c ∗ emp ∗ SI s')
    ⊢ |={Set.univ}=> iprop(⌜(s'.mem.mem ((c : Thread nD τ).loc main_arg0) = m ((c : Thread nD τ).loc main_arg0) ∧ s'.mem.mem ((c : Thread nD τ).loc main_v1) = OUT m)
        ∧ ∀ sm : SemLoc sig, sm.isScoped .tc = false → s'.mem.sem ((c.tc : Thread nD τ), sm) = 0⌝ ∗ (SI s' : sProp 𝕄)) := by
  unfold Y
  iintro ⟨⟨Hu, Hx, Ho⟩, -, HSI⟩
  ihave Hx := (Entails.of_eq (owns_whole' c main_arg0 (xA m c))) $$ Hx
  ihave Ho := (Entails.of_eq (owns_whole' c main_v1 (OUT m))) $$ Ho
  icombine HSI Hx gives %h1
  icombine HSI Ho gives %h2
  imod (Pipeline.unscopedSems0_read (X := unscopedSems0 c) (c := c) fupd_intro s') $$ [Hu HSI] with ⟨%h3, HSI⟩
  · isplitl [Hu] <;> iassumption
  imodintro
  isplitr
  · ipureintro
    exact ⟨⟨funext fun i => h1 i (Finset.mem_univ i), funext fun i => h2 i (Finset.mem_univ i)⟩, h3⟩
  iexact HSI

set_option maxRecDepth 8000 in
/-- Every run from a memory whose semaphores are at rest ends with the result in place. -/
theorem run_main : θ_run defs (onTc (τ := τ) (main (F := F))) (⟨m, fun _ => 0, ρ⟩ : MemSt nD τ sig (Elt F)) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := fun g h => if_neg h) (hwaits := waits m)
    (G := G m) (G' := G' m) (u₀ := u₀)
    (hu₀ := by
      unfold u₀
      iintro Hu
      ihave H := (ownU_pair _ _) $$ Hu
      icases H with ⟨HP, HX⟩
      ihave HX := (own_ring (F := F)) $$ HX
      imod (fund_ring m) $$ HX with HG
      imodintro
      isplitl [HP]
      · iapply (own_pipe (F := F) _)
        iexact HP
      iexact HG)
    (hglob := glob m)
    (hA := fun _ _ => rfl) (hpf := fun _ k => k.elim0)
    (X := start m) (Y := Y m) (Z := fun _ => iprop(emp))
    (hX := start_intro m ρ) (hin := phi0_intro m) (hout := phi1_exit m)
    (QY := fun c s => (s.mem ((c : Thread nD τ).loc main_arg0) = m ((c : Thread nD τ).loc main_arg0) ∧ s.mem ((c : Thread nD τ).loc main_v1) = OUT m)
      ∧ ∀ sm : SemLoc sig, sm.isScoped .tc = false → s.sem ((c.tc : Thread nD τ), sm) = 0)
    (hY := read_end m)
    (hQ := fun _ h hs => ⟨fun c => ⟨(h c).2.2.1.1, ((h c).1 0).trans ((dats m 0 c).arrAt_in 0 rfl _), (h c).2.2.1.2⟩, sem_eq_zero hs fun c => (h c).2.2.2⟩)

end Cert.Proof
-- ==== Proof.Value.lean ====
/-
  What the kernel's result holds, over the extended reals: the reference's own term of the whole arrays.

  Every device's partial products are sums over its own 1024 contraction indices, so the four added around the ring are the
  sum over all 4096; the largest absolute value over the devices' chunks is the largest over the whole product; and an
  integer between -127 and 127 passes through 8 bits unchanged.
-/
module

public import proofs.«01_k».proof.Proof.Setup
public import proofs.«01_k».proof.Proof.Gen.ReferenceIdeal
public import Idealize.ShloMosaic.PureOps.Ideal.Laws
public import Idealize.ShloMosaic.Lib.ValueIdx
public import Idealize.ShloMosaic.Lib.Pipeline.Value
public import Idealize.ShloMosaic.Lib.Layout

@[expose] public section

noncomputable section

namespace Cert.Proof

open Cert.KernelIdeal Cert.KernelIdeal.Gen
open Idealize.ShloMosaic Idealize.ShloMosaic.TcCoe Idealize.ShloMosaic.ValueIdx

/-! ## Literals and rounding -/

theorem lit_bot : Ideal.ofBits .f32 0xFF800000#32 = ⊥ := by simp [Ideal.ofBits, Ideal.ieee]
theorem lit_127 : Ideal.ofBits .f32 0x42FE0000#32 = ((127 : ℤ) : ℝ) := by
  simp [Ideal.ofBits, Ideal.ieee, -EReal.coe_mul]; norm_num
theorem lit_neg : Ideal.ofBits .f32 0xC2FE0000#32 = ((-127 : ℤ) : ℝ) := by
  simp [Ideal.ofBits, Ideal.ieee, -EReal.coe_mul]; norm_num

/-- The nearest integer, cut to `[-127, 127]`. -/
def clip (t : EReal) : EReal :=
  min (Ideal.ofBits .f32 0x42FE0000#32) (max (Ideal.ofBits .f32 0xC2FE0000#32) (Ideal.liftRound Ideal.roundHalfEven t))

theorem clip_int (t : EReal) : ∃ n : ℤ, -127 ≤ n ∧ n ≤ 127 ∧ clip t = ((n : ℝ) : EReal) := by
  unfold clip
  rw [lit_127, lit_neg]
  induction t using EReal.rec with
  | bot => exact ⟨-127, by norm_num, by norm_num, by
    rw [Ideal.liftRound_bot, max_eq_left bot_le, min_eq_right (EReal.coe_le_coe_iff.mpr (by norm_num))]⟩
  | top => exact ⟨127, by norm_num, by norm_num, by rw [Ideal.liftRound_top, max_eq_right le_top, min_eq_left le_top]⟩
  | coe r =>
    refine ⟨min 127 (max (-127) (Ideal.roundHalfEven r)), by omega, by omega, ?_⟩
    rw [Ideal.liftRound_coe, ← EReal.coe_strictMono.monotone.map_max, ← EReal.coe_strictMono.monotone.map_min]
    push_cast
    rfl

/-- Through 8 bits and back. -/
theorem clip_trip (t : EReal) : (((Ideal.fptosi 8 (clip t)).toInt : ℝ) : EReal) = clip t := by
  obtain ⟨n, h1, h2, h⟩ := clip_int t
  rw [h]
  have e : Ideal.toIntClamped (-(2 ^ (8 - 1) : Nat)) ((2 ^ (8 - 1) : Nat) - 1) ((n : ℝ) : EReal) = n := by
    show max _ (min _ (if (0 : ℝ) ≤ n then ⌊(n : ℝ)⌋ else ⌈(n : ℝ)⌉)) = n
    rw [Int.floor_intCast, Int.ceil_intCast, ite_self]
    norm_num
    omega
  unfold Ideal.fptosi
  rw [e, BitVec.toInt_ofInt]
  congr 2
  rw [Int.bmod_def]
  norm_num
  split <;> omega

/-! ## Maxima -/

/-- A kernel's total maximum is below what every element is below. -/
theorem redmax {s : Shape} {axes : List (Fin s.rank)} (v : FVec Ideal s .f32) (h : s.Reduces axes S1) (hφ : FKind.Formats .f32)
    (hacc : (0xFF800000#32 : BitVec 32) = FKind.maximumf.neutral .f32 hφ) (j : S1.Idx) (b : EReal) :
    (multiReduction .maximumf axes S1 v 0xFF800000#32 h hφ hacc j : EReal) ≤ b ↔ ∀ i, (v i : EReal) ≤ b := by
  rw [multiReduction_maximumf_eq_fold]
  have hj : ∀ i, h.drop i = j := fun i => funext fun a => Fin.ext (by
    have h1 := (h.drop i a).isLt
    have h2 := (j a).isLt
    have h3 : S1.size a = 1 := by match a with | ⟨0, _⟩ => rfl
    omega)
  refine (Finset.fold_max_le (β := EReal) b).trans ?_
  show Ideal.ofBits .f32 0xFF800000#32 ≤ b ∧ _ ↔ _
  rw [lit_bot]
  simp [hj]

theorem hostmax {s u : Shape} {axes : List (Fin s.rank)} (v : FVec Ideal s .f32) (init : u.Idx → Ideal .f32) (h : s.ReducesTo axes ⟨0, ![]⟩) (hu : 0 < u.numel)
    (hi : ∀ i, init i = (⊥ : EReal)) (j : (⟨0, ![]⟩ : Shape).Idx) (b : EReal) :
    @LE.le EReal _ (Host.reduce (α := Ideal .f32) FloatOps.maximumf v init h hu j) b ↔ ∀ i, (v i : EReal) ≤ b := by
  rw [Host.reduce_eq_fold]
  have hj : ∀ i, h.drop i = j := fun i => funext fun a => a.elim0
  refine (Finset.fold_max_le (β := EReal) b).trans ?_
  rw [hi]
  simp [hj]

/-- A bound of the values assembled is a bound of each part's. -/
theorem glue_le {s : Shape} {T : Type} [Fintype T] (r : T → Rect s)
    (hcov : (Finset.univ : Finset T).biUnion (fun t => (r t).set) = Finset.univ)
    (hd : ∀ t t', t ≠ t' → Disjoint (r t).set (r t').set) (Z : (t : T) → (r t).shape.Idx → EReal) (b : EReal) :
    (∀ i, Rect.glue r hcov Z i ≤ b) ↔ ∀ t y, Z t y ≤ b := by
  constructor
  · intro h t y
    rw [← Rect.glue_emb r hcov hd Z t y]
    exact h _
  · intro h i
    obtain ⟨t, -, ht⟩ := Finset.mem_biUnion.mp (hcov.symm ▸ Finset.mem_univ i)
    rw [← Rect.map_emb_univ, Finset.mem_map] at ht
    obtain ⟨y, -, rfl⟩ := ht
    rw [Rect.glue_emb r hcov hd Z t y]
    exact h t y

/-! ## The product -/

section

variable (X : (⟨2, ![4096, 4096]⟩ : Shape).Idx → EReal) (W : (⟨2, ![4096, 2048]⟩ : Shape).Idx → EReal)

/-- The product of the whole arrays, -/
def dY : (⟨2, ![4096, 2048]⟩ : Shape).Idx → EReal := fun i => ∑ k : Fin 4096, X (ix2 (i 0) k) * W (ix2 k (i 1))
/-- and device `c`'s share of it. -/
def part (c : Fin 4) : (⟨2, ![4096, 2048]⟩ : Shape).Idx → EReal := fun i =>
  ∑ k : Fin 1024, X (ix2 (i 0) (⟨1024 * c.val + k.val, by omega⟩ : Fin 4096)) * W (ix2 (⟨1024 * c.val + k.val, by omega⟩ : Fin 4096) (i 1))

theorem dY_parts (i) : dY X W i = ∑ c, part X W c i := by
  unfold dY part
  rw [← (finProdFinEquiv (m := 4) (n := 1024)).sum_comp (fun k : Fin 4096 => X (ix2 (i 0) k) * W (ix2 k (i 1))), Fintype.sum_prod_type]
  refine Finset.sum_congr rfl fun c _ => Finset.sum_congr rfl fun k _ => ?_
  have e : (finProdFinEquiv (m := 4) (n := 1024) (c, k) : Fin 4096) = ⟨1024 * c.val + k.val, by omega⟩ :=
    Fin.ext (by show k.val + 1024 * c.val = 1024 * c.val + k.val; omega)
  rw [e]

theorem ref_dot (h : FVec Ideal Cert.ReferenceIdeal.S4096x4096 .f32) (w : FVec Ideal Cert.ReferenceIdeal.S4096x2048 .f32) :
    Host.dotGeneral Cert.ReferenceIdeal.dot_S4096x4096_S4096x2048_S4096x2048_1_0_0_1_n_n none h w = dY h w := by
  funext i
  simp only [Host.dotGeneral]
  refine (Ideal.dotGeneral_apply _ _ _ _ _ _).trans ?_
  unfold dY
  rw [← Equiv.sum_comp (contrEquiv1 Cert.ReferenceIdeal.dot_S4096x4096_S4096x2048_S4096x2048_1_0_0_1_n_n 4096 rfl rfl)]
  refine Finset.sum_congr rfl fun k _ => ?_
  congr 1
  · congr 1; funext a; match a with | ⟨0, _⟩ => rfl | ⟨1, _⟩ => rfl
  · congr 1; funext a; match a with | ⟨0, _⟩ => rfl | ⟨1, _⟩ => rfl

end

theorem ring_sum (f : Fin 4 → EReal) (d : Bool) (c : Dev nD) :
    f (srcD d (srcD d (srcD d c))) + f (srcD d (srcD d c)) + f (srcD d c) + f c = ∑ k, f k := by
  rw [Fin.sum_univ_four]
  have h : ∀ c : Fin 4, c = 0 ∨ c = 1 ∨ c = 2 ∨ c = 3 := by decide
  cases d <;> obtain rfl | rfl | rfl | rfl := h c
  · show f 1 + f 2 + f 3 + f 0 = _; ac_rfl
  · show f 2 + f 3 + f 0 + f 1 = _; ac_rfl
  · show f 3 + f 0 + f 1 + f 2 = _; ac_rfl
  · show f 0 + f 1 + f 2 + f 3 = _; ac_rfl
  · show f 3 + f 2 + f 1 + f 0 = _; ac_rfl
  · show f 0 + f 3 + f 2 + f 1 = _; ac_rfl
  · show f 1 + f 0 + f 3 + f 2 = _; ac_rfl
  · show f 2 + f 1 + f 0 + f 3 = _; ac_rfl

theorem chunk_0 : ∀ (d : Bool) (c : Dev nD), chunkAt d 0 (srcD d (srcD d c)) = dstD d c := by decide
theorem chunk_1 : ∀ (d : Bool) (c : Dev nD), chunkAt d 1 (srcD d c) = dstD d c := by decide
theorem chunk_2 : ∀ (d : Bool) (c : Dev nD), chunkAt d 2 c = dstD d c := by decide
theorem chunk_own : ∀ (d : Bool) (c : Dev nD), srcD d (srcD d (srcD d c)) = dstD d c := by decide

/-! ## The accumulators -/

theorem shape_unsq {e : EltTy} (A : Vec Ideal S256x1024 e) (h : S1x256x1024.ShapeCasts S256x1024) : shapeCast S256x1024 (unsq A) h = A := by
  funext i
  unfold shapeCast unsq
  congr 1
  rw [Shape.reshapeEquiv_symm, Shape.reshapeEquiv_reshapeEquiv, Shape.reshapeEquiv_self]

theorem step_apply (s : Fin 4) (P : Vec Ideal S1024x1024 .f32) (A : Vec Ideal S256x1024 .bf16) (i : S256x1024.Idx) :
    (stepV s P (unsq A) i : EReal) = (A i : EReal) + (P ((rowR s).emb i) : EReal) := by
  have key : ∀ (o : Fin 2 → ℕ) (h : S1024x1024.Slices o S256x1024), o = ![256 * s.val, 0] →
      (extractStridedSlice S256x1024 o P h i : EReal) = P ((rowR s).emb i) := by
    rintro _ h rfl
    unfold extractStridedSlice
    congr 1; funext a; apply Fin.ext
    match a with
    | ⟨0, _⟩ => show 256 * s.val + (i 0).val = 256 * s.val + 1 * (i 0).val; omega
    | ⟨1, _⟩ => show 0 + (i 1).val = 0 + 1 * (i 1).val; omega
  match s with
  | 0 => unfold stepV k0_pay15; dsimp only; rw [shapeCast_self, shape_unsq]; exact congrArg (A i + ·) (key _ _ rfl)
  | 1 => unfold stepV k0_pay17; dsimp only; rw [shapeCast_self, shape_unsq]; exact congrArg (A i + ·) (key _ _ rfl)
  | 2 => unfold stepV k0_pay19; dsimp only; rw [shapeCast_self, shape_unsq]; exact congrArg (A i + ·) (key _ _ rfl)
  | 3 => unfold stepV k0_pay21; dsimp only; rw [shapeCast_self, shape_unsq]; exact congrArg (A i + ·) (key _ _ rfl)

/-- A last hop's maximum, as one of the rows it leaves in the accumulator. -/
theorem tmax (v : FVec Ideal S256x1024 .f32) (h1 : S256x1024.ShapeCasts S1x256x1024) (h2 : S1x256x1024.Reduces [1, 2] S1) (h3 : S1.ShapeCasts S1x1x1)
    (hp) (hφ : FKind.Formats .f32) (hacc : (0xFF800000#32 : BitVec 32) = FKind.maximumf.neutral .f32 hφ) (b : EReal) :
    (extractAt ![0, 0, 0] (shapeCast S1x1x1 (multiReduction .maximumf [1, 2] S1 (shapeCast S1x256x1024 v h1) 0xFF800000#32 h2 hφ hacc) h3) hp : EReal) ≤ b
      ↔ ∀ i, (v i : EReal) ≤ b := by
  have h := fun j => redmax (s := S1x256x1024) (axes := [1, 2]) (shapeCast S1x256x1024 v h1) h2 hφ hacc j b
  unfold extractAt
  rw [shapeCast]
  refine (h _).trans ?_
  exact ((Shape.reshapeEquiv h1).surjective.forall (p := fun i => (v i : EReal) ≤ b)).symm

theorem max_apply (s : Fin 4) (P : Vec Ideal S1024x1024 .f32) (V : Vec Ideal S1x256x1024 .bf16) (b : EReal) :
    (maxV s P V : EReal) ≤ b ↔ ∀ i, max (stepV s P V i : EReal) (-(stepV s P V i : EReal)) ≤ b := by
  match s with
  | 0 =>
    show (k0_pay46 (k0_pay45 P V) : EReal) ≤ b ↔ ∀ i, max (k0_pay15 P V i : EReal) (-(k0_pay15 P V i : EReal)) ≤ b
    unfold k0_pay46 k0_pay45 k0_pay43 k0_pay15; dsimp only; rw [shapeCast_self]
    exact tmax _ _ _ _ _ _ _ b
  | 1 =>
    show (k0_pay49 P V : EReal) ≤ b ↔ ∀ i, max (k0_pay17 P V i : EReal) (-(k0_pay17 P V i : EReal)) ≤ b
    unfold k0_pay49 k0_pay47 k0_pay17; dsimp only; rw [shapeCast_self]
    exact tmax _ _ _ _ _ _ _ b
  | 2 =>
    show (k0_pay55 P V : EReal) ≤ b ↔ ∀ i, max (k0_pay19 P V i : EReal) (-(k0_pay19 P V i : EReal)) ≤ b
    unfold k0_pay55 k0_pay53 k0_pay19; dsimp only; rw [shapeCast_self]
    exact tmax _ _ _ _ _ _ _ b
  | 3 =>
    show (k0_pay61 P V : EReal) ≤ b ↔ ∀ i, max (k0_pay21 P V i : EReal) (-(k0_pay21 P V i : EReal)) ≤ b
    unfold k0_pay61 k0_pay59 k0_pay21; dsimp only; rw [shapeCast_self]
    exact tmax _ _ _ _ _ _ _ b

/-! ## The accumulators' contents -/

section

variable (m : (ℓ : Loc nD τ sig) → Buf (Elt Ideal) ℓ)
  (X : (⟨2, ![4096, 4096]⟩ : Shape).Idx → EReal) (W : (⟨2, ![4096, 2048]⟩ : Shape).Idx → EReal)
  (tX : Layout.Tiles ⟨2, ![4096, 1024]⟩ ⟨2, ![4096, 4096]⟩ 1 4) (tW : Layout.Tiles ⟨2, ![1024, 2048]⟩ ⟨2, ![4096, 2048]⟩ 0 4)
  (hX : ∀ c, xA m c = Layout.block ⟨2, ![4096, 1024]⟩ ⟨2, ![4096, 4096]⟩ 1 4 c X tX)
  (hW : ∀ c, wA m c = Layout.block ⟨2, ![1024, 2048]⟩ ⟨2, ![4096, 2048]⟩ 0 4 c W tW)

include hX in
theorem xbv_apply (c j : Dev nD) (i : S1024x1024.Idx) (p : Fin 4096) (k : Fin 4096)
    (hp : p.val = 1024 * j.val + (i 0).val) (hk : k.val = 1024 * c.val + (i 1).val) :
    (xbv m c j i : EReal) = X (ix2 p k) := by
  unfold xbv k0_pay2
  rw [shapeCast_self]
  show (xA m c ((xR j).emb i) : EReal) = _
  rw [hX, Layout.block_apply]
  congr 1
  funext a
  apply Fin.ext
  rw [Layout.Tiles.idx_val]
  match a with
  | ⟨0, _⟩ => show 1024 * j.val + 1 * (i 0).val = p.val; omega
  | ⟨1, _⟩ => show c.val * 1024 + (0 + 1 * (i 1).val) = k.val; omega

include hW in
theorem wcol_apply (c : Dev nD) (d : Bool) (i : S1024x1024.Idx) (k : Fin 4096) (q : Fin 2048)
    (hk : k.val = 1024 * c.val + (i 0).val) (hq : q.val = (if d then 1024 else 0) + (i 1).val) :
    (wcol m c d i : EReal) = W (ix2 k q) := by
  unfold wcol wbv k0_pay1
  rw [shapeCast_self, shapeCast_self]
  show (wA m c ((wR d).emb i) : EReal) = _
  rw [hW, Layout.block_apply]
  congr 1
  funext a
  apply Fin.ext
  rw [Layout.Tiles.idx_val]
  match a with
  | ⟨0, _⟩ => show c.val * 1024 + (0 + 1 * (i 0).val) = k.val; omega
  | ⟨1, _⟩ => show (if d then 1024 else 0) + 1 * (i 1).val = q.val; omega

include hX hW in
theorem pv_apply (c : Dev nD) (d : Bool) (h : Fin 3) (i : S1024x1024.Idx) :
    (pv m c d h i : EReal) = part X W c ((outC d (chunkAt d h c)).emb i) := by
  unfold pv k0_pay12
  refine (Ideal.matmul_constant_zero_apply (φ₁ := .bf16) (φ₂ := .bf16) dot_S1024x1024_S1024x1024_S1024x1024_1_0_0_1_n_n none _ _ i).trans ?_
  unfold part
  rw [← Equiv.sum_comp (contrEquiv1 dot_S1024x1024_S1024x1024_S1024x1024_1_0_0_1_n_n 1024 rfl rfl)]
  refine Finset.sum_congr rfl fun k _ => ?_
  congr 1
  · refine xbv_apply m X tX hX _ _ _ _ _ ?_ ?_
    · show 1024 * (chunkAt d h c).val + 1 * (i 0).val = 1024 * (chunkAt d h c).val + (i 0).val; omega
    · rfl
  · refine wcol_apply m W tW hW _ _ _ _ _ ?_ ?_
    · rfl
    · show (if d then 1024 else 0) + 1 * (i 1).val = (if d then 1024 else 0) + (i 1).val; omega

include hX hW in
theorem acc_zero (c : Dev nD) (d : Bool) (s : Fin 4) (i : S256x1024.Idx) :
    (accv m d s 0 c i : EReal) = part X W c ((outC d c).emb ((rowR s).emb i)) := by
  unfold accv k0_pay3
  rw [shapeCast_self]
  refine (Ideal.matmul_constant_zero_apply (φ₁ := .bf16) (φ₂ := .bf16) dot_S256x1024_S1024x1024_S256x1024_1_0_0_1_n_n none _ _ i).trans ?_
  unfold part
  rw [← Equiv.sum_comp (contrEquiv1 dot_S256x1024_S1024x1024_S256x1024_1_0_0_1_n_n 1024 rfl rfl)]
  refine Finset.sum_congr rfl fun k _ => ?_
  congr 1
  · refine xbv_apply m X tX hX _ _ _ _ _ ?_ ?_
    · show 1024 * c.val + 1 * (256 * s.val + 1 * (i 0).val) = 1024 * c.val + (256 * s.val + 1 * (i 0).val); omega
    · show 1024 * c.val + (k ⟨0, by decide⟩).val = 1024 * c.val + (0 + 1 * (k ⟨0, by decide⟩).val); omega
  · refine wcol_apply m W tW hW _ _ _ _ _ ?_ ?_
    · rfl
    · show (if d then 1024 else 0) + 1 * (0 + 1 * (i 1).val) = (if d then 1024 else 0) + (i 1).val; omega

theorem acc_succ (c : Dev nD) (d : Bool) (s : Fin 4) (k : ℕ) (i : S256x1024.Idx) :
    (accv m d s (k + 1) c i : EReal) = (accv m d s k (srcD d c) i : EReal) + (pv m c d (Fin.ofNat 3 k) ((rowR s).emb i) : EReal) := by
  show (stepV s (pv m c d (Fin.ofNat 3 k)) (unsq (accv m d s k (srcD d c))) i : EReal) = _
  exact step_apply s _ _ i

include hX hW in
/-- After the last hop the accumulator holds rows of the whole product. -/
theorem acc_full (c : Dev nD) (d : Bool) (s : Fin 4) (i : S256x1024.Idx) :
    (accv m d s 3 c i : EReal) = dY X W ((outC d (dstD d c)).emb ((rowR s).emb i)) := by
  rw [acc_succ, acc_succ, acc_succ, acc_zero m X W tX tW hX hW, pv_apply m X W tX tW hX hW, pv_apply m X W tX tW hX hW, pv_apply m X W tX tW hX hW]
  show part X W _ _ + part X W _ ((outC d (chunkAt d 0 _)).emb _) + part X W _ ((outC d (chunkAt d 1 _)).emb _)
    + part X W _ ((outC d (chunkAt d 2 _)).emb _) = _
  rw [chunk_0, chunk_1, chunk_2, dY_parts]
  rw [← ring_sum (fun k => part X W k ((outC d (dstD d c)).emb ((rowR s).emb i))) d c]
  rw [chunk_own]

/-! ## The scale -/

include hX hW in
theorem mxv_le (c : Dev nD) (d : Bool) (s : Fin 4) (b : EReal) :
    (mxv m c d s : EReal) ≤ b ↔ ∀ i : S256x1024.Idx, max (dY X W ((outC d (dstD d c)).emb ((rowR s).emb i)))
      (-dY X W ((outC d (dstD d c)).emb ((rowR s).emb i))) ≤ b := by
  unfold mxv
  rw [max_apply]
  refine forall_congr' fun i => ?_
  rw [← acc_full m X W tX tW hX hW c d s i]
  exact Iff.rfl

include hX hW in
theorem all_le (b : EReal) :
    (∀ c d s, (mxv m c d s : EReal) ≤ b) ↔ ∀ i, max (dY X W i) (-dY X W i) ≤ b := by
  constructor
  · intro h i
    have h0 : (i 0).val < 4096 := (i 0).isLt
    have h1 : (i 1).val < 2048 := (i 1).isLt
    obtain ⟨⟨d, j⟩, -, ht⟩ := Finset.mem_biUnion.mp (outC_cov.symm ▸ Finset.mem_univ i)
    rw [← Rect.map_emb_univ, Finset.mem_map] at ht
    obtain ⟨y, -, rfl⟩ := ht
    obtain ⟨s, -, hs⟩ := Finset.mem_biUnion.mp (rowR_cov.symm ▸ Finset.mem_univ y)
    rw [← Rect.map_emb_univ, Finset.mem_map] at hs
    obtain ⟨z, -, rfl⟩ := hs
    have h2 := (mxv_le m X W tX tW hX hW (srcD d j) d s b).mp (h _ _ _) z
    rw [dst_src] at h2
    exact h2
  · exact fun h c d s => (mxv_le m X W tX tW hX hW c d s b).mpr fun i => h _

omit m X W in
theorem max8 (f : Bool → Fin 4 → EReal) (b : EReal) :
    max (max (max (max (max (max (max (f false 0) (f true 0)) (f false 1)) (f true 1)) (f false 2)) (f true 2)) (f false 3)) (f true 3) ≤ b
      ↔ ∀ d s, f d s ≤ b := by
  simp only [max_le_iff]
  constructor
  · rintro ⟨⟨⟨⟨⟨⟨⟨h1, h2⟩, h3⟩, h4⟩, h5⟩, h6⟩, h7⟩, h8⟩ d s
    match d, s with
    | false, 0 => exact h1
    | true, 0 => exact h2
    | false, 1 => exact h3
    | true, 1 => exact h4
    | false, 2 => exact h5
    | true, 2 => exact h6
    | false, 3 => exact h7
    | true, 3 => exact h8
  · exact fun h => ⟨⟨⟨⟨⟨⟨⟨h _ _, h _ _⟩, h _ _⟩, h _ _⟩, h _ _⟩, h _ _⟩, h _ _⟩, h _ _⟩

theorem amv_le (c : Dev nD) (y : S1x8x128.Idx) (b : EReal) : (amv m c y : EReal) ≤ b ↔ ∀ d s, (mxv m c d s : EReal) ≤ b := by
  have h : ∀ f : Bool → Fin 4 → EReal, @LE.le EReal _
      (k0_pay65 (F := Ideal) (f false 0) (f true 0) (f false 1) (f true 1) (f false 2) (f true 2) (f false 3) (f true 3) y) b ↔ ∀ d s, f d s ≤ b := by
    intro f
    unfold k0_pay65
    rw [shapeCast_self]
    exact max8 f b
  exact h fun d s => mxv m c d s

include hX hW in
/-- The scale is the one of any total maximum `M` of the product. -/
theorem scl_eq (M : EReal) (hM : ∀ b, M ≤ b ↔ ∀ i, max (dY X W i) (-dY X W i) ≤ b) :
    (scl m : EReal) = Ideal.div M (Ideal.ofBits .f32 0x42FE0000#32) := by
  unfold scl k0_pay66
  dsimp only
  unfold extractAt
  rw [shapeCast]
  refine congrArg (fun t : EReal => Ideal.div t (Ideal.ofBits .f32 0x42FE0000#32)) (eq_of_forall_ge_iff fun b => ?_)
  refine (redmax (s := S1x4x8x128) (axes := [1, 2, 3]) (shapeCast S1x4x8x128 (amT m) shapeCasts_S4x8x128_S1x4x8x128) reduces_S1x4x8x128_S1 (.inl rfl) rfl _ b).trans ?_
  rw [hM, ← all_le m X W tX tW hX hW b]
  have h1 : (∀ i, (shapeCast S1x4x8x128 (amT m) shapeCasts_S4x8x128_S1x4x8x128 i : EReal) ≤ b) ↔ ∀ i, (amT m i : EReal) ≤ b :=
    ((Shape.reshapeEquiv shapeCasts_S4x8x128_S1x4x8x128).surjective.forall (p := fun i => (amT m i : EReal) ≤ b)).symm
  rw [h1]
  refine (glue_le amR amR_cov amR_dis (fun j => amv m j) b).trans ?_
  refine forall_congr' fun c => ?_
  constructor
  · intro h
    exact (amv_le m c (ix3 (0 : Fin 1) (0 : Fin 8) (0 : Fin 128)) b).mp (h _)
  · exact fun h y => (amv_le m c y b).mpr h

/-! ## The result -/

theorem q_apply (d : Bool) (j : Dev nD) (s : Fin 4) (z : S256x1024.Idx) :
    qv m d j s (ix3 (0 : Fin 1) (z 0) (z 1)) = Ideal.fptosi 8 (clip (Ideal.div (accv m d s 3 (srcD d j) z) (scl m))) := by
  unfold qv k0_pay77
  rw [shapeCast_self]
  refine (shapeCast_addUnit_apply _ _ _ _).trans ?_
  have e : (fun a => ix3 (0 : Fin 1) (z 0) (z 1) a.succ : S256x1024.Idx) = z := by
    funext a
    match a with
    | ⟨0, _⟩ => rfl
    | ⟨1, _⟩ => rfl
  exact congrArg (fun z : S256x1024.Idx => Ideal.fptosi 8 (clip (Ideal.div (accv m d s 3 (srcD d j) z) (scl m)))) e

theorem qc_apply (d : Bool) (j : Dev nD) (s : Fin 4) (z : S256x1024.Idx) :
    qcv m d j (Fin.cons ⟨0, Nat.one_pos⟩ ((rowR s).emb z)) = Ideal.fptosi 8 (clip (Ideal.div (accv m d s 3 (srcD d j) z) (scl m))) := by
  have e : (Fin.cons ⟨0, Nat.one_pos⟩ ((rowR s).emb z) : S1x1024x1024.Idx) = (chR s).emb (ix3 (0 : Fin 1) (z 0) (z 1)) := by
    funext a
    match a with
    | ⟨0, _⟩ => rfl
    | ⟨1, _⟩ => rfl
    | ⟨2, _⟩ => rfl
  rw [e]
  exact (Rect.glue_emb _ chR_cov chR_dis (fun s => qv m d j s) s (ix3 (0 : Fin 1) (z 0) (z 1))).trans (q_apply m d j s z)

include hX hW in
theorem out_apply (i : S4096x2048.Idx) : (OUT m i : EReal) = clip (Ideal.div (dY X W i) (scl m)) * (scl m : EReal) := by
  obtain ⟨⟨d, j⟩, -, ht⟩ := Finset.mem_biUnion.mp (outC_cov.symm ▸ Finset.mem_univ i)
  rw [← Rect.map_emb_univ, Finset.mem_map] at ht
  obtain ⟨y, -, rfl⟩ := ht
  unfold OUT
  rw [Rect.glue_emb _ outC_cov outC_dis (fun s : Bool × Dev nD => outv m s.1 s.2) (d, j) y]
  show (outv m d j y : EReal) = _
  obtain ⟨s, -, hs⟩ := Finset.mem_biUnion.mp (rowR_cov.symm ▸ Finset.mem_univ y)
  rw [← Rect.map_emb_univ, Finset.mem_map] at hs
  obtain ⟨z, -, rfl⟩ := hs
  unfold outv k0_pay85
  rw [shapeCast_self]
  show (((shapeCast S1024x1024 (qcv m d j) shapeCasts_S1x1024x1024_S1024x1024 ((rowR s).emb z)).toInt : ℝ) : EReal) * (scl m : EReal) = _
  rw [shapeCast_dropUnit_apply, qc_apply, clip_trip, acc_full m X W tX tW hX hW, dst_src]

end

/-- The reference's term at an element, where every element of its scale is `t`. -/
theorem ref_apply (D : Cert.ReferenceIdeal.S4096x2048.Idx → EReal) (T : FVec Ideal Cert.ReferenceIdeal.S_ .f32) (t : EReal) (hT : ∀ j, (T j : EReal) = t)
    (hb : Cert.ReferenceIdeal.S_.BroadcastsInDim Cert.ReferenceIdeal.S4096x2048 ![]) (i : Cert.ReferenceIdeal.S4096x2048.Idx) :
    (mulf (F := Ideal) (φ := .f32) (minimumf (broadcastInDim Cert.ReferenceIdeal.S4096x2048 ![] hb (id (constant Cert.ReferenceIdeal.S_ .f32 0x42FE0000#32)))
      (maximumf (broadcastInDim Cert.ReferenceIdeal.S4096x2048 ![] hb (id (constant Cert.ReferenceIdeal.S_ .f32 0xC2FE0000#32)))
        (Host.roundeven (Host.divf D (broadcastInDim Cert.ReferenceIdeal.S4096x2048 ![] hb T)))))
      (broadcastInDim Cert.ReferenceIdeal.S4096x2048 ![] hb T) i : EReal) = clip (Ideal.div (D i) t) * t := by
  have h : ∀ j, clip (Ideal.div (D i) (T j)) * (T j : EReal) = clip (Ideal.div (D i) t) * t := fun j => by rw [hT]
  exact h _

end Cert.Proof

end
-- ==== Proof.lean ====
module

public import proofs.«01_k».proof.Defs
public import proofs.«01_k».proof.Proof.Gen.Kernel
public import proofs.«01_k».proof.Proof.Launch
public import proofs.«01_k».proof.Proof.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The two printed programs have one body, -/
theorem defs₀_same : Cert.Kernel.defs₀ (F := Bits) = Cert.KernelIdeal.defs₀ (F := Bits) := by
  unfold Cert.Kernel.defs₀ Cert.KernelIdeal.defs₀
  refine congrArg (Defs.onTc (nD := 4) (τ := Cert.KernelIdeal.τ) (sig := Cert.KernelIdeal.sig) (Val := Elt Bits) (Λ := Cert.KernelIdeal.Λ₀)) ?_
  funext l a
  match l, a with
  | 0, (t, s) => rfl
  | ⟨_ + 1, h⟩, _ => exact absurd h (Nat.not_lt.2 (Nat.le_add_left _ _))

/-- and are one program. -/
theorem defs_same : Cert.Kernel.defs (F := Bits) = Cert.KernelIdeal.defs (F := Bits) :=
  congrArg (Pipeline.defs (Cert.KernelIdeal.pcfgs (F := Bits))) defs₀_same

/-- The kernel's frame, on bits. -/
theorem frame_kernel : Cert.quiescent_Kernel := by
  intro m ρ _
  rw [defs_same]
  have h := run_main (F := Bits) m ρ
  exact (θ_run Cert.KernelIdeal.defs _ _).mono (fun _ h => ⟨fun c => ⟨(h.1 c).1, (h.1 c).2.1⟩, h.2⟩) h

/-- The kernel's frame, on extended reals. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, over the extended reals. -/
theorem value : Cert.algebraic_KernelIdeal_ReferenceIdeal := by
  intro m ρ m' ρ' _ hb
  have hX : ∀ c, xA m c = _ := fun c => (hb c).1
  have hW : ∀ c, wA m c = _ := fun c => (hb c).2
  refine ⟨OUT m, (θ_run Cert.KernelIdeal.defs _ _).mono (fun _ h c => ⟨(h.1 c).2.2, (h.1 c).1, (h.1 c).2.1⟩) (run_main (F := Ideal) m ρ),
    (θ_run Cert.ReferenceIdeal.defs _ _).mono (fun _ h => ⟨(h 0).1.trans ?_, (h 0).2⟩) (Cert.ReferenceIdeal.Value.run (F := Ideal) m' ρ')⟩
  rw [ref_dot]
  funext i
  refine Eq.trans ?_ (out_apply m _ _ _ _ hX hW i).symm
  refine ref_apply _ _ _ (fun j => ?_) _ i
  exact (scl_eq m _ _ _ _ hX hW _ (hostmax _ _ Cert.ReferenceIdeal.Gen.reducesTo_S4096x2048_S_d0_1 Cert.ReferenceIdeal.Gen.h_S_ (fun _ => lit_bot) j)).symm

theorem claim : Cert.Claim := ⟨Cert.Kernel.Gen.facts, Cert.KernelIdeal.Gen.facts, Cert.ReferenceIdeal.Gen.facts,
  frame_kernel, frame_ideal, frame_reference, trivial, value⟩

end Cert.Proof

end
